-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  True

def algebraic_KernelIdeal_ReferenceIdeal_on_prompt_rows_pre_finite [hKernelIdeal : Cert.KernelIdeal.Facts] [hReferenceIdeal : Cert.ReferenceIdeal.Facts] [hPre_finite : Cert.Pre_finite.Facts] [hOn_prompt_rows : Cert.On_prompt_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![16896, 512]⟩ : Shape).Idx, (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.KernelIdeal.nD Cert.KernelIdeal.τ).loc Cert.KernelIdeal.main_v2) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![16896, 512]⟩ : Shape).Idx, (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.ReferenceIdeal.nD Cert.ReferenceIdeal.τ).loc Cert.ReferenceIdeal.main_v44) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_on_written2 [hKernel2Ideal : Cert.Kernel2Ideal.Facts] [hReference2Ideal : Cert.Reference2Ideal.Facts] [hOn_written2 : Cert.On_written2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)) (v5 : (c : Dev Cert.Kernel2Ideal.nD) → Buf (Elt Ideal) ((c.tc : Thread Cert.Kernel2Ideal.nD Cert.Kernel2Ideal.τ).loc Cert.Kernel2Ideal.main_v0_5)) (v6 : (c : Dev Cert.Kernel2Ideal.nD) → Buf (Elt Ideal) ((c.tc : Thread Cert.Kernel2Ideal.nD Cert.Kernel2Ideal.τ).loc Cert.Kernel2Ideal.main_v0_6)) (v7 : (c : Dev Cert.Kernel2Ideal.nD) → Buf (Elt Ideal) ((c.tc : Thread Cert.Kernel2Ideal.nD Cert.Kernel2Ideal.τ).loc Cert.Kernel2Ideal.main_v0_7)) (v8 : (c : Dev Cert.Kernel2Ideal.nD) → Buf (Elt Ideal) ((c.tc : Thread Cert.Kernel2Ideal.nD Cert.Kernel2Ideal.τ).loc Cert.Kernel2Ideal.main_v0_8)) (v9 : (c : Dev Cert.Kernel2Ideal.nD) → Buf (Elt Ideal) ((c.tc : Thread Cert.Kernel2Ideal.nD Cert.Kernel2Ideal.τ).loc Cert.Kernel2Ideal.main_v0_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![16896, 512]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 i = 1#1 → r.2.mem ((c.tc : Thread Cert.Kernel2Ideal.nD Cert.Kernel2Ideal.τ).loc Cert.Kernel2Ideal.main_v0_0) i = v0 c i)
          ∧ (∀ i : (⟨2, ![16896, 512]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 i = 1#1 → r.2.mem ((c.tc : Thread Cert.Kernel2Ideal.nD Cert.Kernel2Ideal.τ).loc Cert.Kernel2Ideal.main_v0_1) i = v1 c i)
          ∧ (∀ i : (⟨2, ![16896, 512]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 i = 1#1 → r.2.mem ((c.tc : Thread Cert.Kernel2Ideal.nD Cert.Kernel2Ideal.τ).loc Cert.Kernel2Ideal.main_v0_2) i = v2 c i)
          ∧ (∀ i : (⟨2, ![2560, 4096]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.1 i = 1#1 → r.2.mem ((c.tc : Thread Cert.Kernel2Ideal.nD Cert.Kernel2Ideal.τ).loc Cert.Kernel2Ideal.main_v0_3) i = v3 c i)
          ∧ (∀ i : (⟨2, ![16384, 512]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.1 i = 1#1 → r.2.mem ((c.tc : Thread Cert.Kernel2Ideal.nD Cert.Kernel2Ideal.τ).loc Cert.Kernel2Ideal.main_v0_4) i = v4 c i)
          ∧ (∀ i : (⟨2, ![16384, 512]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.1 i = 1#1 → r.2.mem ((c.tc : Thread Cert.Kernel2Ideal.nD Cert.Kernel2Ideal.τ).loc Cert.Kernel2Ideal.main_v0_5) i = v5 c i)
          ∧ (∀ i : (⟨2, ![16384, 8]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.2.1 i = 1#1 → r.2.mem ((c.tc : Thread Cert.Kernel2Ideal.nD Cert.Kernel2Ideal.τ).loc Cert.Kernel2Ideal.main_v0_6) i = v6 c i)
          ∧ (∀ i : (⟨2, ![512, 512]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.2.2.1 i = 1#1 → r.2.mem ((c.tc : Thread Cert.Kernel2Ideal.nD Cert.Kernel2Ideal.τ).loc Cert.Kernel2Ideal.main_v0_7) i = v7 c i)
          ∧ (∀ i : (⟨2, ![512, 512]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.2.2.2.1 i = 1#1 → r.2.mem ((c.tc : Thread Cert.Kernel2Ideal.nD Cert.Kernel2Ideal.τ).loc Cert.Kernel2Ideal.main_v0_8) i = v8 c i)
          ∧ (∀ i : (⟨2, ![512, 8]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.2.2.2.2 i = 1#1 → r.2.mem ((c.tc : Thread Cert.Kernel2Ideal.nD Cert.Kernel2Ideal.τ).loc Cert.Kernel2Ideal.main_v0_9) i = v9 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![16896, 512]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 i = 1#1 → r.2.mem ((c.tc : Thread Cert.Reference2Ideal.nD Cert.Reference2Ideal.τ).loc Cert.Reference2Ideal.main_v35) i = v0 c i)
          ∧ (∀ i : (⟨2, ![16896, 512]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 i = 1#1 → r.2.mem ((c.tc : Thread Cert.Reference2Ideal.nD Cert.Reference2Ideal.τ).loc Cert.Reference2Ideal.main_v36) i = v1 c i)
          ∧ (∀ i : (⟨2, ![16896, 512]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 i = 1#1 → r.2.mem ((c.tc : Thread Cert.Reference2Ideal.nD Cert.Reference2Ideal.τ).loc Cert.Reference2Ideal.main_v37) i = v2 c i)
          ∧ (∀ i : (⟨2, ![2560, 4096]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.1 i = 1#1 → r.2.mem ((c.tc : Thread Cert.Reference2Ideal.nD Cert.Reference2Ideal.τ).loc Cert.Reference2Ideal.main_v32) i = v3 c i)
          ∧ (∀ i : (⟨2, ![16384, 512]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.1 i = 1#1 → r.2.mem ((c.tc : Thread Cert.Reference2Ideal.nD Cert.Reference2Ideal.τ).loc Cert.Reference2Ideal.main_v38) i = v4 c i)
          ∧ (∀ i : (⟨2, ![16384, 512]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.1 i = 1#1 → r.2.mem ((c.tc : Thread Cert.Reference2Ideal.nD Cert.Reference2Ideal.τ).loc Cert.Reference2Ideal.main_v39) i = v5 c i)
          ∧ (∀ i : (⟨2, ![16384, 8]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.2.1 i = 1#1 → r.2.mem ((c.tc : Thread Cert.Reference2Ideal.nD Cert.Reference2Ideal.τ).loc Cert.Reference2Ideal.main_v40) i = v6 c i)
          ∧ (∀ i : (⟨2, ![512, 512]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.2.2.1 i = 1#1 → r.2.mem ((c.tc : Thread Cert.Reference2Ideal.nD Cert.Reference2Ideal.τ).loc Cert.Reference2Ideal.main_v41) i = v7 c i)
          ∧ (∀ i : (⟨2, ![512, 512]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.2.2.2.1 i = 1#1 → r.2.mem ((c.tc : Thread Cert.Reference2Ideal.nD Cert.Reference2Ideal.τ).loc Cert.Reference2Ideal.main_v42) i = v8 c i)
          ∧ (∀ i : (⟨2, ![512, 8]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.2.2.2.2 i = 1#1 → r.2.mem ((c.tc : Thread Cert.Reference2Ideal.nD Cert.Reference2Ideal.τ).loc Cert.Reference2Ideal.main_v43) i = v9 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v76) = v0 c
          ∧ r.2.mem ((c.tc : Thread Cert.Reference3Ideal.nD Cert.Reference3Ideal.τ).loc Cert.Reference3Ideal.main_v89) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v48_0)) (v1 : (c : Dev Cert.Kernel5Ideal.nD) → Buf (Elt Ideal) ((c.tc : Thread Cert.Kernel5Ideal.nD Cert.Kernel5Ideal.τ).loc Cert.Kernel5Ideal.main_v48_1)) (v2 : (c : Dev Cert.Kernel5Ideal.nD) → Buf (Elt Ideal) ((c.tc : Thread Cert.Kernel5Ideal.nD Cert.Kernel5Ideal.τ).loc Cert.Kernel5Ideal.main_v48_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v48_0) = v0 c
          ∧ r.2.mem ((c.tc : Thread Cert.Kernel5Ideal.nD Cert.Kernel5Ideal.τ).loc Cert.Kernel5Ideal.main_v48_1) = v1 c
          ∧ r.2.mem ((c.tc : Thread Cert.Kernel5Ideal.nD Cert.Kernel5Ideal.τ).loc Cert.Kernel5Ideal.main_v48_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_v29) = v1 c
          ∧ r.2.mem ((c.tc : Thread Cert.Reference5Ideal.nD Cert.Reference5Ideal.τ).loc Cert.Reference5Ideal.main_v30) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hOn_prompt_rows : Cert.On_prompt_rows.Facts) (hOn_written2 : Cert.On_written2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_on_prompt_rows_pre_finite (hKernelIdeal := hKernelIdeal) (hReferenceIdeal := hReferenceIdeal) (hPre_finite := hPre_finite) (hOn_prompt_rows := hOn_prompt_rows)
    ∧ preserves_Kernel2_Kernel2Ideal
    ∧ algebraic_Kernel2Ideal_Reference2Ideal_on_written2 (hKernel2Ideal := hKernel2Ideal) (hReference2Ideal := hReference2Ideal) (hOn_written2 := hOn_written2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== On_prompt_rows.lean ====
abbrev S16896x512 : Shape := ⟨2, ![16896, 512]⟩
abbrev S16384x8 : Shape := ⟨2, ![16384, 8]⟩
abbrev S_ : Shape := ⟨0, ![]⟩

class Facts : Prop where
  bcast_S_S16896x512 : S_.BroadcastsInDim S16896x512 (![] : Fin 0 → Fin S16896x512.rank)

variable [Facts]

def fn {F : FTy → Type} [FloatOps F] (main_arg0 : FVec F S16896x512 .bf16) (main_arg1 : FVec F S16896x512 .bf16) (main_arg2 : FVec F S16896x512 .bf16) (main_arg3 : FVec F S16384x8 .f32) : IVec S16896x512 1 :=
  let main_v0 : IVec S16896x512 32 := iotaInDim S16896x512 32 0
  let main_c : IVec S_ 32 := constantI S_ 32 16384#32
  let main_v1 : IVec S16896x512 32 := broadcastInDim S16896x512 ![] bcast_S_S16896x512 main_c
  let main_v2 : IVec S16896x512 1 := cmpi .slt main_v0 main_v1
  main_v2
-- ==== On_written2.lean ====
abbrev S16384x1024 : Shape := ⟨2, ![16384, 1024]⟩
abbrev S512x1024 : Shape := ⟨2, ![512, 1024]⟩
abbrev S1x1024 : Shape := ⟨2, ![1, 1024]⟩
abbrev S1024x1536 : Shape := ⟨2, ![1024, 1536]⟩
abbrev S1024x512 : Shape := ⟨2, ![1024, 512]⟩
abbrev S1024x128 : Shape := ⟨2, ![1024, 128]⟩
abbrev S1x8 : Shape := ⟨2, ![1, 8]⟩
abbrev S_ : Shape := ⟨0, ![]⟩
abbrev S16896x512 : Shape := ⟨2, ![16896, 512]⟩
abbrev S2560x4096 : Shape := ⟨2, ![2560, 4096]⟩
abbrev S16384x512 : Shape := ⟨2, ![16384, 512]⟩
abbrev S16384x8 : Shape := ⟨2, ![16384, 8]⟩
abbrev S512x512 : Shape := ⟨2, ![512, 512]⟩
abbrev S512x8 : Shape := ⟨2, ![512, 8]⟩

class Facts : Prop where
  bcast_S_S16896x512 : S_.BroadcastsInDim S16896x512 (![] : Fin 0 → Fin S16896x512.rank)
  bcast_S_S16384x512 : S_.BroadcastsInDim S16384x512 (![] : Fin 0 → Fin S16384x512.rank)
  bcast_S_S16384x8 : S_.BroadcastsInDim S16384x8 (![] : Fin 0 → Fin S16384x8.rank)
  bcast_S_S512x512 : S_.BroadcastsInDim S512x512 (![] : Fin 0 → Fin S512x512.rank)
  bcast_S_S512x8 : S_.BroadcastsInDim S512x8 (![] : Fin 0 → Fin S512x8.rank)
  bcast_S_S2560x4096 : S_.BroadcastsInDim S2560x4096 (![] : Fin 0 → Fin S2560x4096.rank)

variable [Facts]

def fn_part1 {F : FTy → Type} [FloatOps F] (main_v0 : IVec S16896x512 1) (main_v1 : IVec S16896x512 1) (main_v2 : IVec S16896x512 1) (main_v4 : IVec S2560x4096 32) (main_v5 : IVec S16384x512 1) (main_v6 : IVec S16384x512 1) (main_v7 : IVec S16384x8 1) (main_v8 : IVec S512x512 1) (main_v9 : IVec S512x512 1) (main_v10 : IVec S512x8 1) (main_v12 : IVec S2560x4096 1) (main_c_9 : IVec S_ 32) : IVec S16896x512 1 × IVec S16896x512 1 × IVec S16896x512 1 × IVec S2560x4096 1 × IVec S16384x512 1 × IVec S16384x512 1 × IVec S16384x8 1 × IVec S512x512 1 × IVec S512x512 1 × IVec S512x8 1 :=
  let main_v13 : IVec S2560x4096 32 := broadcastInDim S2560x4096 ![] bcast_S_S2560x4096 main_c_9
  let main_v14 : IVec S2560x4096 1 := cmpi .slt main_v4 main_v13
  let main_v15 : IVec S2560x4096 1 := ori main_v12 main_v14
  (main_v0, main_v1, main_v2, main_v15, main_v5, main_v6, main_v7, main_v8, main_v9, main_v10)

def fn {F : FTy → Type} [FloatOps F] (main_arg0 : FVec F S16384x1024 .f32) (main_arg1 : FVec F S512x1024 .f32) (main_arg2 : FVec F S1x1024 .f32) (main_arg3 : FVec F S1024x1536 .bf16) (main_arg4 : FVec F S1024x512 .bf16) (main_arg5 : FVec F S1024x128 .bf16) (main_arg6 : FVec F S1x8 .f32) : IVec S16896x512 1 × IVec S16896x512 1 × IVec S16896x512 1 × IVec S2560x4096 1 × IVec S16384x512 1 × IVec S16384x512 1 × IVec S16384x8 1 × IVec S512x512 1 × IVec S512x512 1 × IVec S512x8 1 :=
  let main_c : IVec S_ 1 := constantI S_ 1 1#1
  let main_v0 : IVec S16896x512 1 := broadcastInDim S16896x512 ![] bcast_S_S16896x512 main_c
  let main_c_0 : IVec S_ 1 := constantI S_ 1 1#1
  let main_v1 : IVec S16896x512 1 := broadcastInDim S16896x512 ![] bcast_S_S16896x512 main_c_0
  let main_c_1 : IVec S_ 1 := constantI S_ 1 1#1
  let main_v2 : IVec S16896x512 1 := broadcastInDim S16896x512 ![] bcast_S_S16896x512 main_c_1
  let main_v3 : IVec S2560x4096 32 := iotaInDim S2560x4096 32 0
  let main_v4 : IVec S2560x4096 32 := iotaInDim S2560x4096 32 1
  let main_c_2 : IVec S_ 1 := constantI S_ 1 1#1
  let main_v5 : IVec S16384x512 1 := broadcastInDim S16384x512 ![] bcast_S_S16384x512 main_c_2
  let main_c_3 : IVec S_ 1 := constantI S_ 1 1#1
  let main_v6 : IVec S16384x512 1 := broadcastInDim S16384x512 ![] bcast_S_S16384x512 main_c_3
  let main_c_4 : IVec S_ 1 := constantI S_ 1 1#1
  let main_v7 : IVec S16384x8 1 := broadcastInDim S16384x8 ![] bcast_S_S16384x8 main_c_4
  let main_c_5 : IVec S_ 1 := constantI S_ 1 1#1
  let main_v8 : IVec S512x512 1 := broadcastInDim S512x512 ![] bcast_S_S512x512 main_c_5
  let main_c_6 : IVec S_ 1 := constantI S_ 1 1#1
  let main_v9 : IVec S512x512 1 := broadcastInDim S512x512 ![] bcast_S_S512x512 main_c_6
  let main_c_7 : IVec S_ 1 := constantI S_ 1 1#1
  let main_v10 : IVec S512x8 1 := broadcastInDim S512x8 ![] bcast_S_S512x8 main_c_7
  let main_c_8 : IVec S_ 32 := constantI S_ 32 2048#32
  let main_v11 : IVec S2560x4096 32 := broadcastInDim S2560x4096 ![] bcast_S_S2560x4096 main_c_8
  let main_v12 : IVec S2560x4096 1 := cmpi .slt main_v3 main_v11
  let main_c_9 : IVec S_ 32 := constantI S_ 32 512#32
  fn_part1 (F := F) main_v0 main_v1 main_v2 main_v4 main_v5 main_v6 main_v7 main_v8 main_v9 main_v10 main_v12 main_c_9
-- ==== Pre_finite.lean ====
abbrev S16896x512 : Shape := ⟨2, ![16896, 512]⟩
abbrev S16384x8 : Shape := ⟨2, ![16384, 8]⟩
abbrev S_ : Shape := ⟨0, ![]⟩

class Facts : Prop where
  bitsLt_bf16_f32 : FTy.bits .bf16 < FTy.bits .f32
  bcast_S_S16896x512 : S_.BroadcastsInDim S16896x512 (![] : Fin 0 → Fin S16896x512.rank)
  reducesTo_S16896x512_S_d0_1 : S16896x512.ReducesTo [0, 1] S_
  h_S_ : 0 < S_.numel
  bcast_S_S16384x8 : S_.BroadcastsInDim S16384x8 (![] : Fin 0 → Fin S16384x8.rank)
  reducesTo_S16384x8_S_d0_1 : S16384x8.ReducesTo [0, 1] S_

variable [Facts]

def fn {F : FTy → Type} [FloatOps F] (main_arg0 : FVec F S16896x512 .bf16) (main_arg1 : FVec F S16896x512 .bf16) (main_arg2 : FVec F S16896x512 .bf16) (main_arg3 : FVec F S16384x8 .f32) : IVec S_ 1 :=
  let main_v0 : FVec F S16896x512 .f32 := (extf .f32 · bitsLt_bf16_f32) main_arg0
  let main_v1 : FVec F S16896x512 .f32 := (extf .f32 · bitsLt_bf16_f32) main_arg1
  let main_v2 : FVec F S16896x512 .f32 := Host.absf main_v0
  let main_cst : FVec F S_ .f32 := constant S_ .f32 0x7F800000#32
  let main_v3 : FVec F S16896x512 .f32 := broadcastInDim S16896x512 ![] bcast_S_S16896x512 main_cst
  let main_v4 : IVec S16896x512 1 := cmpf .olt main_v2 main_v3
  let main_c : IVec S_ 1 := constantI S_ 1 1#1
  let main_v5 : IVec S_ 1 := (fun x v => Host.reduce IntOp.andi x v reducesTo_S16896x512_S_d0_1 h_S_) main_v4 main_c
  let main_v6 : FVec F S16896x512 .f32 := Host.absf main_v1
  let main_cst_0 : FVec F S_ .f32 := constant S_ .f32 0x7F800000#32
  let main_v7 : FVec F S16896x512 .f32 := broadcastInDim S16896x512 ![] bcast_S_S16896x512 main_cst_0
  let main_v8 : IVec S16896x512 1 := cmpf .olt main_v6 main_v7
  let main_c_1 : IVec S_ 1 := constantI S_ 1 1#1
  let main_v9 : IVec S_ 1 := (fun x v => Host.reduce IntOp.andi x v reducesTo_S16896x512_S_d0_1 h_S_) main_v8 main_c_1
  let main_v10 : IVec S_ 1 := andi main_v5 main_v9
  let main_v11 : FVec F S16384x8 .f32 := Host.absf main_arg3
  let main_cst_2 : FVec F S_ .f32 := constant S_ .f32 0x7F800000#32
  let main_v12 : FVec F S16384x8 .f32 := broadcastInDim S16384x8 ![] bcast_S_S16384x8 main_cst_2
  let main_v13 : IVec S16384x8 1 := cmpf .olt main_v11 main_v12
  let main_c_3 : IVec S_ 1 := constantI S_ 1 1#1
  let main_v14 : IVec S_ 1 := (fun x v => Host.reduce IntOp.andi x v reducesTo_S16384x8_S_d0_1 h_S_) main_v13 main_c_3
  let main_v15 : IVec S_ 1 := andi main_v10 main_v14
  main_v15
-- ==== Kernel.lean ====
abbrev S16896x512 : Shape := ⟨2, ![16896, 512]⟩
abbrev S16384x8 : Shape := ⟨2, ![16384, 8]⟩
abbrev S8x2048x8 : Shape := ⟨3, ![8, 2048, 8]⟩
abbrev S8x8x2048 : Shape := ⟨3, ![8, 8, 2048]⟩
abbrev S256x128 : Shape := ⟨2, ![256, 128]⟩
abbrev S2048x128 : Shape := ⟨2, ![2048, 128]⟩
abbrev S1x8x2048 : Shape := ⟨3, ![1, 8, 2048]⟩
abbrev S8x8x256 : Shape := ⟨3, ![8, 8, 256]⟩
abbrev S8x2048 : Shape := ⟨2, ![8, 2048]⟩
abbrev S8x256 : Shape := ⟨2, ![8, 256]⟩
abbrev S1x8x256 : Shape := ⟨3, ![1, 8, 256]⟩
abbrev S256x256 : Shape := ⟨2, ![256, 256]⟩
abbrev S1x1x256 : Shape := ⟨3, ![1, 1, 256]⟩
abbrev S1x256 : Shape := ⟨2, ![1, 256]⟩
abbrev S1x1 : Shape := ⟨2, ![1, 1]⟩
abbrev S256x1 : Shape := ⟨2, ![256, 1]⟩
abbrev S256 : Shape := ⟨1, ![256]⟩

abbrev nBuf : Space → Nat
  | .hbm => 7
  | .vmem => 11
  | .smem => 0
  | _ => 0

abbrev bufTy : (tb : Table) → Fin (tcTables nBuf tb) → BufTy
  | .hbm, ⟨0, _⟩ => ⟨S16896x512, .bf16⟩
  | .hbm, ⟨1, _⟩ => ⟨S16896x512, .bf16⟩
  | .hbm, ⟨2, _⟩ => ⟨S16896x512, .bf16⟩
  | .hbm, ⟨3, _⟩ => ⟨S16384x8, .f32⟩
  | .hbm, ⟨4, _⟩ => ⟨S8x2048x8, .f32⟩
  | .hbm, ⟨5, _⟩ => ⟨S8x8x2048, .f32⟩
  | .hbm, ⟨6, _⟩ => ⟨S16896x512, .bf16⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x8x2048, .f32⟩
  | .local _ .vmem, ⟨7, _⟩ => ⟨S1x8x2048, .f32⟩
  | .local _ .vmem, ⟨8, _⟩ => ⟨S256x128, .bf16⟩
  | .local _ .vmem, ⟨9, _⟩ => ⟨S256x128, .bf16⟩
  | .local _ .vmem, ⟨10, _⟩ => ⟨S8x8x256, .f32⟩
  | _, _ => ⟨S16896x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_off1 (i : grid0.Coords) (c0_i32_8 : BitVec 32) : Fin 3 → Nat :=
  let arg2 : BitVec 32 := BitVec.ofNat 32 (i 2).val
  let v37 : Index := Scalar.indexCast arg2
  let arg1 : BitVec 32 := BitVec.ofNat 32 (i 1).val
  let c2_i32 : BitVec 32 := 2#32
  let v35 : BitVec 32 := Scalar.muli arg1 c2_i32
  let v36 : BitVec 32 := Scalar.addi v35 c0_i32_8
  let v38 : Index := Scalar.indexCast v36
  let c0_9 : Index := 0#32
  ![v37.toNat, v38.toNat, 0]
@[reducible] def k0_t1_loop (i : grid0.Coords) : Scf.Loop 32 :=
  let c0_i32_13 : BitVec 32 := 0#32
  let arg2 : BitVec 32 := BitVec.ofNat 32 (i 2).val
  let v45 : BitVec 32 := Scalar.subi arg2 c0_i32_13
  let c1_i32_14 : BitVec 32 := 1#32
  let v47 : BitVec 32 := Scalar.divsi v45 c1_i32_14
  let v48 : BitVec 32 := Scalar.muli v47 c1_i32_14
  let v49 : BitVec 32 := Scalar.addi c0_i32_13 v48
  let c1_i32_15 : BitVec 32 := 1#32
  ⟨c0_i32_13, v49, c1_i32_15⟩
def k0_mult1 (i : grid0.Coords) (k0_t1 : Fin (k0_t1_loop i).trips) : BitVec 32 :=
  let c0_i32_13 : BitVec 32 := 0#32
  let c1_i32_15 : BitVec 32 := 1#32
  let arg9 : BitVec 32 := Scf.iv c0_i32_13 c1_i32_15 k0_t1
  let c256_i32_63 : BitVec 32 := 256#32
  let v200 : BitVec 32 := Scalar.muli arg9 c256_i32_63
  v200
def k0_off2 (i : grid0.Coords) (k0_t1 : Fin (k0_t1_loop i).trips) : Fin 2 → Nat :=
  let c0_i32_13 : BitVec 32 := 0#32
  let c1_i32_15 : BitVec 32 := 1#32
  let arg9 : BitVec 32 := Scf.iv c0_i32_13 c1_i32_15 k0_t1
  let c256_i32_63 : BitVec 32 := 256#32
  let v200 : BitVec 32 := Scalar.muli arg9 c256_i32_63
  let v201 : BitVec 32 := v200
  let v202 : Index := Scalar.indexCast v201
  let c0_64 : Index := 0#32
  ![v202.toNat, 0]
def k0_off3 (i : grid0.Coords) (k0_t1 : Fin (k0_t1_loop i).trips) : Fin 3 → Nat :=
  let c0_i32_13 : BitVec 32 := 0#32
  let c1_i32_15 : BitVec 32 := 1#32
  let arg9 : BitVec 32 := Scf.iv c0_i32_13 c1_i32_15 k0_t1
  let v205 : Index := Scalar.indexCast arg9
  let arg1 : BitVec 32 := BitVec.ofNat 32 (i 1).val
  let c2_i32 : BitVec 32 := 2#32
  let v35 : BitVec 32 := Scalar.muli arg1 c2_i32
  let c0_i32_8 : BitVec 32 := 0#32
  let v36 : BitVec 32 := Scalar.addi v35 c0_i32_8
  let v206 : Index := Scalar.indexCast v36
  let c0_66 : Index := 0#32
  ![v205.toNat, v206.toNat, 0]
@[reducible] def k0_t2_loop (i : grid0.Coords) : Scf.Loop 32 :=
  let c0_i32_13 : BitVec 32 := 0#32
  let arg2 : BitVec 32 := BitVec.ofNat 32 (i 2).val
  let v45 : BitVec 32 := Scalar.subi arg2 c0_i32_13
  let c1_i32_14 : BitVec 32 := 1#32
  let v47 : BitVec 32 := Scalar.divsi v45 c1_i32_14
  let v48 : BitVec 32 := Scalar.muli v47 c1_i32_14
  let v49 : BitVec 32 := Scalar.addi c0_i32_13 v48
  let v46 : BitVec 32 := Scalar.addi c0_i32_13 v45
  let c1_i32_16 : BitVec 32 := 1#32
  ⟨v49, v46, c1_i32_16⟩
def k0_mult2 (i : grid0.Coords) (k0_t2 : Fin (k0_t2_loop i).trips) : BitVec 32 :=
  let c0_i32_13 : BitVec 32 := 0#32
  let arg2 : BitVec 32 := BitVec.ofNat 32 (i 2).val
  let v45 : BitVec 32 := Scalar.subi arg2 c0_i32_13
  let c1_i32_14 : BitVec 32 := 1#32
  let v47 : BitVec 32 := Scalar.divsi v45 c1_i32_14
  let v48 : BitVec 32 := Scalar.muli v47 c1_i32_14
  let v49 : BitVec 32 := Scalar.addi c0_i32_13 v48
  let c1_i32_16 : BitVec 32 := 1#32
  let arg9 : BitVec 32 := Scf.iv v49 c1_i32_16 k0_t2
  let c256_i32_63 : BitVec 32 := 256#32
  let v200 : BitVec 32 := Scalar.muli arg9 c256_i32_63
  v200
def k0_off4 (i : grid0.Coords) (k0_t2 : Fin (k0_t2_loop i).trips) : Fin 2 → Nat :=
  let c0_i32_13 : BitVec 32 := 0#32
  let arg2 : BitVec 32 := BitVec.ofNat 32 (i 2).val
  let v45 : BitVec 32 := Scalar.subi arg2 c0_i32_13
  let c1_i32_14 : BitVec 32 := 1#32
  let v47 : BitVec 32 := Scalar.divsi v45 c1_i32_14
  let v48 : BitVec 32 := Scalar.muli v47 c1_i32_14
  let v49 : BitVec 32 := Scalar.addi c0_i32_13 v48
  let c1_i32_16 : BitVec 32 := 1#32
  let arg9 : BitVec 32 := Scf.iv v49 c1_i32_16 k0_t2
  let c256_i32_63 : BitVec 32 := 256#32
  let v200 : BitVec 32 := Scalar.muli arg9 c256_i32_63
  let v201 : BitVec 32 := v200
  let v202 : Index := Scalar.indexCast v201
  let c0_64 : Index := 0#32
  ![v202.toNat, 0]
def k0_off5 (i : grid0.Coords) (k0_t2 : Fin (k0_t2_loop i).trips) : Fin 3 → Nat :=
  let c0_i32_13 : BitVec 32 := 0#32
  let arg2 : BitVec 32 := BitVec.ofNat 32 (i 2).val
  let v45 : BitVec 32 := Scalar.subi arg2 c0_i32_13
  let c1_i32_14 : BitVec 32 := 1#32
  let v47 : BitVec 32 := Scalar.divsi v45 c1_i32_14
  let v48 : BitVec 32 := Scalar.muli v47 c1_i32_14
  let v49 : BitVec 32 := Scalar.addi c0_i32_13 v48
  let c1_i32_16 : BitVec 32 := 1#32
  let arg9 : BitVec 32 := Scf.iv v49 c1_i32_16 k0_t2
  let v205 : Index := Scalar.indexCast arg9
  let arg1 : BitVec 32 := BitVec.ofNat 32 (i 1).val
  let c2_i32 : BitVec 32 := 2#32
  let v35 : BitVec 32 := Scalar.muli arg1 c2_i32
  let c0_i32_8 : BitVec 32 := 0#32
  let v36 : BitVec 32 := Scalar.addi v35 c0_i32_8
  let v206 : Index := Scalar.indexCast v36
  let c0_66 : Index := 0#32
  ![v205.toNat, v206.toNat, 0]
def k0_mult3 (i : grid0.Coords) : BitVec 32 :=
  let arg2 : BitVec 32 := BitVec.ofNat 32 (i 2).val
  let c256_i32 : BitVec 32 := 256#32
  let v52 : BitVec 32 := Scalar.muli arg2 c256_i32
  v52
def k0_off6 (i : grid0.Coords) : Fin 2 → Nat :=
  let arg2 : BitVec 32 := BitVec.ofNat 32 (i 2).val
  let c256_i32 : BitVec 32 := 256#32
  let v52 : BitVec 32 := Scalar.muli arg2 c256_i32
  let v53 : BitVec 32 := v52
  let v54 : Index := Scalar.indexCast v53
  let c0_17 : Index := 0#32
  ![v54.toNat, 0]
@[reducible] def k0_t3_loop (i : grid0.Coords) : Scf.Loop 32 :=
  let c0_i32_40 : BitVec 32 := 0#32
  let arg2 : BitVec 32 := BitVec.ofNat 32 (i 2).val
  let v127 : BitVec 32 := Scalar.subi arg2 c0_i32_40
  let c1_i32_41 : BitVec 32 := 1#32
  let v129 : BitVec 32 := Scalar.divsi v127 c1_i32_41
  let v130 : BitVec 32 := Scalar.muli v129 c1_i32_41
  let v131 : BitVec 32 := Scalar.addi c0_i32_40 v130
  let c1_i32_42 : BitVec 32 := 1#32
  ⟨c0_i32_40, v131, c1_i32_42⟩
def k0_mult4 (i : grid0.Coords) (k0_t3 : Fin (k0_t3_loop i).trips) : BitVec 32 :=
  let c0_i32_40 : BitVec 32 := 0#32
  let c1_i32_42 : BitVec 32 := 1#32
  let arg9 : BitVec 32 := Scf.iv c0_i32_40 c1_i32_42 k0_t3
  let c256_i32_63 : BitVec 32 := 256#32
  let v200 : BitVec 32 := Scalar.muli arg9 c256_i32_63
  v200
def k0_off7 (i : grid0.Coords) (k0_t3 : Fin (k0_t3_loop i).trips) : Fin 2 → Nat :=
  let c0_i32_40 : BitVec 32 := 0#32
  let c1_i32_42 : BitVec 32 := 1#32
  let arg9 : BitVec 32 := Scf.iv c0_i32_40 c1_i32_42 k0_t3
  let c256_i32_63 : BitVec 32 := 256#32
  let v200 : BitVec 32 := Scalar.muli arg9 c256_i32_63
  let v201 : BitVec 32 := v200
  let v202 : Index := Scalar.indexCast v201
  let c0_64 : Index := 0#32
  ![v202.toNat, 0]
def k0_off8 (i : grid0.Coords) (k0_t3 : Fin (k0_t3_loop i).trips) : Fin 3 → Nat :=
  let c0_i32_40 : BitVec 32 := 0#32
  let c1_i32_42 : BitVec 32 := 1#32
  let arg9 : BitVec 32 := Scf.iv c0_i32_40 c1_i32_42 k0_t3
  let v205 : Index := Scalar.indexCast arg9
  let arg1 : BitVec 32 := BitVec.ofNat 32 (i 1).val
  let c2_i32_34 : BitVec 32 := 2#32
  let v117 : BitVec 32 := Scalar.muli arg1 c2_i32_34
  let c1_i32_35 : BitVec 32 := 1#32
  let v118 : BitVec 32 := Scalar.addi v117 c1_i32_35
  let v206 : Index := Scalar.indexCast v118
  let c0_66 : Index := 0#32
  ![v205.toNat, v206.toNat, 0]
@[reducible] def k0_t4_loop (i : grid0.Coords) : Scf.Loop 32 :=
  let c0_i32_40 : BitVec 32 := 0#32
  let arg2 : BitVec 32 := BitVec.ofNat 32 (i 2).val
  let v127 : BitVec 32 := Scalar.subi arg2 c0_i32_40
  let c1_i32_41 : BitVec 32 := 1#32
  let v129 : BitVec 32 := Scalar.divsi v127 c1_i32_41
  let v130 : BitVec 32 := Scalar.muli v129 c1_i32_41
  let v131 : BitVec 32 := Scalar.addi c0_i32_40 v130
  let v128 : BitVec 32 := Scalar.addi c0_i32_40 v127
  let c1_i32_43 : BitVec 32 := 1#32
  ⟨v131, v128, c1_i32_43⟩
def k0_mult5 (i : grid0.Coords) (k0_t4 : Fin (k0_t4_loop i).trips) : BitVec 32 :=
  let c0_i32_40 : BitVec 32 := 0#32
  let arg2 : BitVec 32 := BitVec.ofNat 32 (i 2).val
  let v127 : BitVec 32 := Scalar.subi arg2 c0_i32_40
  let c1_i32_41 : BitVec 32 := 1#32
  let v129 : BitVec 32 := Scalar.divsi v127 c1_i32_41
  let v130 : BitVec 32 := Scalar.muli v129 c1_i32_41
  let v131 : BitVec 32 := Scalar.addi c0_i32_40 v130
  let c1_i32_43 : BitVec 32 := 1#32
  let arg9 : BitVec 32 := Scf.iv v131 c1_i32_43 k0_t4
  let c256_i32_63 : BitVec 32 := 256#32
  let v200 : BitVec 32 := Scalar.muli arg9 c256_i32_63
  v200
def k0_off9 (i : grid0.Coords) (k0_t4 : Fin (k0_t4_loop i).trips) : Fin 2 → Nat :=
  let c0_i32_40 : BitVec 32 := 0#32
  let arg2 : BitVec 32 := BitVec.ofNat 32 (i 2).val
  let v127 : BitVec 32 := Scalar.subi arg2 c0_i32_40
  let c1_i32_41 : BitVec 32 := 1#32
  let v129 : BitVec 32 := Scalar.divsi v127 c1_i32_41
  let v130 : BitVec 32 := Scalar.muli v129 c1_i32_41
  let v131 : BitVec 32 := Scalar.addi c0_i32_40 v130
  let c1_i32_43 : BitVec 32 := 1#32
  let arg9 : BitVec 32 := Scf.iv v131 c1_i32_43 k0_t4
  let c256_i32_63 : BitVec 32 := 256#32
  let v200 : BitVec 32 := Scalar.muli arg9 c256_i32_63
  let v201 : BitVec 32 := v200
  let v202 : Index := Scalar.indexCast v201
  let c0_64 : Index := 0#32
  ![v202.toNat, 0]
def k0_off10 (i : grid0.Coords) (k0_t4 : Fin (k0_t4_loop i).trips) : Fin 3 → Nat :=
  let c0_i32_40 : BitVec 32 := 0#32
  let arg2 : BitVec 32 := BitVec.ofNat 32 (i 2).val
  let v127 : BitVec 32 := Scalar.subi arg2 c0_i32_40
  let c1_i32_41 : BitVec 32 := 1#32
  let v129 : BitVec 32 := Scalar.divsi v127 c1_i32_41
  let v130 : BitVec 32 := Scalar.muli v129 c1_i32_41
  let v131 : BitVec 32 := Scalar.addi c0_i32_40 v130
  let c1_i32_43 : BitVec 32 := 1#32
  let arg9 : BitVec 32 := Scf.iv v131 c1_i32_43 k0_t4
  let v205 : Index := Scalar.indexCast arg9
  let arg1 : BitVec 32 := BitVec.ofNat 32 (i 1).val
  let c2_i32_34 : BitVec 32 := 2#32
  let v117 : BitVec 32 := Scalar.muli arg1 c2_i32_34
  let c1_i32_35 : BitVec 32 := 1#32
  let v118 : BitVec 32 := Scalar.addi v117 c1_i32_35
  let v206 : Index := Scalar.indexCast v118
  let c0_66 : Index := 0#32
  ![v205.toNat, v206.toNat, 0]
def k0_mult6 (i : grid0.Coords) : BitVec 32 :=
  let arg2 : BitVec 32 := BitVec.ofNat 32 (i 2).val
  let c256_i32_44 : BitVec 32 := 256#32
  let v134 : BitVec 32 := Scalar.muli arg2 c256_i32_44
  v134
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S16896x512 : Shape := ⟨2, ![16896, 512]⟩
abbrev S16384x8 : Shape := ⟨2, ![16384, 8]⟩
abbrev S16384x512 : Shape := ⟨2, ![16384, 512]⟩
abbrev S8x2048x8x64 : Shape := ⟨4, ![8, 2048, 8, 64]⟩
abbrev S8x8x2048x64 : Shape := ⟨4, ![8, 8, 2048, 64]⟩
abbrev S8x2048x8 : Shape := ⟨3, ![8, 2048, 8]⟩
abbrev S8x8x2048 : Shape := ⟨3, ![8, 8, 2048]⟩
abbrev S64x2048 : Shape := ⟨2, ![64, 2048]⟩
abbrev S_ : Shape := ⟨0, ![]⟩
abbrev S8x8x2048x2048 : Shape := ⟨4, ![8, 8, 2048, 2048]⟩
abbrev S8x8x2048x1 : Shape := ⟨4, ![8, 8, 2048, 1]⟩
abbrev S8x8x1x2048 : Shape := ⟨4, ![8, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩

abbrev nBuf : Space → Nat
  | .hbm => 59
  | .vmem => 0
  | .smem => 0
  | _ => 0

abbrev bufTy : (tb : Table) → Fin (tcTables nBuf tb) → BufTy
  | .hbm, ⟨0, _⟩ => ⟨S16896x512, .bf16⟩
  | .hbm, ⟨1, _⟩ => ⟨S16896x512, .bf16⟩
  | .hbm, ⟨2, _⟩ => ⟨S16896x512, .bf16⟩
  | .hbm, ⟨3, _⟩ => ⟨S16384x8, .f32⟩
  | .hbm, ⟨4, _⟩ => ⟨S16384x512, .bf16⟩
  | .hbm, ⟨5, _⟩ => ⟨S16384x512, .f32⟩
  | .hbm, ⟨6, _⟩ => ⟨S8x2048x8x64, .f32⟩
  | .hbm, ⟨7, _⟩ => ⟨S8x8x2048x64, .f32⟩
  | .hbm, ⟨8, _⟩ => ⟨S16384x512, .bf16⟩
  | .hbm, ⟨9, _⟩ => ⟨S16384x512, .f32⟩
  | .hbm, ⟨10, _⟩ => ⟨S8x2048x8x64, .f32⟩
  | .hbm, ⟨11, _⟩ => ⟨S8x8x2048x64, .f32⟩
  | .hbm, ⟨12, _⟩ => ⟨S16384x512, .bf16⟩
  | .hbm, ⟨13, _⟩ => ⟨S16384x512, .f32⟩
  | .hbm, ⟨14, _⟩ => ⟨S8x2048x8x64, .f32⟩
  | .hbm, ⟨15, _⟩ => ⟨S8x8x2048x64, .f32⟩
  | .hbm, ⟨16, _⟩ => ⟨S8x2048x8, .f32⟩
  | .hbm, ⟨17, _⟩ => ⟨S8x8x2048, .f32⟩
  | .hbm, ⟨18, _⟩ => ⟨S64x2048, .f32⟩
  | .hbm, ⟨19, _⟩ => ⟨S_, .f32⟩
  | .hbm, ⟨20, _⟩ => ⟨S_, .f32⟩
  | .hbm, ⟨21, _⟩ => ⟨S64x2048, .f32⟩
  | .hbm, ⟨22, _⟩ => ⟨S8x8x2048, .f32⟩
  | .hbm, ⟨23, _⟩ => ⟨S8x8x2048x2048, .f32⟩
  | .hbm, ⟨24, _⟩ => ⟨S8x8x2048x1, .f32⟩
  | .hbm, ⟨25, _⟩ => ⟨S8x8x2048x2048, .f32⟩
  | .hbm, ⟨26, _⟩ => ⟨S8x8x2048x2048, .f32⟩
  | .hbm, ⟨27, _⟩ => ⟨S8x8x1x2048, .f32⟩
  | .hbm, ⟨28, _⟩ => ⟨S8x8x2048x2048, .f32⟩
  | .hbm, ⟨29, _⟩ => ⟨S8x8x2048x2048, .f32⟩
  | .hbm, ⟨30, _⟩ => ⟨S2048, .i32⟩
  | .hbm, ⟨31, _⟩ => ⟨S1x2048, .i32⟩
  | .hbm, ⟨32, _⟩ => ⟨S2048x1, .i32⟩
  | .hbm, ⟨33, _⟩ => ⟨S2048x2048, .i32⟩
  | .hbm, ⟨34, _⟩ => ⟨S2048x2048, .i32⟩
  | .hbm, ⟨35, _⟩ => ⟨S2048x2048, .i1⟩
  | .hbm, ⟨36, _⟩ => ⟨S_, .f32⟩
  | .hbm, ⟨37, _⟩ => ⟨S_, .f32⟩
  | .hbm, ⟨38, _⟩ => ⟨S8x8x2048x2048, .i1⟩
  | .hbm, ⟨39, _⟩ => ⟨S8x8x2048x2048, .f32⟩
  | .hbm, ⟨40, _⟩ => ⟨S8x8x2048x2048, .f32⟩
  | .hbm, ⟨41, _⟩ => ⟨S_, .f32⟩
  | .hbm, ⟨42, _⟩ => ⟨S8x8x2048, .f32⟩
  | .hbm, ⟨43, _⟩ => ⟨S8x8x2048x1, .f32⟩
  | .hbm, ⟨44, _⟩ => ⟨S8x8x2048x2048, .f32⟩
  | .hbm, ⟨45, _⟩ => ⟨S8x8x2048x2048, .f32⟩
  | .hbm, ⟨46, _⟩ => ⟨S8x8x2048x2048, .f32⟩
  | .hbm, ⟨47, _⟩ => ⟨S_, .f32⟩
  | .hbm, ⟨48, _⟩ => ⟨S8x8x2048, .f32⟩
  | .hbm, ⟨49, _⟩ => ⟨S8x8x2048x1, .f32⟩
  | .hbm, ⟨50, _⟩ => ⟨S8x8x2048x2048, .f32⟩
  | .hbm, ⟨51, _⟩ => ⟨S8x8x2048x2048, .f32⟩
  | .hbm, ⟨52, _⟩ => ⟨S8x8x2048x64, .f32⟩
  | .hbm, ⟨53, _⟩ => ⟨S8x2048x8x64, .f32⟩
  | .hbm, ⟨54, _⟩ => ⟨S16384x512, .f32⟩
  | .hbm, ⟨55, _⟩ => ⟨S16384x512, .bf16⟩
  | .hbm, ⟨56, _⟩ => ⟨S_, .i32⟩
  | .hbm, ⟨57, _⟩ => ⟨S_, .bf16⟩
  | .hbm, ⟨58, _⟩ => ⟨S16896x512, .bf16⟩
  | _, _ => ⟨S16896x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_call0_cst : Ref sig .tc := ⟨.hbm, 19, rfl⟩
abbrev main_call0_call0_v0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v30 : Ref sig .tc := ⟨.hbm, 40, rfl⟩
abbrev main_cst_0 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_1 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c : Ref sig .tc := ⟨.hbm, 56, rfl⟩
abbrev main_call2_v0 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel2.lean ====
abbrev S16384x1024 : Shape := ⟨2, ![16384, 1024]⟩
abbrev S512x1024 : Shape := ⟨2, ![512, 1024]⟩
abbrev S1x1024 : Shape := ⟨2, ![1, 1024]⟩
abbrev S1024x1536 : Shape := ⟨2, ![1024, 1536]⟩
abbrev S1024x512 : Shape := ⟨2, ![1024, 512]⟩
abbrev S1024x128 : Shape := ⟨2, ![1024, 128]⟩
abbrev S1x8 : Shape := ⟨2, ![1, 8]⟩
abbrev S16896x512 : Shape := ⟨2, ![16896, 512]⟩
abbrev S2560x4096 : Shape := ⟨2, ![2560, 4096]⟩
abbrev S16384x512 : Shape := ⟨2, ![16384, 512]⟩
abbrev S16384x8 : Shape := ⟨2, ![16384, 8]⟩
abbrev S512x512 : Shape := ⟨2, ![512, 512]⟩
abbrev S512x8 : Shape := ⟨2, ![512, 8]⟩
abbrev S512 : Shape := ⟨1, ![512]⟩
abbrev S512x1 : Shape := ⟨2, ![512, 1]⟩
abbrev S512x1536 : Shape := ⟨2, ![512, 1536]⟩
abbrev S512x128 : Shape := ⟨2, ![512, 128]⟩

abbrev nBuf : Space → Nat
  | .hbm => 17
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S1x1024, .f32⟩
  | .hbm, ⟨3, _⟩ => ⟨S1024x1536, .bf16⟩
  | .hbm, ⟨4, _⟩ => ⟨S1024x512, .bf16⟩
  | .hbm, ⟨5, _⟩ => ⟨S1024x128, .bf16⟩
  | .hbm, ⟨6, _⟩ => ⟨S1x8, .f32⟩
  | .hbm, ⟨7, _⟩ => ⟨S16896x512, .bf16⟩
  | .hbm, ⟨8, _⟩ => ⟨S16896x512, .bf16⟩
  | .hbm, ⟨9, _⟩ => ⟨S16896x512, .bf16⟩
  | .hbm, ⟨10, _⟩ => ⟨S2560x4096, .f32⟩
  | .hbm, ⟨11, _⟩ => ⟨S16384x512, .f32⟩
  | .hbm, ⟨12, _⟩ => ⟨S16384x512, .f32⟩
  | .hbm, ⟨13, _⟩ => ⟨S16384x8, .f32⟩
  | .hbm, ⟨14, _⟩ => ⟨S512x512, .f32⟩
  | .hbm, ⟨15, _⟩ => ⟨S512x512, .f32⟩
  | .hbm, ⟨16, _⟩ => ⟨S512x8, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S1x1024, .f32⟩
  | .local _ .vmem, ⟨4, _⟩ => ⟨S1024x1536, .bf16⟩
  | .local _ .vmem, ⟨5, _⟩ => ⟨S1024x512, .bf16⟩
  | .local _ .vmem, ⟨6, _⟩ => ⟨S1024x128, .bf16⟩
  | .local _ .vmem, ⟨7, _⟩ => ⟨S1x8, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x8, .f32⟩
  | .local _ .vmem, ⟨21, _⟩ => ⟨S512x8, .f32⟩
  | .local _ .vmem, ⟨22, _⟩ => ⟨S512x512, .f32⟩
  | .local _ .vmem, ⟨23, _⟩ => ⟨S512x512, .f32⟩
  | .local _ .vmem, ⟨24, _⟩ => ⟨S512x8, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev main_v0_8 : Ref sig .tc := ⟨.hbm, 15, rfl⟩
abbrev main_v0_9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem16_0 : DmaSem sig := 24

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32_35 : BitVec 32 := 0#32
  let v51 : BitVec 1 := Scalar.cmpi .eq arg0 c0_i32_35
  let v52 : BitVec 32 := Scalar.extui v51
  let c0_i32_36 : BitVec 32 := 0#32
  let v53 : BitVec 1 := Scalar.cmpi .ne v52 c0_i32_36
  v53

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c32_i32 : BitVec 32 := 32#32
  let v0 : BitVec 32 := Scalar.addi arg0 c32_i32
  let c33_i32 : BitVec 32 := 33#32
  let c0_i32 : BitVec 32 := 0#32
  let v1 : BitVec 1 := Scalar.cmpi .eq c33_i32 c0_i32
  let c1_i32 : BitVec 32 := 1#32
  let v2 : BitVec 32 := Scalar.select v1 c1_i32 c33_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_8 (i : grid0.Coords) : Fin 2 → Nat :=
  let arg0 : BitVec 32 := BitVec.ofNat 32 (i 0).val
  let c32_i32 : BitVec 32 := 32#32
  let v0 : BitVec 32 := Scalar.addi arg0 c32_i32
  let c33_i32 : BitVec 32 := 33#32
  let c0_i32 : BitVec 32 := 0#32
  let v1 : BitVec 1 := Scalar.cmpi .eq c33_i32 c0_i32
  let c1_i32 : BitVec 32 := 1#32
  let v2 : BitVec 32 := Scalar.select v1 c1_i32 c33_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_9 (i : grid0.Coords) : Fin 2 → Nat :=
  let arg0 : BitVec 32 := BitVec.ofNat 32 (i 0).val
  let c32_i32 : BitVec 32 := 32#32
  let v0 : BitVec 32 := Scalar.addi arg0 c32_i32
  let c33_i32 : BitVec 32 := 33#32
  let c0_i32 : BitVec 32 := 0#32
  let v1 : BitVec 1 := Scalar.cmpi .eq c33_i32 c0_i32
  let c1_i32 : BitVec 32 := 1#32
  let v2 : BitVec 32 := Scalar.select v1 c1_i32 c33_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c4_i32 : BitVec 32 := 4#32
  let c0_i32_1 : BitVec 32 := 0#32
  let v3 : BitVec 1 := Scalar.cmpi .eq c4_i32 c0_i32_1
  let c1_i32_2 : BitVec 32 := 1#32
  let v4 : BitVec 32 := Scalar.select v3 c1_i32_2 c4_i32
  let v5 : BitVec 32 := Scalar.remsi v1 v4
  let c0_i32_3 : BitVec 32 := 0#32
  let v6 : BitVec 1 := Scalar.cmpi .ne v5 c0_i32_3
  let c0_i32_4 : BitVec 32 := 0#32
  let v7 : BitVec 1 := Scalar.cmpi .slt v5 c0_i32_4
  let c0_i32_5 : BitVec 32 := 0#32
  let v8 : BitVec 1 := Scalar.cmpi .slt v4 c0_i32_5
  let v9 : BitVec 1 := Scalar.xori v7 v8
  let v10 : BitVec 1 := Scalar.andi v9 v6
  let v11 : BitVec 32 := Scalar.addi v5 v4
  let v12 : BitVec 32 := Scalar.select v10 v11 v5
  let c4_i32_6 : BitVec 32 := 4#32
  let v13 : BitVec 32 := Scalar.select v2 c4_i32_6 v12
  let c0_i32_7 : BitVec 32 := 0#32
  let v14 : BitVec 1 := Scalar.cmpi .eq arg0 c0_i32_7
  let c4_i32_8 : BitVec 32 := 4#32
  let v15 : BitVec 32 := Scalar.divsi v1 c4_i32_8
  let c0_i32_9 : BitVec 32 := 0#32
  let v16 : BitVec 1 := Scalar.cmpi .sgt v1 c0_i32_9
  let v17 : BitVec 32 := Scalar.extui v16
  let c0_i32_10 : BitVec 32 := 0#32
  let v18 : BitVec 1 := Scalar.cmpi .slt v1 c0_i32_10
  let v19 : BitVec 32 := Scalar.extui v18
  let v20 : BitVec 32 := Scalar.subi v17 v19
  let c0_i32_11 : BitVec 32 := 0#32
  let v21 : BitVec 1 := Scalar.cmpi .sgt c4_i32_8 c0_i32_11
  let v22 : BitVec 32 := Scalar.extui v21
  let c0_i32_12 : BitVec 32 := 0#32
  let v23 : BitVec 1 := Scalar.cmpi .slt c4_i32_8 c0_i32_12
  let v24 : BitVec 32 := Scalar.extui v23
  let v25 : BitVec 32 := Scalar.subi v22 v24
  let v26 : BitVec 1 := Scalar.cmpi .ne v20 v25
  let v27 : BitVec 32 := Scalar.remsi v1 c4_i32_8
  let c0_i32_13 : BitVec 32 := 0#32
  let v28 : BitVec 1 := Scalar.cmpi .ne v27 c0_i32_13
  let v29 : BitVec 1 := Scalar.andi v26 v28
  let c1_i32_14 : BitVec 32 := 1#32
  let v30 : BitVec 32 := Scalar.subi v15 c1_i32_14
  let v31 : BitVec 32 := Scalar.select v29 v30 v15
  let c0_i32_15 : BitVec 32 := 0#32
  let v32 : BitVec 32 := Scalar.select v14 c0_i32_15 v31
  let c0_i32_16 : BitVec 32 := 0#32
  ![v13.toNat, v32.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S512x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference2Ideal.lean ====
abbrev S16384x1024 : Shape := ⟨2, ![16384, 1024]⟩
abbrev S512x1024 : Shape := ⟨2, ![512, 1024]⟩
abbrev S1x1024 : Shape := ⟨2, ![1, 1024]⟩
abbrev S1024x1536 : Shape := ⟨2, ![1024, 1536]⟩
abbrev S1024x512 : Shape := ⟨2, ![1024, 512]⟩
abbrev S1024x128 : Shape := ⟨2, ![1024, 128]⟩
abbrev S1x8 : Shape := ⟨2, ![1, 8]⟩
abbrev S16896x1024 : Shape := ⟨2, ![16896, 1024]⟩
abbrev S_ : Shape := ⟨0, ![]⟩
abbrev S16896 : Shape := ⟨1, ![16896]⟩
abbrev S16896x1 : Shape := ⟨2, ![16896, 1]⟩
abbrev S16896x1536 : Shape := ⟨2, ![16896, 1536]⟩
abbrev S16896x512 : Shape := ⟨2, ![16896, 512]⟩
abbrev S16896x128 : Shape := ⟨2, ![16896, 128]⟩
abbrev S16896x8 : Shape := ⟨2, ![16896, 8]⟩
abbrev S16384x512 : Shape := ⟨2, ![16384, 512]⟩
abbrev S8x2048x512 : Shape := ⟨3, ![8, 2048, 512]⟩
abbrev S2048x8x512 : Shape := ⟨3, ![2048, 8, 512]⟩
abbrev S2048x4096 : Shape := ⟨2, ![2048, 4096]⟩
abbrev S512x512 : Shape := ⟨2, ![512, 512]⟩
abbrev S512x4096 : Shape := ⟨2, ![512, 4096]⟩
abbrev S2560x4096 : Shape := ⟨2, ![2560, 4096]⟩
abbrev S16384x8 : Shape := ⟨2, ![16384, 8]⟩
abbrev S512x8 : Shape := ⟨2, ![512, 8]⟩

abbrev nBuf : Space → Nat
  | .hbm => 72
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S1x1024, .f32⟩
  | .hbm, ⟨3, _⟩ => ⟨S1024x1536, .bf16⟩
  | .hbm, ⟨4, _⟩ => ⟨S1024x512, .bf16⟩
  | .hbm, ⟨5, _⟩ => ⟨S1024x128, .bf16⟩
  | .hbm, ⟨6, _⟩ => ⟨S1x8, .f32⟩
  | .hbm, ⟨7, _⟩ => ⟨S16896x1024, .f32⟩
  | .hbm, ⟨8, _⟩ => ⟨S16896x1024, .f32⟩
  | .hbm, ⟨9, _⟩ => ⟨S_, .f32⟩
  | .hbm, ⟨10, _⟩ => ⟨S16896, .f32⟩
  | .hbm, ⟨11, _⟩ => ⟨S16896x1, .f32⟩
  | .hbm, ⟨12, _⟩ => ⟨S_, .f32⟩
  | .hbm, ⟨13, _⟩ => ⟨S16896x1, .f32⟩
  | .hbm, ⟨14, _⟩ => ⟨S16896x1, .f32⟩
  | .hbm, ⟨15, _⟩ => ⟨S_, .f32⟩
  | .hbm, ⟨16, _⟩ => ⟨S16896x1, .f32⟩
  | .hbm, ⟨17, _⟩ => ⟨S16896x1, .f32⟩
  | .hbm, ⟨18, _⟩ => ⟨S16896x1, .f32⟩
  | .hbm, ⟨19, _⟩ => ⟨S16896x1024, .f32⟩
  | .hbm, ⟨20, _⟩ => ⟨S16896x1024, .f32⟩
  | .hbm, ⟨21, _⟩ => ⟨S16896x1024, .f32⟩
  | .hbm, ⟨22, _⟩ => ⟨S16896x1024, .f32⟩
  | .hbm, ⟨23, _⟩ => ⟨S1024x1536, .f32⟩
  | .hbm, ⟨24, _⟩ => ⟨S16896x1536, .f32⟩
  | .hbm, ⟨25, _⟩ => ⟨S16896x512, .f32⟩
  | .hbm, ⟨26, _⟩ => ⟨S16896x512, .f32⟩
  | .hbm, ⟨27, _⟩ => ⟨S16896x512, .f32⟩
  | .hbm, ⟨28, _⟩ => ⟨S1024x512, .f32⟩
  | .hbm, ⟨29, _⟩ => ⟨S16896x512, .f32⟩
  | .hbm, ⟨30, _⟩ => ⟨S1024x128, .f32⟩
  | .hbm, ⟨31, _⟩ => ⟨S16896x128, .f32⟩
  | .hbm, ⟨32, _⟩ => ⟨S16896x8, .f32⟩
  | .hbm, ⟨33, _⟩ => ⟨S16896x8, .f32⟩
  | .hbm, ⟨34, _⟩ => ⟨S16896x8, .f32⟩
  | .hbm, ⟨35, _⟩ => ⟨S16896x8, .f32⟩
  | .hbm, ⟨36, _⟩ => ⟨S_, .f32⟩
  | .hbm, ⟨37, _⟩ => ⟨S16896x8, .f32⟩
  | .hbm, ⟨38, _⟩ => ⟨S16896x8, .f32⟩
  | .hbm, ⟨39, _⟩ => ⟨S16896x8, .f32⟩
  | .hbm, ⟨40, _⟩ => ⟨S16896x8, .f32⟩
  | .hbm, ⟨41, _⟩ => ⟨S16896x8, .i1⟩
  | .hbm, ⟨42, _⟩ => ⟨S16896x8, .f32⟩
  | .hbm, ⟨43, _⟩ => ⟨S16896x8, .f32⟩
  | .hbm, ⟨44, _⟩ => ⟨S16896x8, .f32⟩
  | .hbm, ⟨45, _⟩ => ⟨S16896x8, .f32⟩
  | .hbm, ⟨46, _⟩ => ⟨S16896x8, .f32⟩
  | .hbm, ⟨47, _⟩ => ⟨S16896x8, .f32⟩
  | .hbm, ⟨48, _⟩ => ⟨S16896x8, .f32⟩
  | .hbm, ⟨49, _⟩ => ⟨S16896x8, .f32⟩
  | .hbm, ⟨50, _⟩ => ⟨S16896x8, .f32⟩
  | .hbm, ⟨51, _⟩ => ⟨S16384x512, .f32⟩
  | .hbm, ⟨52, _⟩ => ⟨S8x2048x512, .f32⟩
  | .hbm, ⟨53, _⟩ => ⟨S2048x8x512, .f32⟩
  | .hbm, ⟨54, _⟩ => ⟨S2048x4096, .f32⟩
  | .hbm, ⟨55, _⟩ => ⟨S512x512, .f32⟩
  | .hbm, ⟨56, _⟩ => ⟨S_, .i32⟩
  | .hbm, ⟨57, _⟩ => ⟨S_, .f32⟩
  | .hbm, ⟨58, _⟩ => ⟨S512x4096, .f32⟩
  | .hbm, ⟨59, _⟩ => ⟨S2560x4096, .f32⟩
  | .hbm, ⟨60, _⟩ => ⟨S_, .f32⟩
  | .hbm, ⟨61, _⟩ => ⟨S16896x512, .f32⟩
  | .hbm, ⟨62, _⟩ => ⟨S16896x512, .f32⟩
  | .hbm, ⟨63, _⟩ => ⟨S16896x512, .bf16⟩
  | .hbm, ⟨64, _⟩ => ⟨S16896x512, .bf16⟩
  | .hbm, ⟨65, _⟩ => ⟨S16896x512, .bf16⟩
  | .hbm, ⟨66, _⟩ => ⟨S16384x512, .f32⟩
  | .hbm, ⟨67, _⟩ => ⟨S16384x512, .f32⟩
  | .hbm, ⟨68, _⟩ => ⟨S16384x8, .f32⟩
  | .hbm, ⟨69, _⟩ => ⟨S512x512, .f32⟩
  | .hbm, ⟨70, _⟩ => ⟨S512x512, .f32⟩
  | .hbm, ⟨71, _⟩ => ⟨S512x8, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_call0_cst : Ref sig .tc := ⟨.hbm, 36, rfl⟩
abbrev main_call0_call0_v0 : Ref sig .tc := ⟨.hbm, 37, rfl⟩
abbrev main_call0_call0_v1 : Ref sig .tc := ⟨.hbm, 38, rfl⟩
abbrev main_call0_call0_v2 : Ref sig .tc := ⟨.hbm, 39, rfl⟩
abbrev main_call0_call0_v3 : Ref sig .tc := ⟨.hbm, 40, rfl⟩
abbrev main_call0_call0_v4 : Ref sig .tc := ⟨.hbm, 41, rfl⟩
abbrev main_call0_call0_v5 : Ref sig .tc := ⟨.hbm, 42, rfl⟩
abbrev main_call0_call0_v6 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_v9 : Ref sig .tc := ⟨.hbm, 46, rfl⟩
abbrev main_call0_call0_v10 : Ref sig .tc := ⟨.hbm, 47, rfl⟩
abbrev main_call0_call0_v11 : Ref sig .tc := ⟨.hbm, 48, rfl⟩
abbrev main_call0_v1 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c : Ref sig .tc := ⟨.hbm, 56, rfl⟩
abbrev main_call1_v0 : Ref sig .tc := ⟨.hbm, 57, rfl⟩
abbrev main_v31 : Ref sig .tc := ⟨.hbm, 58, rfl⟩
abbrev main_v32 : Ref sig .tc := ⟨.hbm, 59, rfl⟩
abbrev main_cst_2 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩

abbrev nD : Nat := 1
abbrev τ : Topo := Topo.v7x

variable {F : FTy → Type} [FloatOps F]
-- ==== Kernel3.lean ====
abbrev S16384x1024 : Shape := ⟨2, ![16384, 1024]⟩
abbrev S512x1024 : Shape := ⟨2, ![512, 1024]⟩
abbrev S16896x512 : Shape := ⟨2, ![16896, 512]⟩
abbrev S512x512 : Shape := ⟨2, ![512, 512]⟩
abbrev S2048x4096 : Shape := ⟨2, ![2048, 4096]⟩
abbrev S2560x4096 : Shape := ⟨2, ![2560, 4096]⟩
abbrev S1x1024 : Shape := ⟨2, ![1, 1024]⟩
abbrev S1x512 : Shape := ⟨2, ![1, 512]⟩
abbrev S1024x2048 : Shape := ⟨2, ![1024, 2048]⟩
abbrev S1024x1024 : Shape := ⟨2, ![1024, 1024]⟩
abbrev S16896x1024 : Shape := ⟨2, ![16896, 1024]⟩
abbrev S512 : Shape := ⟨1, ![512]⟩
abbrev S512x1 : Shape := ⟨2, ![512, 1]⟩
abbrev S512x2048 : Shape := ⟨2, ![512, 2048]⟩

abbrev nBuf : Space → Nat
  | .hbm => 17
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S16896x512, .bf16⟩
  | .hbm, ⟨3, _⟩ => ⟨S512x512, .bf16⟩
  | .hbm, ⟨4, _⟩ => ⟨S2048x4096, .f32⟩
  | .hbm, ⟨5, _⟩ => ⟨S512x512, .f32⟩
  | .hbm, ⟨6, _⟩ => ⟨S2560x4096, .f32⟩
  | .hbm, ⟨7, _⟩ => ⟨S1x1024, .f32⟩
  | .hbm, ⟨8, _⟩ => ⟨S1x1024, .f32⟩
  | .hbm, ⟨9, _⟩ => ⟨S1x512, .f32⟩
  | .hbm, ⟨10, _⟩ => ⟨S1024x2048, .bf16⟩
  | .hbm, ⟨11, _⟩ => ⟨S512x1024, .bf16⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S16896x1024, .f32⟩
  | .hbm, ⟨16, _⟩ => ⟨S16896x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S1x1024, .f32⟩
  | .local _ .vmem, ⟨12, _⟩ => ⟨S1x1024, .f32⟩
  | .local _ .vmem, ⟨13, _⟩ => ⟨S1x512, .f32⟩
  | .local _ .vmem, ⟨14, _⟩ => ⟨S1024x2048, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c32_i32 : BitVec 32 := 32#32
  let v0 : BitVec 32 := Scalar.addi arg0 c32_i32
  let c33_i32 : BitVec 32 := 33#32
  let c0_i32 : BitVec 32 := 0#32
  let v1 : BitVec 1 := Scalar.cmpi .eq c33_i32 c0_i32
  let c1_i32 : BitVec 32 := 1#32
  let v2 : BitVec 32 := Scalar.select v1 c1_i32 c33_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c4_i32_7 : BitVec 32 := 4#32
  let v14 : BitVec 32 := Scalar.divsi v13 c4_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c4_i32_7 c0_i32_10
  let v21 : BitVec 32 := Scalar.extui v20
  let c0_i32_11 : BitVec 32 := 0#32
  let v22 : BitVec 1 := Scalar.cmpi .slt c4_i32_7 c0_i32_11
  let v23 : BitVec 32 := Scalar.extui v22
  let v24 : BitVec 32 := Scalar.subi v21 v23
  let v25 : BitVec 1 := Scalar.cmpi .ne v19 v24
  let v26 : BitVec 32 := Scalar.remsi v13 c4_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  ![v11.toNat, v30.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c4_i32 : BitVec 32 := 4#32
  let c0_i32_1 : BitVec 32 := 0#32
  let v3 : BitVec 1 := Scalar.cmpi .eq c4_i32 c0_i32_1
  let c1_i32_2 : BitVec 32 := 1#32
  let v4 : BitVec 32 := Scalar.select v3 c1_i32_2 c4_i32
  let v5 : BitVec 32 := Scalar.remsi v1 v4
  let c0_i32_3 : BitVec 32 := 0#32
  let v6 : BitVec 1 := Scalar.cmpi .ne v5 c0_i32_3
  let c0_i32_4 : BitVec 32 := 0#32
  let v7 : BitVec 1 := Scalar.cmpi .slt v5 c0_i32_4
  let c0_i32_5 : BitVec 32 := 0#32
  let v8 : BitVec 1 := Scalar.cmpi .slt v4 c0_i32_5
  let v9 : BitVec 1 := Scalar.xori v7 v8
  let v10 : BitVec 1 := Scalar.andi v9 v6
  let v11 : BitVec 32 := Scalar.addi v5 v4
  let v12 : BitVec 32 := Scalar.select v10 v11 v5
  let c4_i32_6 : BitVec 32 := 4#32
  let v13 : BitVec 32 := Scalar.select v2 c4_i32_6 v12
  let c0_i32_7 : BitVec 32 := 0#32
  let v14 : BitVec 1 := Scalar.cmpi .eq arg0 c0_i32_7
  let c4_i32_8 : BitVec 32 := 4#32
  let v15 : BitVec 32 := Scalar.divsi v1 c4_i32_8
  let c0_i32_9 : BitVec 32 := 0#32
  let v16 : BitVec 1 := Scalar.cmpi .sgt v1 c0_i32_9
  let v17 : BitVec 32 := Scalar.extui v16
  let c0_i32_10 : BitVec 32 := 0#32
  let v18 : BitVec 1 := Scalar.cmpi .slt v1 c0_i32_10
  let v19 : BitVec 32 := Scalar.extui v18
  let v20 : BitVec 32 := Scalar.subi v17 v19
  let c0_i32_11 : BitVec 32 := 0#32
  let v21 : BitVec 1 := Scalar.cmpi .sgt c4_i32_8 c0_i32_11
  let v22 : BitVec 32 := Scalar.extui v21
  let c0_i32_12 : BitVec 32 := 0#32
  let v23 : BitVec 1 := Scalar.cmpi .slt c4_i32_8 c0_i32_12
  let v24 : BitVec 32 := Scalar.extui v23
  let v25 : BitVec 32 := Scalar.subi v22 v24
  let v26 : BitVec 1 := Scalar.cmpi .ne v20 v25
  let v27 : BitVec 32 := Scalar.remsi v1 c4_i32_8
  let c0_i32_13 : BitVec 32 := 0#32
  let v28 : BitVec 1 := Scalar.cmpi .ne v27 c0_i32_13
  let v29 : BitVec 1 := Scalar.andi v26 v28
  let c1_i32_14 : BitVec 32 := 1#32
  let v30 : BitVec 32 := Scalar.subi v15 c1_i32_14
  let v31 : BitVec 32 := Scalar.select v29 v30 v15
  let c0_i32_15 : BitVec 32 := 0#32
  let v32 : BitVec 32 := Scalar.select v14 c0_i32_15 v31
  let c0_i32_16 : BitVec 32 := 0#32
  ![v13.toNat, v32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c32_i32 : BitVec 32 := 32#32
  let v0 : BitVec 32 := Scalar.addi arg0 c32_i32
  let c33_i32 : BitVec 32 := 33#32
  let c0_i32 : BitVec 32 := 0#32
  let v1 : BitVec 1 := Scalar.cmpi .eq c33_i32 c0_i32
  let c1_i32 : BitVec 32 := 1#32
  let v2 : BitVec 32 := Scalar.select v1 c1_i32 c33_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_16 (i : grid0.Coords) : Fin 2 → Nat :=
  let arg0 : BitVec 32 := BitVec.ofNat 32 (i 0).val
  let c32_i32 : BitVec 32 := 32#32
  let v0 : BitVec 32 := Scalar.addi arg0 c32_i32
  let c33_i32 : BitVec 32 := 33#32
  let c0_i32 : BitVec 32 := 0#32
  let v1 : BitVec 1 := Scalar.cmpi .eq c33_i32 c0_i32
  let c1_i32 : BitVec 32 := 1#32
  let v2 : BitVec 32 := Scalar.select v1 c1_i32 c33_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S16384x1024 : Shape := ⟨2, ![16384, 1024]⟩
abbrev S512x1024 : Shape := ⟨2, ![512, 1024]⟩
abbrev S16896x512 : Shape := ⟨2, ![16896, 512]⟩
abbrev S512x512 : Shape := ⟨2, ![512, 512]⟩
abbrev S2048x4096 : Shape := ⟨2, ![2048, 4096]⟩
abbrev S2560x4096 : Shape := ⟨2, ![2560, 4096]⟩
abbrev S1x1024 : Shape := ⟨2, ![1, 1024]⟩
abbrev S1x512 : Shape := ⟨2, ![1, 512]⟩
abbrev S1024x2048 : Shape := ⟨2, ![1024, 2048]⟩
abbrev S1024x1024 : Shape := ⟨2, ![1024, 1024]⟩
abbrev S16896x1024 : Shape := ⟨2, ![16896, 1024]⟩
abbrev S16384x512 : Shape := ⟨2, ![16384, 512]⟩
abbrev S2048x8x512 : Shape := ⟨3, ![2048, 8, 512]⟩
abbrev S8x2048x512 : Shape := ⟨3, ![8, 2048, 512]⟩
abbrev S_ : Shape := ⟨0, ![]⟩
abbrev S16896 : Shape := ⟨1, ![16896]⟩
abbrev S16896x1 : Shape := ⟨2, ![16896, 1]⟩
abbrev S16896x2048 : Shape := ⟨2, ![16896, 2048]⟩

abbrev nBuf : Space → Nat
  | .hbm => 121
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S16896x512, .bf16⟩
  | .hbm, ⟨3, _⟩ => ⟨S512x512, .bf16⟩
  | .hbm, ⟨4, _⟩ => ⟨S2048x4096, .f32⟩
  | .hbm, ⟨5, _⟩ => ⟨S512x512, .f32⟩
  | .hbm, ⟨6, _⟩ => ⟨S2560x4096, .f32⟩
  | .hbm, ⟨7, _⟩ => ⟨S1x1024, .f32⟩
  | .hbm, ⟨8, _⟩ => ⟨S1x1024, .f32⟩
  | .hbm, ⟨9, _⟩ => ⟨S1x512, .f32⟩
  | .hbm, ⟨10, _⟩ => ⟨S1024x2048, .bf16⟩
  | .hbm, ⟨11, _⟩ => ⟨S512x1024, .bf16⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S16896x1024, .f32⟩
  | .hbm, ⟨16, _⟩ => ⟨S16384x512, .bf16⟩
  | .hbm, ⟨17, _⟩ => ⟨S16896x512, .bf16⟩
  | .hbm, ⟨18, _⟩ => ⟨S16896x512, .f32⟩
  | .hbm, ⟨19, _⟩ => ⟨S2048x8x512, .f32⟩
  | .hbm, ⟨20, _⟩ => ⟨S8x2048x512, .f32⟩
  | .hbm, ⟨21, _⟩ => ⟨S16384x512, .f32⟩
  | .hbm, ⟨22, _⟩ => ⟨S16896x512, .f32⟩
  | .hbm, ⟨23, _⟩ => ⟨S2048x4096, .f32⟩
  | .hbm, ⟨24, _⟩ => ⟨S2048x8x512, .f32⟩
  | .hbm, ⟨25, _⟩ => ⟨S8x2048x512, .f32⟩
  | .hbm, ⟨26, _⟩ => ⟨S16384x512, .f32⟩
  | .hbm, ⟨27, _⟩ => ⟨S512x512, .f32⟩
  | .hbm, ⟨28, _⟩ => ⟨S16896x512, .f32⟩
  | .hbm, ⟨29, _⟩ => ⟨S16896x1024, .f32⟩
  | .hbm, ⟨30, _⟩ => ⟨S_, .f32⟩
  | .hbm, ⟨31, _⟩ => ⟨S16896, .f32⟩
  | .hbm, ⟨32, _⟩ => ⟨S16896x1, .f32⟩
  | .hbm, ⟨33, _⟩ => ⟨S_, .f32⟩
  | .hbm, ⟨34, _⟩ => ⟨S16896x1, .f32⟩
  | .hbm, ⟨35, _⟩ => ⟨S16896x1, .f32⟩
  | .hbm, ⟨36, _⟩ => ⟨S_, .f32⟩
  | .hbm, ⟨37, _⟩ => ⟨S16896x1, .f32⟩
  | .hbm, ⟨38, _⟩ => ⟨S16896x1, .f32⟩
  | .hbm, ⟨39, _⟩ => ⟨S16896x1, .f32⟩
  | .hbm, ⟨40, _⟩ => ⟨S16896x1024, .f32⟩
  | .hbm, ⟨41, _⟩ => ⟨S16896x1024, .f32⟩
  | .hbm, ⟨42, _⟩ => ⟨S16896x1024, .f32⟩
  | .hbm, ⟨43, _⟩ => ⟨S16896x1024, .f32⟩
  | .hbm, ⟨44, _⟩ => ⟨S1024x2048, .f32⟩
  | .hbm, ⟨45, _⟩ => ⟨S16896x2048, .f32⟩
  | .hbm, ⟨46, _⟩ => ⟨S16896x512, .f32⟩
  | .hbm, ⟨47, _⟩ => ⟨S16896x512, .f32⟩
  | .hbm, ⟨48, _⟩ => ⟨S16896x512, .f32⟩
  | .hbm, ⟨49, _⟩ => ⟨S16896x512, .f32⟩
  | .hbm, ⟨50, _⟩ => ⟨S16896x512, .f32⟩
  | .hbm, ⟨51, _⟩ => ⟨S_, .f32⟩
  | .hbm, ⟨52, _⟩ => ⟨S16896x512, .f32⟩
  | .hbm, ⟨53, _⟩ => ⟨S16896x512, .f32⟩
  | .hbm, ⟨54, _⟩ => ⟨S16896x512, .f32⟩
  | .hbm, ⟨55, _⟩ => ⟨S_, .f32⟩
  | .hbm, ⟨56, _⟩ => ⟨S16896x512, .f32⟩
  | .hbm, ⟨57, _⟩ => ⟨S16896x512, .f32⟩
  | .hbm, ⟨58, _⟩ => ⟨S16896x512, .f32⟩
  | .hbm, ⟨59, _⟩ => ⟨S_, .f32⟩
  | .hbm, ⟨60, _⟩ => ⟨S16896x512, .f32⟩
  | .hbm, ⟨61, _⟩ => ⟨S16896x512, .f32⟩
  | .hbm, ⟨62, _⟩ => ⟨S_, .f32⟩
  | .hbm, ⟨63, _⟩ => ⟨S16896x512, .f32⟩
  | .hbm, ⟨64, _⟩ => ⟨S16896x512, .f32⟩
  | .hbm, ⟨65, _⟩ => ⟨S16896x512, .f32⟩
  | .hbm, ⟨66, _⟩ => ⟨S512x1024, .f32⟩
  | .hbm, ⟨67, _⟩ => ⟨S16896x1024, .f32⟩
  | .hbm, ⟨68, _⟩ => ⟨S512x1024, .f32⟩
  | .hbm, ⟨69, _⟩ => ⟨S16896x1024, .f32⟩
  | .hbm, ⟨70, _⟩ => ⟨S16896x1024, .f32⟩
  | .hbm, ⟨71, _⟩ => ⟨S16896x1024, .f32⟩
  | .hbm, ⟨72, _⟩ => ⟨S_, .f32⟩
  | .hbm, ⟨73, _⟩ => ⟨S16896x1024, .f32⟩
  | .hbm, ⟨74, _⟩ => ⟨S16896x1024, .f32⟩
  | .hbm, ⟨75, _⟩ => ⟨S_, .f32⟩
  | .hbm, ⟨76, _⟩ => ⟨S16896x1024, .f32⟩
  | .hbm, ⟨77, _⟩ => ⟨S16896x1024, .f32⟩
  | .hbm, ⟨78, _⟩ => ⟨S16896x1024, .f32⟩
  | .hbm, ⟨79, _⟩ => ⟨S512x1024, .f32⟩
  | .hbm, ⟨80, _⟩ => ⟨S16896x1024, .f32⟩
  | .hbm, ⟨81, _⟩ => ⟨S16896x1024, .f32⟩
  | .hbm, ⟨82, _⟩ => ⟨S16896x1024, .f32⟩
  | .hbm, ⟨83, _⟩ => ⟨S16896x1024, .f32⟩
  | .hbm, ⟨84, _⟩ => ⟨S_, .f32⟩
  | .hbm, ⟨85, _⟩ => ⟨S16896x1024, .f32⟩
  | .hbm, ⟨86, _⟩ => ⟨S16896x1024, .f32⟩
  | .hbm, ⟨87, _⟩ => ⟨S_, .f32⟩
  | .hbm, ⟨88, _⟩ => ⟨S16896x1024, .f32⟩
  | .hbm, ⟨89, _⟩ => ⟨S16896x1024, .f32⟩
  | .hbm, ⟨90, _⟩ => ⟨S16896x1024, .f32⟩
  | .hbm, ⟨91, _⟩ => ⟨S16896x1024, .f32⟩
  | .hbm, ⟨92, _⟩ => ⟨S16896x1024, .f32⟩
  | .hbm, ⟨93, _⟩ => ⟨S16896x1024, .f32⟩
  | .hbm, ⟨94, _⟩ => ⟨S_, .f32⟩
  | .hbm, ⟨95, _⟩ => ⟨S16896x1024, .f32⟩
  | .hbm, ⟨96, _⟩ => ⟨S16896x1024, .f32⟩
  | .hbm, ⟨97, _⟩ => ⟨S_, .f32⟩
  | .hbm, ⟨98, _⟩ => ⟨S16896x1024, .f32⟩
  | .hbm, ⟨99, _⟩ => ⟨S16896x1024, .f32⟩
  | .hbm, ⟨100, _⟩ => ⟨S16896x1024, .f32⟩
  | .hbm, ⟨101, _⟩ => ⟨S16896x1024, .f32⟩
  | .hbm, ⟨102, _⟩ => ⟨S1024x1024, .f32⟩
  | .hbm, ⟨103, _⟩ => ⟨S16896x1024, .f32⟩
  | .hbm, ⟨104, _⟩ => ⟨S16896x1024, .f32⟩
  | .hbm, ⟨105, _⟩ => ⟨S16896x1024, .f32⟩
  | .hbm, ⟨106, _⟩ => ⟨S_, .f32⟩
  | .hbm, ⟨107, _⟩ => ⟨S16896, .f32⟩
  | .hbm, ⟨108, _⟩ => ⟨S16896x1, .f32⟩
  | .hbm, ⟨109, _⟩ => ⟨S_, .f32⟩
  | .hbm, ⟨110, _⟩ => ⟨S16896x1, .f32⟩
  | .hbm, ⟨111, _⟩ => ⟨S16896x1, .f32⟩
  | .hbm, ⟨112, _⟩ => ⟨S_, .f32⟩
  | .hbm, ⟨113, _⟩ => ⟨S16896x1, .f32⟩
  | .hbm, ⟨114, _⟩ => ⟨S16896x1, .f32⟩
  | .hbm, ⟨115, _⟩ => ⟨S16896x1, .f32⟩
  | .hbm, ⟨116, _⟩ => ⟨S16896x1024, .f32⟩
  | .hbm, ⟨117, _⟩ => ⟨S16896x1024, .f32⟩
  | .hbm, ⟨118, _⟩ => ⟨S16896x1024, .f32⟩
  | .hbm, ⟨119, _⟩ => ⟨S16896x1024, .f32⟩
  | .hbm, ⟨120, _⟩ => ⟨S16896x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_2 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_6 : Ref sig .tc := ⟨.hbm, 72, rfl⟩
abbrev main_v50 : Ref sig .tc := ⟨.hbm, 73, rfl⟩
abbrev main_v51 : Ref sig .tc := ⟨.hbm, 74, rfl⟩
abbrev main_cst_7 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_8 : Ref sig .tc := ⟨.hbm, 84, rfl⟩
abbrev main_v60 : Ref sig .tc := ⟨.hbm, 85, rfl⟩
abbrev main_v61 : Ref sig .tc := ⟨.hbm, 86, rfl⟩
abbrev main_cst_9 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_10 : Ref sig .tc := ⟨.hbm, 94, rfl⟩
abbrev main_v68 : Ref sig .tc := ⟨.hbm, 95, rfl⟩
abbrev main_v69 : Ref sig .tc := ⟨.hbm, 96, rfl⟩
abbrev main_cst_11 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_12 : Ref sig .tc := ⟨.hbm, 106, rfl⟩
abbrev main_v78 : Ref sig .tc := ⟨.hbm, 107, rfl⟩
abbrev main_v79 : Ref sig .tc := ⟨.hbm, 108, rfl⟩
abbrev main_cst_13 : Ref sig .tc := ⟨.hbm, 109, rfl⟩
abbrev main_v80 : Ref sig .tc := ⟨.hbm, 110, rfl⟩
abbrev main_v81 : Ref sig .tc := ⟨.hbm, 111, rfl⟩
abbrev main_cst_14 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩

abbrev nD : Nat := 1
abbrev τ : Topo := Topo.v7x

variable {F : FTy → Type} [FloatOps F]
-- ==== Kernel4.lean ====
abbrev S16896x1024 : Shape := ⟨2, ![16896, 1024]⟩
abbrev S16384x256 : Shape := ⟨2, ![16384, 256]⟩
abbrev S512x256 : Shape := ⟨2, ![512, 256]⟩
abbrev S1x1024 : Shape := ⟨2, ![1, 1024]⟩
abbrev S1024x1024 : Shape := ⟨2, ![1024, 1024]⟩
abbrev S256x1024 : Shape := ⟨2, ![256, 1024]⟩
abbrev S16384x1024 : Shape := ⟨2, ![16384, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S16896x1024, .f32⟩
  | .hbm, ⟨1, _⟩ => ⟨S16896x1024, .f32⟩
  | .hbm, ⟨2, _⟩ => ⟨S16384x256, .f32⟩
  | .hbm, ⟨3, _⟩ => ⟨S512x256, .f32⟩
  | .hbm, ⟨4, _⟩ => ⟨S1x1024, .f32⟩
  | .hbm, ⟨5, _⟩ => ⟨S1x1024, .f32⟩
  | .hbm, ⟨6, _⟩ => ⟨S1024x1024, .bf16⟩
  | .hbm, ⟨7, _⟩ => ⟨S256x1024, .bf16⟩
  | .hbm, ⟨8, _⟩ => ⟨S16384x1024, .f32⟩
  | .hbm, ⟨9, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S256x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32_24 : BitVec 32 := 0#32
  let v43 : BitVec 1 := Scalar.cmpi .eq arg0 c0_i32_24
  let v44 : BitVec 32 := Scalar.extui v43
  let c0_i32_25 : BitVec 32 := 0#32
  let v45 : BitVec 1 := Scalar.cmpi .ne v44 c0_i32_25
  v45

def cc0_transform_0 (i : grid0.Coords) : Fin 2 → Nat :=
  let arg0 : BitVec 32 := BitVec.ofNat 32 (i 0).val
  let c32_i32 : BitVec 32 := 32#32
  let v0 : BitVec 32 := Scalar.addi arg0 c32_i32
  let c33_i32 : BitVec 32 := 33#32
  let c0_i32 : BitVec 32 := 0#32
  let v1 : BitVec 1 := Scalar.cmpi .eq c33_i32 c0_i32
  let c1_i32 : BitVec 32 := 1#32
  let v2 : BitVec 32 := Scalar.select v1 c1_i32 c33_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_1 (i : grid0.Coords) : Fin 2 → Nat :=
  let arg0 : BitVec 32 := BitVec.ofNat 32 (i 0).val
  let c32_i32 : BitVec 32 := 32#32
  let v0 : BitVec 32 := Scalar.addi arg0 c32_i32
  let c33_i32 : BitVec 32 := 33#32
  let c0_i32 : BitVec 32 := 0#32
  let v1 : BitVec 1 := Scalar.cmpi .eq c33_i32 c0_i32
  let c1_i32 : BitVec 32 := 1#32
  let v2 : BitVec 32 := Scalar.select v1 c1_i32 c33_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S16896x1024 : Shape := ⟨2, ![16896, 1024]⟩
abbrev S16384x256 : Shape := ⟨2, ![16384, 256]⟩
abbrev S512x256 : Shape := ⟨2, ![512, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S16896 : Shape := ⟨1, ![16896]⟩
abbrev S16896x1 : Shape := ⟨2, ![16896, 1]⟩
abbrev S16896x256 : Shape := ⟨2, ![16896, 256]⟩
abbrev S16384x1024 : Shape := ⟨2, ![16384, 1024]⟩
abbrev S512x1024 : Shape := ⟨2, ![512, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16896x1024, .f32⟩
  | .hbm, ⟨2, _⟩ => ⟨S16384x256, .f32⟩
  | .hbm, ⟨3, _⟩ => ⟨S512x256, .f32⟩
  | .hbm, ⟨4, _⟩ => ⟨S1x1024, .f32⟩
  | .hbm, ⟨5, _⟩ => ⟨S1x1024, .f32⟩
  | .hbm, ⟨6, _⟩ => ⟨S1024x1024, .bf16⟩
  | .hbm, ⟨7, _⟩ => ⟨S256x1024, .bf16⟩
  | .hbm, ⟨8, _⟩ => ⟨S16896x1024, .f32⟩
  | .hbm, ⟨9, _⟩ => ⟨S16896x1024, .f32⟩
  | .hbm, ⟨10, _⟩ => ⟨S_, .f32⟩
  | .hbm, ⟨11, _⟩ => ⟨S16896, .f32⟩
  | .hbm, ⟨12, _⟩ => ⟨S16896x1, .f32⟩
  | .hbm, ⟨13, _⟩ => ⟨S_, .f32⟩
  | .hbm, ⟨14, _⟩ => ⟨S16896x1, .f32⟩
  | .hbm, ⟨15, _⟩ => ⟨S16896x1, .f32⟩
  | .hbm, ⟨16, _⟩ => ⟨S_, .f32⟩
  | .hbm, ⟨17, _⟩ => ⟨S16896x1, .f32⟩
  | .hbm, ⟨18, _⟩ => ⟨S16896x1, .f32⟩
  | .hbm, ⟨19, _⟩ => ⟨S16896x1, .f32⟩
  | .hbm, ⟨20, _⟩ => ⟨S16896x1024, .f32⟩
  | .hbm, ⟨21, _⟩ => ⟨S16896x1024, .f32⟩
  | .hbm, ⟨22, _⟩ => ⟨S16896x1024, .f32⟩
  | .hbm, ⟨23, _⟩ => ⟨S16896x1024, .f32⟩
  | .hbm, ⟨24, _⟩ => ⟨S1024x1024, .f32⟩
  | .hbm, ⟨25, _⟩ => ⟨S16896x1024, .f32⟩
  | .hbm, ⟨26, _⟩ => ⟨S16896x1024, .f32⟩
  | .hbm, ⟨27, _⟩ => ⟨S16896x1024, .f32⟩
  | .hbm, ⟨28, _⟩ => ⟨S_, .f32⟩
  | .hbm, ⟨29, _⟩ => ⟨S16896x1024, .f32⟩
  | .hbm, ⟨30, _⟩ => ⟨S16896x1024, .f32⟩
  | .hbm, ⟨31, _⟩ => ⟨S_, .f32⟩
  | .hbm, ⟨32, _⟩ => ⟨S16896x1024, .f32⟩
  | .hbm, ⟨33, _⟩ => ⟨S16896x1024, .f32⟩
  | .hbm, ⟨34, _⟩ => ⟨S16896x256, .f32⟩
  | .hbm, ⟨35, _⟩ => ⟨S256x1024, .f32⟩
  | .hbm, ⟨36, _⟩ => ⟨S16896x1024, .f32⟩
  | .hbm, ⟨37, _⟩ => ⟨S16896x1024, .f32⟩
  | .hbm, ⟨38, _⟩ => ⟨S16896x1024, .f32⟩
  | .hbm, ⟨39, _⟩ => ⟨S16896x1024, .f32⟩
  | .hbm, ⟨40, _⟩ => ⟨S_, .f32⟩
  | .hbm, ⟨41, _⟩ => ⟨S16896, .f32⟩
  | .hbm, ⟨42, _⟩ => ⟨S16896x1, .f32⟩
  | .hbm, ⟨43, _⟩ => ⟨S_, .f32⟩
  | .hbm, ⟨44, _⟩ => ⟨S16896x1, .f32⟩
  | .hbm, ⟨45, _⟩ => ⟨S16896x1, .f32⟩
  | .hbm, ⟨46, _⟩ => ⟨S_, .f32⟩
  | .hbm, ⟨47, _⟩ => ⟨S16896x1, .f32⟩
  | .hbm, ⟨48, _⟩ => ⟨S16896x1, .f32⟩
  | .hbm, ⟨49, _⟩ => ⟨S16896x1, .f32⟩
  | .hbm, ⟨50, _⟩ => ⟨S16896x1024, .f32⟩
  | .hbm, ⟨51, _⟩ => ⟨S16896x1024, .f32⟩
  | .hbm, ⟨52, _⟩ => ⟨S16896x1024, .f32⟩
  | .hbm, ⟨53, _⟩ => ⟨S16896x1024, .f32⟩
  | .hbm, ⟨54, _⟩ => ⟨S16384x1024, .f32⟩
  | .hbm, ⟨55, _⟩ => ⟨S512x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Kernel5.lean ====
abbrev S32x512 : Shape := ⟨2, ![32, 512]⟩
abbrev S32x2048 : Shape := ⟨2, ![32, 2048]⟩
abbrev S32x64 : Shape := ⟨2, ![32, 64]⟩
abbrev S32x64x16 : Shape := ⟨3, ![32, 64, 16]⟩
abbrev S32x16x64 : Shape := ⟨3, ![32, 16, 64]⟩
abbrev S8x8 : Shape := ⟨2, ![8, 8]⟩
abbrev S_ : Shape := ⟨0, ![]⟩
abbrev S4x8x64x16 : Shape := ⟨4, ![4, 8, 64, 16]⟩
abbrev S4x8x16x64 : Shape := ⟨4, ![4, 8, 16, 64]⟩
abbrev S4x8x16x1x64 : Shape := ⟨5, ![4, 8, 16, 1, 64]⟩
abbrev S8x1x8x1 : Shape := ⟨4, ![8, 1, 8, 1]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S4x128x1024 : Shape := ⟨3, ![4, 128, 1024]⟩
abbrev S4x8x64x1x16 : Shape := ⟨5, ![4, 8, 64, 1, 16]⟩
abbrev S4x8x64x8x16 : Shape := ⟨5, ![4, 8, 64, 8, 16]⟩
abbrev S4x512x128 : Shape := ⟨3, ![4, 512, 128]⟩
abbrev S1x2048 : Shape := ⟨2, ![1, 2048]⟩
abbrev S32x4096 : Shape := ⟨2, ![32, 4096]⟩
abbrev S32x128 : Shape := ⟨2, ![32, 128]⟩
abbrev S1x128x1024 : Shape := ⟨3, ![1, 128, 1024]⟩
abbrev S128x1024 : Shape := ⟨2, ![128, 1024]⟩
abbrev S32x1024 : Shape := ⟨2, ![32, 1024]⟩
abbrev S1x512x128 : Shape := ⟨3, ![1, 512, 128]⟩
abbrev S512x128 : Shape := ⟨2, ![512, 128]⟩

abbrev nBuf : Space → Nat
  | .hbm => 61
  | .vmem => 16
  | .smem => 0
  | _ => 0

abbrev bufTy : (tb : Table) → Fin (tcTables nBuf tb) → BufTy
  | .hbm, ⟨0, _⟩ => ⟨S32x512, .f32⟩
  | .hbm, ⟨1, _⟩ => ⟨S32x2048, .f32⟩
  | .hbm, ⟨2, _⟩ => ⟨S32x2048, .f32⟩
  | .hbm, ⟨3, _⟩ => ⟨S32x64, .f32⟩
  | .hbm, ⟨4, _⟩ => ⟨S32x64, .f32⟩
  | .hbm, ⟨5, _⟩ => ⟨S32x64x16, .f32⟩
  | .hbm, ⟨6, _⟩ => ⟨S32x64x16, .f32⟩
  | .hbm, ⟨7, _⟩ => ⟨S32x16x64, .f32⟩
  | .hbm, ⟨8, _⟩ => ⟨S32x16x64, .f32⟩
  | .hbm, ⟨9, _⟩ => ⟨S8x8, .i32⟩
  | .hbm, ⟨10, _⟩ => ⟨S8x8, .i32⟩
  | .hbm, ⟨11, _⟩ => ⟨S_, .i32⟩
  | .hbm, ⟨12, _⟩ => ⟨S8x8, .i32⟩
  | .hbm, ⟨13, _⟩ => ⟨S8x8, .i32⟩
  | .hbm, ⟨14, _⟩ => ⟨S8x8, .i1⟩
  | .hbm, ⟨15, _⟩ => ⟨S8x8, .f32⟩
  | .hbm, ⟨16, _⟩ => ⟨S4x8x64x16, .f32⟩
  | .hbm, ⟨17, _⟩ => ⟨S4x8x16x64, .f32⟩
  | .hbm, ⟨18, _⟩ => ⟨S4x8x16x1x64, .f32⟩
  | .hbm, ⟨19, _⟩ => ⟨S8x1x8x1, .f32⟩
  | .hbm, ⟨20, _⟩ => ⟨S1x8x1x8x1, .f32⟩
  | .hbm, ⟨21, _⟩ => ⟨S4x8x16x8x64, .f32⟩
  | .hbm, ⟨22, _⟩ => ⟨S4x8x16x8x64, .f32⟩
  | .hbm, ⟨23, _⟩ => ⟨S4x8x16x8x64, .f32⟩
  | .hbm, ⟨24, _⟩ => ⟨S4x128x512, .f32⟩
  | .hbm, ⟨25, _⟩ => ⟨S4x8x64x16, .f32⟩
  | .hbm, ⟨26, _⟩ => ⟨S4x8x16x64, .f32⟩
  | .hbm, ⟨27, _⟩ => ⟨S4x8x16x1x64, .f32⟩
  | .hbm, ⟨28, _⟩ => ⟨S8x1x8x1, .f32⟩
  | .hbm, ⟨29, _⟩ => ⟨S1x8x1x8x1, .f32⟩
  | .hbm, ⟨30, _⟩ => ⟨S4x8x16x8x64, .f32⟩
  | .hbm, ⟨31, _⟩ => ⟨S4x8x16x8x64, .f32⟩
  | .hbm, ⟨32, _⟩ => ⟨S4x8x16x8x64, .f32⟩
  | .hbm, ⟨33, _⟩ => ⟨S4x128x512, .f32⟩
  | .hbm, ⟨34, _⟩ => ⟨S4x128x1024, .f32⟩
  | .hbm, ⟨35, _⟩ => ⟨S4x128x1024, .bf16⟩
  | .hbm, ⟨36, _⟩ => ⟨S4x8x16x64, .f32⟩
  | .hbm, ⟨37, _⟩ => ⟨S4x8x64x16, .f32⟩
  | .hbm, ⟨38, _⟩ => ⟨S4x8x64x1x16, .f32⟩
  | .hbm, ⟨39, _⟩ => ⟨S8x1x8x1, .f32⟩
  | .hbm, ⟨40, _⟩ => ⟨S1x8x1x8x1, .f32⟩
  | .hbm, ⟨41, _⟩ => ⟨S4x8x64x8x16, .f32⟩
  | .hbm, ⟨42, _⟩ => ⟨S4x8x64x8x16, .f32⟩
  | .hbm, ⟨43, _⟩ => ⟨S4x8x64x8x16, .f32⟩
  | .hbm, ⟨44, _⟩ => ⟨S4x512x128, .f32⟩
  | .hbm, ⟨45, _⟩ => ⟨S4x512x128, .bf16⟩
  | .hbm, ⟨46, _⟩ => ⟨S4x8x16x64, .f32⟩
  | .hbm, ⟨47, _⟩ => ⟨S4x8x64x16, .f32⟩
  | .hbm, ⟨48, _⟩ => ⟨S4x8x64x1x16, .f32⟩
  | .hbm, ⟨49, _⟩ => ⟨S8x1x8x1, .f32⟩
  | .hbm, ⟨50, _⟩ => ⟨S1x8x1x8x1, .f32⟩
  | .hbm, ⟨51, _⟩ => ⟨S4x8x64x8x16, .f32⟩
  | .hbm, ⟨52, _⟩ => ⟨S4x8x64x8x16, .f32⟩
  | .hbm, ⟨53, _⟩ => ⟨S4x8x64x8x16, .f32⟩
  | .hbm, ⟨54, _⟩ => ⟨S4x512x128, .f32⟩
  | .hbm, ⟨55, _⟩ => ⟨S4x512x128, .bf16⟩
  | .hbm, ⟨56, _⟩ => ⟨S1x2048, .f32⟩
  | .hbm, ⟨57, _⟩ => ⟨S1x2048, .f32⟩
  | .hbm, ⟨58, _⟩ => ⟨S32x512, .f32⟩
  | .hbm, ⟨59, _⟩ => ⟨S32x2048, .f32⟩
  | .hbm, ⟨60, _⟩ => ⟨S32x2048, .f32⟩
  | .local _ .vmem, ⟨0, _⟩ => ⟨S32x512, .f32⟩
  | .local _ .vmem, ⟨1, _⟩ => ⟨S32x2048, .f32⟩
  | .local _ .vmem, ⟨2, _⟩ => ⟨S32x2048, .f32⟩
  | .local _ .vmem, ⟨3, _⟩ => ⟨S1x2048, .f32⟩
  | .local _ .vmem, ⟨4, _⟩ => ⟨S1x2048, .f32⟩
  | .local _ .vmem, ⟨5, _⟩ => ⟨S4x128x1024, .bf16⟩
  | .local _ .vmem, ⟨6, _⟩ => ⟨S4x512x128, .bf16⟩
  | .local _ .vmem, ⟨7, _⟩ => ⟨S4x512x128, .bf16⟩
  | .local _ .vmem, ⟨8, _⟩ => ⟨S32x512, .f32⟩
  | .local _ .vmem, ⟨9, _⟩ => ⟨S32x2048, .f32⟩
  | .local _ .vmem, ⟨10, _⟩ => ⟨S32x2048, .f32⟩
  | .local _ .vmem, ⟨11, _⟩ => ⟨S32x4096, .f32⟩
  | .local _ .vmem, ⟨12, _⟩ => ⟨S32x2048, .f32⟩
  | .local _ .vmem, ⟨13, _⟩ => ⟨S32x2048, .f32⟩
  | .local _ .vmem, ⟨14, _⟩ => ⟨S32x2048, .f32⟩
  | .local _ .vmem, ⟨15, _⟩ => ⟨S32x2048, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48_0 : Ref sig .tc := ⟨.hbm, 58, rfl⟩
abbrev main_v48_1 : Ref sig .tc := ⟨.hbm, 59, rfl⟩
abbrev main_v48_2 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def k0_mult1 : BitVec 32 :=
  let c0_i32_31 : BitVec 32 := 0#32
  let c32_i32 : BitVec 32 := 32#32
  let v63 : BitVec 32 := Scalar.muli c0_i32_31 c32_i32
  v63
def k0_off1 : Fin 2 → Nat :=
  let c0_i32_31 : BitVec 32 := 0#32
  let c32_i32 : BitVec 32 := 32#32
  let v63 : BitVec 32 := Scalar.muli c0_i32_31 c32_i32
  let v64 : BitVec 32 := v63
  let v68 : Index := Scalar.indexCast v64
  let c0_32 : Index := 0#32
  ![v68.toNat, 0]
def k0_off2 : Fin 2 → Nat :=
  let c0_i32_31 : BitVec 32 := 0#32
  let c32_i32 : BitVec 32 := 32#32
  let v63 : BitVec 32 := Scalar.muli c0_i32_31 c32_i32
  let v64 : BitVec 32 := v63
  let v74 : Index := Scalar.indexCast v64
  let c2048_33 : Index := 2048#32
  ![v74.toNat, 2048]
def k0_off3 : Fin 2 → Nat :=
  let c0_i32_31 : BitVec 32 := 0#32
  let c32_i32 : BitVec 32 := 32#32
  let v63 : BitVec 32 := Scalar.muli c0_i32_31 c32_i32
  let v64 : BitVec 32 := v63
  let v77 : Index := Scalar.indexCast v64
  let c0_34 : Index := 0#32
  ![v77.toNat, 0]
def k0_cond2 (i : grid0.Coords) : BitVec 1 :=
  let arg0 : BitVec 32 := BitVec.ofNat 32 (i 0).val
  let c0_i32_93 : BitVec 32 := 0#32
  let v139 : BitVec 1 := Scalar.cmpi .eq arg0 c0_i32_93
  let v140 : BitVec 32 := Scalar.extui v139
  let c0_i32_94 : BitVec 32 := 0#32
  let v141 : BitVec 1 := Scalar.cmpi .ne v140 c0_i32_94
  v141

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference5Ideal.lean ====
abbrev S32x512 : Shape := ⟨2, ![32, 512]⟩
abbrev S32x2048 : Shape := ⟨2, ![32, 2048]⟩
abbrev S32x64 : Shape := ⟨2, ![32, 64]⟩
abbrev S32x64x16 : Shape := ⟨3, ![32, 64, 16]⟩
abbrev S32x16x64 : Shape := ⟨3, ![32, 16, 64]⟩
abbrev S32x32x16 : Shape := ⟨3, ![32, 32, 16]⟩
abbrev S32x32x64 : Shape := ⟨3, ![32, 32, 64]⟩
abbrev S32x64x32 : Shape := ⟨3, ![32, 64, 32]⟩
abbrev S1x32x64 : Shape := ⟨3, ![1, 32, 64]⟩
abbrev S32x16x32 : Shape := ⟨3, ![32, 16, 32]⟩

abbrev nBuf : Space → Nat
  | .hbm => 40
  | .vmem => 0
  | .smem => 0
  | _ => 0

abbrev bufTy : (tb : Table) → Fin (tcTables nBuf tb) → BufTy
  | .hbm, ⟨0, _⟩ => ⟨S32x512, .f32⟩
  | .hbm, ⟨1, _⟩ => ⟨S32x2048, .f32⟩
  | .hbm, ⟨2, _⟩ => ⟨S32x2048, .f32⟩
  | .hbm, ⟨3, _⟩ => ⟨S32x64, .f32⟩
  | .hbm, ⟨4, _⟩ => ⟨S32x64, .f32⟩
  | .hbm, ⟨5, _⟩ => ⟨S32x64x16, .f32⟩
  | .hbm, ⟨6, _⟩ => ⟨S32x64x16, .f32⟩
  | .hbm, ⟨7, _⟩ => ⟨S32x16x64, .f32⟩
  | .hbm, ⟨8, _⟩ => ⟨S32x16x64, .f32⟩
  | .hbm, ⟨9, _⟩ => ⟨S32x32x16, .f32⟩
  | .hbm, ⟨10, _⟩ => ⟨S32x32x64, .f32⟩
  | .hbm, ⟨11, _⟩ => ⟨S32x32x64, .f32⟩
  | .hbm, ⟨12, _⟩ => ⟨S32x64x32, .f32⟩
  | .hbm, ⟨13, _⟩ => ⟨S32x32x64, .f32⟩
  | .hbm, ⟨14, _⟩ => ⟨S32x64x32, .f32⟩
  | .hbm, ⟨15, _⟩ => ⟨S32x32x64, .f32⟩
  | .hbm, ⟨16, _⟩ => ⟨S1x32x64, .f32⟩
  | .hbm, ⟨17, _⟩ => ⟨S32x32x64, .f32⟩
  | .hbm, ⟨18, _⟩ => ⟨S32x32x64, .f32⟩
  | .hbm, ⟨19, _⟩ => ⟨S1x32x64, .f32⟩
  | .hbm, ⟨20, _⟩ => ⟨S32x32x64, .f32⟩
  | .hbm, ⟨21, _⟩ => ⟨S32x32x64, .f32⟩
  | .hbm, ⟨22, _⟩ => ⟨S32x32x64, .f32⟩
  | .hbm, ⟨23, _⟩ => ⟨S32x32x64, .f32⟩
  | .hbm, ⟨24, _⟩ => ⟨S1x32x64, .f32⟩
  | .hbm, ⟨25, _⟩ => ⟨S32x32x64, .f32⟩
  | .hbm, ⟨26, _⟩ => ⟨S32x32x64, .f32⟩
  | .hbm, ⟨27, _⟩ => ⟨S1x32x64, .f32⟩
  | .hbm, ⟨28, _⟩ => ⟨S32x32x64, .f32⟩
  | .hbm, ⟨29, _⟩ => ⟨S32x32x64, .f32⟩
  | .hbm, ⟨30, _⟩ => ⟨S32x32x64, .f32⟩
  | .hbm, ⟨31, _⟩ => ⟨S32x32x64, .f32⟩
  | .hbm, ⟨32, _⟩ => ⟨S32x16x32, .f32⟩
  | .hbm, ⟨33, _⟩ => ⟨S32x32x16, .f32⟩
  | .hbm, ⟨34, _⟩ => ⟨S32x16x32, .f32⟩
  | .hbm, ⟨35, _⟩ => ⟨S32x32x16, .f32⟩
  | .hbm, ⟨36, _⟩ => ⟨S32x32x16, .f32⟩
  | .hbm, ⟨37, _⟩ => ⟨S32x512, .f32⟩
  | .hbm, ⟨38, _⟩ => ⟨S32x2048, .f32⟩
  | .hbm, ⟨39, _⟩ => ⟨S32x2048, .f32⟩
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Proof.AttnMath.lean ====
module

public import Idealize.ShloMosaic.PureOps.Ideal
public import Idealize.ShloMosaic.Lib.Pointwise

@[expose] public section

/-!
# Softmax over extended reals, kept block by block

One row of attention: scores `G k` (never `⊤`; `⊥` where masked) and values `V k` for the keys `k`.
`Online n m l a` says what the running maximum, the running weight and the running weighted sum hold after
`n` blocks of 256 keys, for whatever real number the running maximum happens to be.
-/

noncomputable section

namespace Cert.AttnMath

open Idealize.ShloMosaic

/-- The weight of a score against a real reference point, as a real number. -/
def wt (s : EReal) (M : ℝ) : ℝ := if s = ⊥ then 0 else Real.exp (s.toReal - M)

theorem wt_nonneg (s : EReal) (M : ℝ) : 0 ≤ wt s M := by
  unfold wt; split
  · exact le_rfl
  · exact (Real.exp_pos _).le

theorem wt_pos {s : EReal} (h : s ≠ ⊥) (M : ℝ) : 0 < wt s M := by
  unfold wt; rw [if_neg h]; exact Real.exp_pos _

theorem exp_sub_coe {s : EReal} (h : s ≠ ⊤) (M : ℝ) : Ideal.exp (s - (M : EReal)) = ((wt s M : ℝ) : EReal) := by
  induction s with
  | bot => simp [wt]
  | top => exact absurd rfl h
  | coe r => rw [← EReal.coe_sub, Ideal.exp_coe]; simp [wt]

theorem wt_shift (s : EReal) (M M' : ℝ) : wt s M' = Real.exp (M - M') * wt s M := by
  unfold wt; split
  · simp
  · rw [← Real.exp_add]; congr 1; ring

theorem wt_add (s : EReal) (κ M : ℝ) (h : s ≠ ⊤) : wt (s + (κ : EReal)) M = wt s (M - κ) := by
  induction s with
  | bot => simp [wt]
  | top => exact absurd rfl h
  | coe r =>
    rw [← EReal.coe_add, wt, wt, if_neg (EReal.coe_ne_bot _), if_neg (EReal.coe_ne_bot _), EReal.toReal_coe, EReal.toReal_coe]
    congr 1; ring

/-- A maximum folded from `⊥` is real when no entry is `⊤` and some entry is not `⊥`. -/
theorem fold_max_real {ι : Type} (t : Finset ι) (s : ι → EReal) (ht : ∀ i ∈ t, s i ≠ ⊤) :
    (∃ i ∈ t, s i ≠ ⊥) → ∃ M : ℝ, t.fold max ⊥ s = (M : EReal) := by
  classical
  rintro ⟨i, hi, hs⟩
  have h1 : t.fold max ⊥ s ≠ ⊤ := by
    have : t.fold max ⊥ s < ⊤ := by
      rw [Finset.fold_max_lt]
      exact ⟨bot_lt_top, fun x hx => lt_top_iff_ne_top.2 (ht x hx)⟩
    exact this.ne
  have h2 : t.fold max ⊥ s ≠ ⊥ := by
    have : s i ≤ t.fold max ⊥ s := by
      rw [Finset.le_fold_max]; exact Or.inr ⟨i, hi, le_rfl⟩
    exact fun e => hs (le_bot_iff.1 (e ▸ this))
  exact ⟨_, (EReal.coe_toReal h1 h2).symm⟩

/-- What the running maximum, weight and weighted sum hold after `n` blocks of 256 keys. -/
def Online (G V : ℕ → EReal) (n : ℕ) (m l a : EReal) : Prop :=
  (n = 0 ∧ m = ⊥ ∧ l = 0 ∧ a = 0) ∨
  ∃ M : ℝ, m = (M : EReal) ∧ l = ((∑ k ∈ Finset.range (256 * n), wt (G k) M : ℝ) : EReal) ∧
    a = ∑ k ∈ Finset.range (256 * n), ((wt (G k) M : ℝ) : EReal) * V k

theorem coe_sum {ι : Type} (t : Finset ι) (f : ι → ℝ) : ((∑ k ∈ t, f k : ℝ) : EReal) = ∑ k ∈ t, ((f k : ℝ) : EReal) := by
  classical
  induction t using Finset.induction with
  | empty => simp
  | insert a s ha ih => rw [Finset.sum_insert ha, Finset.sum_insert ha, EReal.coe_add, ih]

theorem mul_sum_real {ι : Type} (t : Finset ι) (c : ℝ) (hc : 0 ≤ c) (f : ι → EReal) :
    (c : EReal) * ∑ k ∈ t, f k = ∑ k ∈ t, (c : EReal) * f k := by
  classical
  induction t using Finset.induction with
  | empty => simp
  | insert a s ha ih =>
    rw [Finset.sum_insert ha, Finset.sum_insert ha,
      EReal.left_distrib_of_nonneg_of_ne_top (by exact_mod_cast hc) (EReal.coe_ne_top c), ih]

/-- One block: the update of the three running values keeps `Online`. -/
theorem Online.step {G V : ℕ → EReal} {n : ℕ} {m l a : EReal} (h : Online G V n m l a)
    (s v : Fin 256 → EReal) (hs : ∀ x, s x = G (256 * n + x.val)) (hv : ∀ x, v x = V (256 * n + x.val))
    (ht : ∀ k, G k ≠ ⊤) (hb : ∃ x, s x ≠ ⊥) :
    Online G V (n + 1) (max m (Finset.univ.fold max ⊥ s))
      (Ideal.exp (m - max m (Finset.univ.fold max ⊥ s)) * l + ∑ x, Ideal.exp (s x - max m (Finset.univ.fold max ⊥ s)))
      (Ideal.exp (m - max m (Finset.univ.fold max ⊥ s)) * a
        + ∑ x, Ideal.exp (s x - max m (Finset.univ.fold max ⊥ s)) * v x) := by
  have hst : ∀ x, s x ≠ ⊤ := fun x => by rw [hs]; exact ht _
  obtain ⟨B, hB⟩ := fold_max_real Finset.univ s (fun x _ => hst x) (by obtain ⟨x, hx⟩ := hb; exact ⟨x, Finset.mem_univ _, hx⟩)
  rw [hB]
  have hsum : ∀ M : ℝ, ∑ x : Fin 256, Ideal.exp (s x - (M : EReal))
      = ((∑ k ∈ Finset.range 256, wt (G (256 * n + k)) M : ℝ) : EReal) := fun M => by
    rw [coe_sum, Finset.sum_range]
    exact Finset.sum_congr rfl fun x _ => by rw [exp_sub_coe (hst x), hs]
  have hsumv : ∀ M : ℝ, ∑ x : Fin 256, Ideal.exp (s x - (M : EReal)) * v x
      = ∑ k ∈ Finset.range 256, ((wt (G (256 * n + k)) M : ℝ) : EReal) * V (256 * n + k) := fun M => by
    rw [Finset.sum_range]
    exact Finset.sum_congr rfl fun x _ => by rw [exp_sub_coe (hst x), hs, hv]
  right
  rcases h with ⟨h0, rfl, rfl, rfl⟩ | ⟨M, rfl, rfl, rfl⟩
  · subst h0
    refine ⟨B, by simp, ?_, ?_⟩
    · rw [max_eq_right bot_le, hsum]; simp
    · rw [max_eq_right bot_le, hsumv]; simp
  · have hM : max (M : EReal) (B : EReal) = ((max M B : ℝ) : EReal) := (EReal.coe_strictMono.monotone.map_max).symm
    refine ⟨max M B, hM, ?_, ?_⟩
    · rw [hM, hsum, ← EReal.coe_sub, Ideal.exp_coe, ← EReal.coe_mul, ← EReal.coe_add, Nat.mul_succ, Finset.sum_range_add,
        Finset.mul_sum]
      congr 2
      exact Finset.sum_congr rfl fun k _ => (wt_shift _ _ _).symm
    · rw [hM, hsumv, ← EReal.coe_sub, Ideal.exp_coe, Nat.mul_succ, Finset.sum_range_add, mul_sum_real _ _ (Real.exp_pos _).le]
      congr 1
      exact Finset.sum_congr rfl fun k _ => by rw [← mul_assoc, ← EReal.coe_mul, ← wt_shift]

/-- The finished row: the weighted sum over the weight is the softmax of any shift of the scores. -/
theorem Online.finish {G V : ℕ → EReal} {n N : ℕ} {m l a : EReal} (h : Online G V n m l a) (hn : 256 * n ≤ N)
    (h0 : n ≠ 0) (hG : ∀ k, 256 * n ≤ k → G k = ⊥) (ht : ∀ k, G k ≠ ⊤) (k0 : ℕ) (hk0 : k0 < 256 * n) (hk : G k0 ≠ ⊥)
    (κ : ℝ) (s v : Fin N → EReal) (hs : ∀ k, s k = G k.val + (κ : EReal)) (hv : ∀ k, v k = V k.val) :
    Ideal.div a l = ∑ k, Ideal.div (Ideal.exp (s k - Finset.univ.fold max ⊥ s))
      (∑ j, Ideal.exp (s j - Finset.univ.fold max ⊥ s)) * v k := by
  rcases h with ⟨e, -⟩ | ⟨M, rfl, rfl, rfl⟩
  · exact absurd e h0
  have hst : ∀ k, s k ≠ ⊤ := fun k => by
    rw [hs]
    have := ht k.val
    generalize G k.val = g at this
    induction g with
    | bot => simp
    | top => exact absurd rfl this
    | coe r => rw [← EReal.coe_add]; exact EReal.coe_ne_top _
  have hsb : s ⟨k0, lt_of_lt_of_le hk0 hn⟩ ≠ ⊥ := by
    rw [hs]
    show G k0 + _ ≠ ⊥
    generalize G k0 = g at hk
    induction g with
    | bot => exact absurd rfl hk
    | top => simp
    | coe r => rw [← EReal.coe_add]; exact EReal.coe_ne_bot _
  obtain ⟨B, hB⟩ := fold_max_real Finset.univ s (fun x _ => hst x) ⟨_, Finset.mem_univ _, hsb⟩
  rw [hB]
  have hw : ∀ k : Fin N, wt (s k) B = Real.exp (M + κ - B) * wt (G k.val) M := fun k => by
    rw [hs, wt_add _ _ _ (ht _), wt_shift _ M (B - κ)]; congr 2; ring
  have hz : ∀ k, 256 * n ≤ k → wt (G k) M = 0 := fun k hk => by rw [hG k hk]; simp [wt]
  have hL : (0 : ℝ) < ∑ k ∈ Finset.range (256 * n), wt (G k) M :=
    Finset.sum_pos' (fun _ _ => wt_nonneg _ _) ⟨k0, Finset.mem_range.2 hk0, wt_pos hk _⟩
  have hext : ∑ k ∈ Finset.range N, wt (G k) M = ∑ k ∈ Finset.range (256 * n), wt (G k) M :=
    (Finset.sum_subset (Finset.range_mono hn) fun k _ hk => hz k (by simpa using hk)).symm
  have hext' : ∑ k ∈ Finset.range N, ((wt (G k) M : ℝ) : EReal) * V k
      = ∑ k ∈ Finset.range (256 * n), ((wt (G k) M : ℝ) : EReal) * V k :=
    (Finset.sum_subset (Finset.range_mono hn) fun k _ hk => by rw [hz k (by simpa using hk)]; simp).symm
  have hden : ∑ j, Ideal.exp (s j - (B : EReal))
      = ((Real.exp (M + κ - B) * ∑ k ∈ Finset.range (256 * n), wt (G k) M : ℝ) : EReal) := by
    rw [← hext, Finset.mul_sum, Finset.sum_range, coe_sum]
    exact Finset.sum_congr rfl fun k _ => by rw [exp_sub_coe (hst k), hw]
  rw [hden, ← hext', Ideal.div_coe hL.ne', mul_comm, mul_sum_real _ _ (by positivity), Finset.sum_range]
  refine Finset.sum_congr rfl fun k _ => ?_
  have hE := Real.exp_pos (M + κ - B)
  rw [exp_sub_coe (hst k), hw, Ideal.div_coe (mul_pos hE hL).ne', hv, ← mul_assoc, ← EReal.coe_mul, ← EReal.coe_mul]
  congr 2
  field_simp

/-- One step of the prefix sums taken by doubling: each entry gains the one `d` places before it. -/
def shiftAdd (d : ℕ) (c : ℕ → EReal) (k : ℕ) : EReal := c k + if d ≤ k then c (k - d) else 0

/-- The sum of the last `n` entries up to `k`. -/
def win (a : ℕ → EReal) (n k : ℕ) : EReal := ∑ s ∈ (Finset.range (k + 1)).filter (fun s => k < s + n), a s

theorem win_one (a : ℕ → EReal) (k : ℕ) : win a 1 k = a k := by
  unfold win
  rw [Finset.sum_eq_single_of_mem k (by simp)]
  intro b hb hne
  simp at hb
  omega

theorem shiftAdd_win (a : ℕ → EReal) (n k : ℕ) : shiftAdd n (win a n) k = win a (2 * n) k := by
  unfold shiftAdd win
  by_cases h : n ≤ k
  · rw [if_pos h, ← Finset.sum_union]
    · refine Finset.sum_congr (Finset.ext fun s => ?_) fun _ _ => rfl
      simp only [Finset.mem_union, Finset.mem_filter, Finset.mem_range]
      omega
    · rw [Finset.disjoint_left]
      intro s hs hs'
      simp only [Finset.mem_filter, Finset.mem_range] at hs hs'
      omega
  · rw [if_neg h, add_zero]
    refine Finset.sum_congr (Finset.ext fun s => ?_) fun _ _ => rfl
    simp only [Finset.mem_filter, Finset.mem_range]
    omega

theorem win_all (a : ℕ → EReal) (n k : ℕ) (h : k < n) : win a n k = ∑ s ∈ Finset.range (k + 1), a s := by
  unfold win
  rw [Finset.filter_true_of_mem]
  intro s _
  omega

end Cert.AttnMath
-- ==== Proof.AttnStep.lean ====
module

public import proofs.«01_k».proof.Proof.Gen.KernelIdeal.Value
public import proofs.«01_k».proof.Proof.AttnMath

@[expose] public section

/-!
# The attention kernel's vector steps, read at an index

The scores of a block of keys, the update of the three running values, the division at the end, and the masks by
which a head takes its half of the lanes.
-/

set_option maxRecDepth 16384

noncomputable section

namespace Cert.KernelIdeal.Attn

open Cert.KernelIdeal Cert.KernelIdeal.Gen Idealize.ShloMosaic Idealize.ShloMosaic.TcCoe Idealize.SL.Sem Cert.AttnMath

/-- The running maximum, weight and weighted sum. -/
abbrev St : Type := FVec Ideal S256x1 .f32 × FVec Ideal S256x1 .f32 × FVec Ideal S256x128 .f32

theorem negInf : Ideal.ofBits .f32 0xFF800000#32 = ⊥ := by simp [Ideal.ofBits, Ideal.ieee]

/-- The update of the running values by a block's scores `S` and values `V`. -/
def upd (S : FVec Ideal S256x256 .f32) (V : Vec Ideal S256x128 .bf16) (st : St) : St :=
  have m : FVec Ideal S256x1 .f32 := maximumf st.1
    (shapeCast S256x1 (multiReduction .maximumf [1] S256 S 0xFF800000#32 reduces_S256x256_S256 (.inl rfl) rfl) shapeCasts_S256_S256x1)
  have p : FVec Ideal S256x256 .f32 := exp (subf S (broadcastTo S256x256 m broadcasts_S256x1_S256x256))
  have α : FVec Ideal S256x1 .f32 := exp (subf st.1 m)
  (m,
    addf (mulf α st.2.1)
      (shapeCast S256x1 (multiReduction .add [1] S256 p 0x00000000#32 reduces_S256x256_S256 (.inl rfl) rfl) shapeCasts_S256_S256x1),
    addf (mulf (broadcastTo S256x128 α broadcasts_S256x1_S256x128) st.2.2)
      (matmul (φ₁ := .bf16) (φ₂ := .bf16) dot_S256x256_S256x128_S256x128_1_0_0_1_n_n none (truncf .bf16 p bitsLt_bf16_f32) V
        (constant S256x128 .f32 0x00000000#32)))

theorem upd_max (S : FVec Ideal S256x256 .f32) (V : Vec Ideal S256x128 .bf16) (st : St) (r : Fin 256) :
    (upd S V st).1 (ix2 r 0) = max (st.1 (ix2 r 0)) (Finset.univ.fold max ⊥ fun x : Fin 256 => S (ix2 r x)) := by
  unfold upd
  dsimp only
  pointwise
  rw [negInf]

theorem upd_weight (S : FVec Ideal S256x256 .f32) (V : Vec Ideal S256x128 .bf16) (st : St) (r : Fin 256) :
    (upd S V st).2.1 (ix2 r 0) = Ideal.exp (st.1 (ix2 r 0) - (upd S V st).1 (ix2 r 0)) * st.2.1 (ix2 r 0)
      + ∑ x : Fin 256, Ideal.exp (S (ix2 r x) - (upd S V st).1 (ix2 r 0)) := by
  unfold upd
  dsimp only
  pointwise

theorem upd_sum (S : FVec Ideal S256x256 .f32) (V : Vec Ideal S256x128 .bf16) (st : St) (r : Fin 256) (d : Fin 128) :
    (upd S V st).2.2 (ix2 r d) = Ideal.exp (st.1 (ix2 r 0) - (upd S V st).1 (ix2 r 0)) * st.2.2 (ix2 r d)
      + ∑ x : Fin 256, Ideal.exp (S (ix2 r x) - (upd S V st).1 (ix2 r 0)) * V (ix2 x d) := by
  unfold upd
  dsimp only
  pointwise

theorem scores_apply (q : Vec Ideal S256x128 .bf16) (cd : Vec Ideal S1x1x256 .f32) (K : Vec Ideal S256x128 .bf16)
    (C : Vec Ideal S1x1x256 .f32) (r x : Fin 256) :
    k0_pay17 q cd K C (ix2 r x) = (∑ l : Fin 128, q (ix2 r l) * K (ix2 x l)) + (cd (ix3 0 0 255) - C (ix3 0 0 x)) := by
  unfold k0_pay17 k0_pay13
  pointwise

/-- The scores of the block on the diagonal, masked above it. -/
def diag (q : Vec Ideal S256x128 .bf16) (cd : Vec Ideal S1x1x256 .f32) (K : Vec Ideal S256x128 .bf16)
    (C : Vec Ideal S1x1x256 .f32) : FVec Ideal S256x256 .f32 :=
  k0_pay29 (iota .tc S256x256 32 [0] iota_S256x256_d0_w32) (iota .tc S256x256 32 [1] iota_S256x256_d1_w32) q cd K C

theorem le_word (x r : Fin 256) :
    IntOp.cmpi .sle (BitVec.ofNat 32 x.val) (BitVec.ofNat 32 r.val) = if x.val ≤ r.val then 1#1 else 0#1 := by
  have hx := x.isLt
  have hr := r.isLt
  have h : (BitVec.ofNat 32 x.val).sle (BitVec.ofNat 32 r.val) = decide (x.val ≤ r.val) := by
    rw [BitVec.sle_eq_decide, BitVec.toInt_ofNat', BitVec.toInt_ofNat', Int.bmod_eq_of_le (by omega) (by omega),
      Int.bmod_eq_of_le (by omega) (by omega)]
    simp
  simp only [IntOp.cmpi, h]
  by_cases e : x.val ≤ r.val <;> simp [e]

theorem diag_apply (q : Vec Ideal S256x128 .bf16) (cd : Vec Ideal S1x1x256 .f32) (K : Vec Ideal S256x128 .bf16)
    (C : Vec Ideal S1x1x256 .f32) (r x : Fin 256) :
    diag q cd K C (ix2 r x)
      = if x.val ≤ r.val then (∑ l : Fin 128, q (ix2 r l) * K (ix2 x l)) + (cd (ix3 0 0 255) - C (ix3 0 0 x)) else ⊥ := by
  unfold diag k0_pay29 k0_pay13
  pointwise
  rw [le_word, negInf]
  by_cases e : x.val ≤ r.val <;> simp [e, Scalar.select]

/-- The weighted sum over the weight. -/
def quot (st : St) : FVec Ideal S256x128 .f32 := divf st.2.2 (broadcastTo S256x128 st.2.1 broadcasts_S256x1_S256x128)

theorem quot_apply (st : St) (r : Fin 256) (d : Fin 128) : quot st (ix2 r d) = Ideal.div (st.2.2 (ix2 r d)) (st.2.1 (ix2 r 0)) := by
  unfold quot
  pointwise

def start : St := (k0_pay14, k0_pay15, k0_pay16)

theorem start_max (r : Fin 256) : start.1 (ix2 r 0) = ⊥ := by
  unfold start k0_pay14; dsimp only; pointwise; exact negInf
theorem start_weight (r : Fin 256) : start.2.1 (ix2 r 0) = 0 := by
  unfold start k0_pay15; dsimp only; pointwise
theorem start_sum (r : Fin 256) (d : Fin 128) : start.2.2 (ix2 r d) = 0 := by
  unfold start k0_pay16; dsimp only; pointwise

/-- The word by which a lane is compared with its head: the lane's number over 64. -/
theorem half_word : ∀ d : Fin 128, Scalar.select
          (IntOp.andi
            (IntOp.cmpi CmpIPredicate.ne
              (IntOp.subi (BitVec.setWidth 32 (IntOp.cmpi CmpIPredicate.sgt (BitVec.ofNat 32 d.val) 0#32))
                (BitVec.setWidth 32 (IntOp.cmpi CmpIPredicate.slt (BitVec.ofNat 32 d.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 d.val) 64#32) 0#32))
          (IntOp.subi (IntOp.divsi ArithUnit.vector (BitVec.ofNat 32 d.val) 64#32) 1#32)
          (IntOp.divsi ArithUnit.vector (BitVec.ofNat 32 d.val) 64#32) = BitVec.ofNat 32 (d.val / 64) := by
  decide +kernel

theorem half_eq : ∀ (h : Fin 2) (d : Fin 128), IntOp.cmpi .eq (BitVec.ofNat 32 (d.val / 64)) (BitVec.ofNat 32 h.val)
    = if d.val / 64 = h.val then 1#1 else 0#1 := by decide +kernel

theorem mask0_apply (q : Vec Ideal S256x128 .bf16) (r : Fin 256) (d : Fin 128) :
    k0_pay12 q (ix2 r d) = if d.val / 64 = 0 then q (ix2 r d) else 0 := by
  unfold k0_pay12
  pointwise
  rw [half_word, show (0#32 : BitVec 32) = BitVec.ofNat 32 (0 : Fin 2).val from rfl, half_eq 0]
  by_cases e : d.val / 64 = 0 <;> simp [e, Scalar.select]

theorem mask1_apply (q : Vec Ideal S256x128 .bf16) (r : Fin 256) (d : Fin 128) :
    k0_pay37 q (iota .tc S256x128 32 [1] iota_S256x128_d1_w32) (ix2 r d) = if d.val / 64 = 1 then q (ix2 r d) else 0 := by
  unfold k0_pay37
  pointwise
  rw [half_word, show (1#32 : BitVec 32) = BitVec.ofNat 32 (1 : Fin 2).val from rfl, half_eq 1]
  by_cases e : d.val / 64 = 1 <;> simp [e, Scalar.select]

theorem merge_apply (A B : FVec Ideal S256x128 .f32) (r : Fin 256) (d : Fin 128) :
    k0_pay1 (iota .tc S256x128 32 [1] iota_S256x128_d1_w32) A B 64#32
      (k0_pay55 (iota .tc S256x128 32 [1] iota_S256x128_d1_w32)) k0_pay56 (ix2 r d)
      = if d.val / 64 = 1 then B (ix2 r d) else A (ix2 r d) := by
  unfold k0_pay1 k0_pay55 k0_pay56
  pointwise
  rw [half_word, show (1#32 : BitVec 32) = BitVec.ofNat 32 (1 : Fin 2).val from rfl, half_eq 1]
  by_cases e : d.val / 64 = 1 <;> simp [e, Scalar.select]

/-- The printed text of a step for the first head of a pair. -/
theorem step0 (q : Vec Ideal S256x128 .bf16) (cd : Vec Ideal S1x1x256 .f32) (K V : Vec Ideal S256x128 .bf16)
    (C : Vec Ideal S1x1x256 .f32) (st : St) :
    (k0_pay18 q cd st.1 K C, k0_pay21 q cd st.1 st.2.1 K C, k0_pay22 q cd st.1 st.2.2 K C V) = upd (k0_pay17 q cd K C) V st := rfl

/-- The same for the second head. -/
theorem step1 (q : Vec Ideal S256x128 .bf16) (cd : Vec Ideal S1x1x256 .f32) (K V : Vec Ideal S256x128 .bf16)
    (C : Vec Ideal S1x1x256 .f32) (st : St) :
    (k0_pay43 q (k0_pay38 cd) st.1 K C, k0_pay46 q (k0_pay38 cd) st.1 st.2.1 K C, k0_pay47 q (k0_pay38 cd) st.1 st.2.2 K C V)
      = upd (k0_pay17 q cd K C) V st := rfl

theorem last0 (q : Vec Ideal S256x128 .bf16) (cd : Vec Ideal S1x1x256 .f32) (K V : Vec Ideal S256x128 .bf16)
    (C : Vec Ideal S1x1x256 .f32) (st : St) :
    k0_pay36
      (k0_pay33 (iota .tc S256x256 32 [0] iota_S256x256_d0_w32) (iota .tc S256x256 32 [1] iota_S256x256_d1_w32) q cd st.1 st.2.1 K C)
      (k0_pay34 (iota .tc S256x256 32 [0] iota_S256x256_d0_w32) (iota .tc S256x256 32 [1] iota_S256x256_d1_w32) q cd st.1 st.2.2 K C)
      (k0_pay35 (iota .tc S256x256 32 [0] iota_S256x256_d0_w32) (iota .tc S256x256 32 [1] iota_S256x256_d1_w32) q cd st.1 K C) V
      = quot (upd (diag q cd K C) V st) := rfl

theorem last1 (q : Vec Ideal S256x128 .bf16) (cd : Vec Ideal S1x1x256 .f32) (K V : Vec Ideal S256x128 .bf16)
    (C : Vec Ideal S1x1x256 .f32) (st : St) :
    k0_pay54 (iota .tc S256x256 32 [0] iota_S256x256_d0_w32) (iota .tc S256x256 32 [1] iota_S256x256_d1_w32) q (k0_pay38 cd)
      st.1 st.2.1 st.2.2 K C V = quot (upd (diag q cd K C) V st) := rfl

end Cert.KernelIdeal.Attn
-- ==== Proof.AttnPoint.lean ====
module

public import proofs.«01_k».proof.Proof.AttnStep
public import Idealize.ShloMosaic.Lib.LoopRemainder

@[expose] public section

/-!
# The attention kernel at a grid point

What the two loops over the blocks of keys leave, and the block the body writes: at each row and lane the weighted
sum of the values over the weight, for the head the lane belongs to.
-/

set_option maxRecDepth 16384

noncomputable section

namespace Cert.KernelIdeal.Attn

open Cert.KernelIdeal Cert.KernelIdeal.Gen Idealize.ShloMosaic Idealize.ShloMosaic.TcCoe Idealize.SL.Sem Cert.AttnMath

theorem ld_rows (X : Vec Ideal S2048x128 .bf16) (n : ℕ) (off : Fin 2 → ℕ) (h : off = ![256 * n, 0])
    (inb : ∀ a, off a + S256x128.size a ≤ S2048x128.size a) (r : Fin 256) (l : Fin 128) (hr : 256 * n + r.val < 2048) :
    View.ld X (Rect.unit (s := S2048x128) off S256x128.size inb) (ix2 r l) = X (ix2 ⟨256 * n + r.val, hr⟩ l) := by
  subst h
  pointwise

theorem ld_cum (X : Vec Ideal S8x8x256 .f32) (n : Fin 8) (h : Fin 8) (off : Fin 3 → ℕ) (ho : off = ![n.val, h.val, 0])
    (inb : ∀ a, off a + S1x1x256.size a ≤ S8x8x256.size a) (x : Fin 256) :
    View.ld X (Rect.unit (s := S8x8x256) off S1x1x256.size inb) (ix3 0 0 x) = X (ix3 n h x) := by
  subst ho
  pointwise

/-- Row `k` of a block of 2048 rows. -/
def rowAt (X : Vec Ideal S2048x128 .bf16) (k : ℕ) (l : Fin 128) : EReal := if h : k < 2048 then X (ix2 ⟨k, h⟩ l) else 0

/-- Entry `k` of a head's 2048 running sums, kept in eight blocks of 256. -/
def cumAt (X : Vec Ideal S8x8x256 .f32) (h : Fin 8) (k : ℕ) : EReal :=
  if hk : k < 2048 then X (ix3 ⟨k / 256, by omega⟩ h ⟨k % 256, by omega⟩) else 0

/-- The score of key `k` at row `r` of query block `n`, before the mask. -/
def score (n : ℕ) (q : Vec Ideal S256x128 .bf16) (K : Vec Ideal S2048x128 .bf16) (X : Vec Ideal S8x8x256 .f32) (h : Fin 8)
    (r : Fin 256) (k : ℕ) : EReal :=
  (∑ l : Fin 128, q (ix2 r l) * rowAt K k l) + (cumAt X h (256 * n + 255) - cumAt X h k)

/-- The masked score: the keys up to the row's own position. -/
def masked (n : ℕ) (q : Vec Ideal S256x128 .bf16) (K : Vec Ideal S2048x128 .bf16) (X : Vec Ideal S8x8x256 .f32) (h : Fin 8)
    (r : Fin 256) (k : ℕ) : EReal := if k ≤ 256 * n + r.val then score n q K X h r k else ⊥

theorem masked_ne_top {n : ℕ} {q : Vec Ideal S256x128 .bf16} {K : Vec Ideal S2048x128 .bf16} {X : Vec Ideal S8x8x256 .f32}
    {h : Fin 8} {r : Fin 256} (hn : n < 8) (ht : ∀ k, k < 2048 → score n q K X h r k ≠ ⊤) (k : ℕ) : masked n q K X h r k ≠ ⊤ := by
  unfold masked
  split
  · exact ht k (by omega)
  · exact bot_ne_top

/-- The running sums as a block's load reads them. -/
theorem cum_read (X : Vec Ideal S8x8x256 .f32) (n h : Fin 8) (x : Fin 256) : X (ix3 n h x) = cumAt X h (256 * n.val + x.val) := by
  have hn := n.isLt
  have hx := x.isLt
  unfold cumAt
  rw [dif_pos (by omega)]
  congr 2
  · exact Fin.ext (by show n.val = (256 * n.val + x.val) / 256; omega)
  · exact Fin.ext (by show x.val = (256 * n.val + x.val) % 256; omega)

/-- One block of keys below the diagonal keeps `Online`. -/
theorem block_step {n : ℕ} (hn : n < 8) {q : Vec Ideal S256x128 .bf16} {K V : Vec Ideal S2048x128 .bf16} {X : Vec Ideal S8x8x256 .f32}
    {h : Fin 8} {r : Fin 256} {d : Fin 128} (ht : ∀ k, k < 2048 → score n q K X h r k ≠ ⊤ ∧ score n q K X h r k ≠ ⊥)
    {j : ℕ} (st : St) (S : FVec Ideal S256x256 .f32) (Vb : Vec Ideal S256x128 .bf16)
    (hS : ∀ x : Fin 256, S (ix2 r x) = masked n q K X h r (256 * j + x.val))
    (hV : ∀ x : Fin 256, Vb (ix2 x d) = rowAt V (256 * j + x.val) d) (hj : 256 * j ≤ 256 * n + r.val)
    (ho : Online (masked n q K X h r) (fun k => rowAt V k d) j (st.1 (ix2 r 0)) (st.2.1 (ix2 r 0)) (st.2.2 (ix2 r d))) :
    Online (masked n q K X h r) (fun k => rowAt V k d) (j + 1) ((upd S Vb st).1 (ix2 r 0)) ((upd S Vb st).2.1 (ix2 r 0))
      ((upd S Vb st).2.2 (ix2 r d)) := by
  rw [upd_weight, upd_sum, upd_max]
  refine ho.step _ _ hS hV (masked_ne_top hn fun k hk => (ht k hk).1) ⟨0, ?_⟩
  rw [hS]
  unfold masked
  rw [if_pos (by simpa using hj)]
  have hr := r.isLt
  exact (ht _ (by simp; omega)).2

theorem trips1 (i : grid0.Coords) : (k0_t1_loop i).trips = (i 2).val := by
  have h := (i 2).isLt
  have h' : (i 2).val < 8 := h
  show Scf.trips 0#32 (Scalar.addi 0#32 (Scalar.muli (Scalar.divsi (Scalar.subi (BitVec.ofNat 32 (i 2).val) 0#32) 1#32) 1#32)) 1#32 = _
  rw [Scalar.muli_divsi_one]
  generalize (i 2).val = z at h'
  have : ∀ z : Fin 8, Scf.trips 0#32 (Scalar.addi 0#32 (Scalar.subi (BitVec.ofNat 32 z.val) 0#32)) 1#32 = z.val := by decide +kernel
  exact this ⟨z, h'⟩

/-- The running values after `j` blocks of keys, head 0 of the pair. -/
theorem loop1 (c : Dev nD) (i : grid0.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x8x2048 .f32) (harg6 : arg6.IsWhole) (arg7 : Memref sig .tc .vmem S256x128 .bf16) (harg7 : arg7.IsWhole) (arg8 : Memref sig .tc .vmem S8x8x256 .f32) (harg8 : arg8.IsWhole) (arg2 : BitVec 32) (v5 v6 : IVec S256x256 32) (q : Vec Ideal S256x128 .bf16) (v36 : BitVec 32) (cd : Vec Ideal S1x1x256 .f32)
    (X4 : BufTy.Contents (Elt Ideal) arg4.view.ty) (X5 : BufTy.Contents (Elt Ideal) arg5.view.ty) (X8 : BufTy.Contents (Elt Ideal) arg8.view.ty)
    (K V : Vec Ideal S2048x128 .bf16) (X : Vec Ideal S8x8x256 .f32) (hK : arg4.view.read (Elt Ideal) X4 = K)
    (hV : arg5.view.read (Elt Ideal) X5 = V) (hX : arg8.view.read (Elt Ideal) X8 = X)
    (h : Fin 8) (hh : h.val = 2 * (i 1).val + 0) (hcd : cd (ix3 0 0 255) = cumAt X h (256 * (i 2).val + 255))
    (r : Fin 256) (d : Fin 128) (ht : ∀ k, k < 2048 → score (i 2).val q K X h r k ≠ ⊤ ∧ score (i 2).val q K X h r k ≠ ⊥)
    (j : ℕ) (hj : j ≤ (i 2).val) :
    Online (masked (i 2).val q K X h r) (fun k => rowAt V k d) j
      ((st_k0_t1 Variants.none c none i arg3 harg3 arg4 harg4 arg5 harg5 arg6 harg6 arg7 harg7 arg8 harg8 arg2 v5 v6 q v36 cd X4 X5 X8 start j).1 (ix2 r 0))
      ((st_k0_t1 Variants.none c none i arg3 harg3 arg4 harg4 arg5 harg5 arg6 harg6 arg7 harg7 arg8 harg8 arg2 v5 v6 q v36 cd X4 X5 X8 start j).2.1 (ix2 r 0))
      ((st_k0_t1 Variants.none c none i arg3 harg3 arg4 harg4 arg5 harg5 arg6 harg6 arg7 harg7 arg8 harg8 arg2 v5 v6 q v36 cd X4 X5 X8 start j).2.2 (ix2 r d)) := by
  have hi : (i 2).val < 8 := (i 2).isLt
  subst hK hV hX
  induction j with
  | zero => exact Or.inl ⟨rfl, start_max r, start_weight r, start_sum r d⟩
  | succ j ih =>
    have hlt : j < (k0_t1_loop i).trips := by rw [trips1]; omega
    rw [st_k0_t1_succ Variants.none c none i arg3 harg3 arg4 harg4 arg5 harg5 arg6 harg6 arg7 harg7 arg8 harg8 arg2 v5 v6 q v36 cd X4 X5 X8 start ⟨j, hlt⟩]
    have htrip : tripR_k0_t1 (F := Ideal) Variants.none c none i arg3 harg3 arg4 harg4 arg5 harg5 arg6 harg6 arg7 harg7 arg8 harg8 arg2 v5 v6 q v36 cd X4 X5 X8 ⟨j, hlt⟩
          (st_k0_t1 Variants.none c none i arg3 harg3 arg4 harg4 arg5 harg5 arg6 harg6 arg7 harg7 arg8 harg8 arg2 v5 v6 q v36 cd X4 X5 X8 start j)
        = upd (k0_pay17 q cd
            (View.ld (arg4.view.read (Elt Ideal) X4) (Rect.unit (s := S2048x128) (k0_off2 i ⟨j, hlt⟩) S256x128.size (k0_off2_inb i ⟨j, hlt⟩)))
            (View.ld (arg8.view.read (Elt Ideal) X8) (Rect.unit (s := S8x8x256) (k0_off3 i ⟨j, hlt⟩) S1x1x256.size (k0_off3_inb i ⟨j, hlt⟩))))
            (View.ld (arg5.view.read (Elt Ideal) X5) (Rect.unit (s := S2048x128) (k0_off2 i ⟨j, hlt⟩) S256x128.size (k0_off2_inb i ⟨j, hlt⟩)))
            (st_k0_t1 Variants.none c none i arg3 harg3 arg4 harg4 arg5 harg5 arg6 harg6 arg7 harg7 arg8 harg8 arg2 v5 v6 q v36 cd X4 X5 X8 start j) := by
      unfold tripR_k0_t1 trip_k0_t1
      rfl
    rw [htrip]
    refine block_step hi ht _ _ _ (fun x => ?_) (fun x => ?_) (by omega) (ih (by omega))
    · have hx := x.isLt
      rw [scores_apply, hcd, ld_cum _ ⟨j, by omega⟩ h _ (by rw [k0_off3_eq, hh]; rfl) _ x, cum_read (arg8.view.read (Elt Ideal) X8) ⟨j, by omega⟩ h x]
      unfold masked
      rw [if_pos (by omega)]
      unfold score
      congr 1
      exact Finset.sum_congr rfl fun l _ => by
        rw [ld_rows _ j _ (k0_off2_eq i ⟨j, hlt⟩) _ x l (by omega)]; unfold rowAt; rw [dif_pos (by omega)]
    · have hx := x.isLt
      rw [ld_rows _ j _ (k0_off2_eq i ⟨j, hlt⟩) _ x d (by omega)]; unfold rowAt; rw [dif_pos (by omega)]

theorem rem2 (c : Dev nD) (i : grid0.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x8x2048 .f32) (harg6 : arg6.IsWhole) (arg7 : Memref sig .tc .vmem S256x128 .bf16) (harg7 : arg7.IsWhole) (arg8 : Memref sig .tc .vmem S8x8x256 .f32) (harg8 : arg8.IsWhole) (arg2 : BitVec 32) (v5 v6 : IVec S256x256 32) (q : Vec Ideal S256x128 .bf16) (v36 : BitVec 32) (cd : Vec Ideal S1x1x256 .f32)
    (X4 : BufTy.Contents (Elt Ideal) arg4.view.ty) (X5 : BufTy.Contents (Elt Ideal) arg5.view.ty) (X8 : BufTy.Contents (Elt Ideal) arg8.view.ty) (init : St) :
    st_k0_t2 (F := Ideal) Variants.none c none i arg3 harg3 arg4 harg4 arg5 harg5 arg6 harg6 arg7 harg7 arg8 harg8 arg2 v5 v6 q v36 cd X4 X5 X8 init (Scf.trips (k0_t2_loop i).lb (k0_t2_loop i).ub (k0_t2_loop i).st) = init := by
  rw [show Scf.trips (k0_t2_loop i).lb (k0_t2_loop i).ub (k0_t2_loop i).st = 0 from Nat.le_zero.1 (k0_t2_abs i).2.1]
  rfl

theorem trips3 (i : grid0.Coords) : (k0_t3_loop i).trips = (i 2).val := by
  have h := (i 2).isLt
  have h' : (i 2).val < 8 := h
  show Scf.trips 0#32 (Scalar.addi 0#32 (Scalar.muli (Scalar.divsi (Scalar.subi (BitVec.ofNat 32 (i 2).val) 0#32) 1#32) 1#32)) 1#32 = _
  rw [Scalar.muli_divsi_one]
  generalize (i 2).val = z at h'
  have : ∀ z : Fin 8, Scf.trips 0#32 (Scalar.addi 0#32 (Scalar.subi (BitVec.ofNat 32 z.val) 0#32)) 1#32 = z.val := by decide +kernel
  exact this ⟨z, h'⟩

/-- The running values after `j` blocks of keys, head 1 of the pair. -/
theorem loop3 (c : Dev nD) (i : grid0.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x8x2048 .f32) (harg6 : arg6.IsWhole) (arg7 : Memref sig .tc .vmem S256x128 .bf16) (harg7 : arg7.IsWhole) (arg8 : Memref sig .tc .vmem S8x8x256 .f32) (harg8 : arg8.IsWhole) (arg2 : BitVec 32) (v4 : IVec S256x128 32) (v5 v6 : IVec S256x256 32) (q : Vec Ideal S256x128 .bf16) (v36 : BitVec 32) (cd : Vec Ideal S1x1x256 .f32) (v124 v125 : FVec Ideal S256x1 .f32) (v126 : FVec Ideal S256x128 .f32) (c0 v127 : BitVec 32)
    (X4 : BufTy.Contents (Elt Ideal) arg4.view.ty) (X5 : BufTy.Contents (Elt Ideal) arg5.view.ty) (X8 : BufTy.Contents (Elt Ideal) arg8.view.ty)
    (K V : Vec Ideal S2048x128 .bf16) (X : Vec Ideal S8x8x256 .f32) (hK : arg4.view.read (Elt Ideal) X4 = K)
    (hV : arg5.view.read (Elt Ideal) X5 = V) (hX : arg8.view.read (Elt Ideal) X8 = X)
    (h : Fin 8) (hh : h.val = 2 * (i 1).val + 1) (hcd : cd (ix3 0 0 255) = cumAt X h (256 * (i 2).val + 255))
    (r : Fin 256) (d : Fin 128) (ht : ∀ k, k < 2048 → score (i 2).val q K X h r k ≠ ⊤ ∧ score (i 2).val q K X h r k ≠ ⊥)
    (j : ℕ) (hj : j ≤ (i 2).val) :
    Online (masked (i 2).val q K X h r) (fun k => rowAt V k d) j
      ((st_k0_t3 Variants.none c none i arg3 harg3 arg4 harg4 arg5 harg5 arg6 harg6 arg7 harg7 arg8 harg8 arg2 v4 v5 v6 q v36 (k0_pay38 cd) v124 v125 v126 c0 v127 X4 X5 X8 start j).1 (ix2 r 0))
      ((st_k0_t3 Variants.none c none i arg3 harg3 arg4 harg4 arg5 harg5 arg6 harg6 arg7 harg7 arg8 harg8 arg2 v4 v5 v6 q v36 (k0_pay38 cd) v124 v125 v126 c0 v127 X4 X5 X8 start j).2.1 (ix2 r 0))
      ((st_k0_t3 Variants.none c none i arg3 harg3 arg4 harg4 arg5 harg5 arg6 harg6 arg7 harg7 arg8 harg8 arg2 v4 v5 v6 q v36 (k0_pay38 cd) v124 v125 v126 c0 v127 X4 X5 X8 start j).2.2 (ix2 r d)) := by
  have hi : (i 2).val < 8 := (i 2).isLt
  subst hK hV hX
  induction j with
  | zero => exact Or.inl ⟨rfl, start_max r, start_weight r, start_sum r d⟩
  | succ j ih =>
    have hlt : j < (k0_t3_loop i).trips := by rw [trips3]; omega
    rw [st_k0_t3_succ Variants.none c none i arg3 harg3 arg4 harg4 arg5 harg5 arg6 harg6 arg7 harg7 arg8 harg8 arg2 v4 v5 v6 q v36 (k0_pay38 cd) v124 v125 v126 c0 v127 X4 X5 X8 start ⟨j, hlt⟩]
    have htrip : tripR_k0_t3 (F := Ideal) Variants.none c none i arg3 harg3 arg4 harg4 arg5 harg5 arg6 harg6 arg7 harg7 arg8 harg8 arg2 v4 v5 v6 q v36 (k0_pay38 cd) v124 v125 v126 c0 v127 X4 X5 X8 ⟨j, hlt⟩
          (st_k0_t3 Variants.none c none i arg3 harg3 arg4 harg4 arg5 harg5 arg6 harg6 arg7 harg7 arg8 harg8 arg2 v4 v5 v6 q v36 (k0_pay38 cd) v124 v125 v126 c0 v127 X4 X5 X8 start j)
        = upd (k0_pay17 q cd
            (View.ld (arg4.view.read (Elt Ideal) X4) (Rect.unit (s := S2048x128) (k0_off7 i ⟨j, hlt⟩) S256x128.size (k0_off7_inb i ⟨j, hlt⟩)))
            (View.ld (arg8.view.read (Elt Ideal) X8) (Rect.unit (s := S8x8x256) (k0_off8 i ⟨j, hlt⟩) S1x1x256.size (k0_off8_inb i ⟨j, hlt⟩))))
            (View.ld (arg5.view.read (Elt Ideal) X5) (Rect.unit (s := S2048x128) (k0_off7 i ⟨j, hlt⟩) S256x128.size (k0_off7_inb i ⟨j, hlt⟩)))
            (st_k0_t3 Variants.none c none i arg3 harg3 arg4 harg4 arg5 harg5 arg6 harg6 arg7 harg7 arg8 harg8 arg2 v4 v5 v6 q v36 (k0_pay38 cd) v124 v125 v126 c0 v127 X4 X5 X8 start j) := by
      unfold tripR_k0_t3 trip_k0_t3
      rfl
    rw [htrip]
    refine block_step hi ht _ _ _ (fun x => ?_) (fun x => ?_) (by omega) (ih (by omega))
    · have hx := x.isLt
      rw [scores_apply, hcd, ld_cum _ ⟨j, by omega⟩ h _ (by rw [k0_off8_eq, hh]) _ x, cum_read (arg8.view.read (Elt Ideal) X8) ⟨j, by omega⟩ h x]
      unfold masked
      rw [if_pos (by omega)]
      unfold score
      congr 1
      exact Finset.sum_congr rfl fun l _ => by
        rw [ld_rows _ j _ (k0_off7_eq i ⟨j, hlt⟩) _ x l (by omega)]; unfold rowAt; rw [dif_pos (by omega)]
    · have hx := x.isLt
      rw [ld_rows _ j _ (k0_off7_eq i ⟨j, hlt⟩) _ x d (by omega)]; unfold rowAt; rw [dif_pos (by omega)]

theorem rem4 (c : Dev nD) (i : grid0.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x8x2048 .f32) (harg6 : arg6.IsWhole) (arg7 : Memref sig .tc .vmem S256x128 .bf16) (harg7 : arg7.IsWhole) (arg8 : Memref sig .tc .vmem S8x8x256 .f32) (harg8 : arg8.IsWhole) (arg2 : BitVec 32) (v4 : IVec S256x128 32) (v5 v6 : IVec S256x256 32) (q : Vec Ideal S256x128 .bf16) (v36 : BitVec 32) (cd : FVec Ideal S1x1 .f32) (v124 v125 : FVec Ideal S256x1 .f32) (v126 : FVec Ideal S256x128 .f32) (c0 v127 : BitVec 32)
    (X4 : BufTy.Contents (Elt Ideal) arg4.view.ty) (X5 : BufTy.Contents (Elt Ideal) arg5.view.ty) (X8 : BufTy.Contents (Elt Ideal) arg8.view.ty) (init : St) :
    st_k0_t4 (F := Ideal) Variants.none c none i arg3 harg3 arg4 harg4 arg5 harg5 arg6 harg6 arg7 harg7 arg8 harg8 arg2 v4 v5 v6 q v36 cd v124 v125 v126 c0 v127 X4 X5 X8 init (Scf.trips (k0_t4_loop i).lb (k0_t4_loop i).ub (k0_t4_loop i).st) = init := by
  rw [show Scf.trips (k0_t4_loop i).lb (k0_t4_loop i).ub (k0_t4_loop i).st = 0 from Nat.le_zero.1 (k0_t4_abs i).2.1]
  rfl

/-- The block on the diagonal and the division: the finished row. -/
theorem finish {n : ℕ} (hn : n < 8) {q : Vec Ideal S256x128 .bf16} {K V : Vec Ideal S2048x128 .bf16} {X : Vec Ideal S8x8x256 .f32}
    {h : Fin 8} {r : Fin 256} {d : Fin 128} (ht : ∀ k, k < 2048 → score n q K X h r k ≠ ⊤ ∧ score n q K X h r k ≠ ⊥)
    (st : St) (cd C : Vec Ideal S1x1x256 .f32) (Kb Vb : Vec Ideal S256x128 .bf16)
    (hcd : cd (ix3 0 0 255) = cumAt X h (256 * n + 255)) (hC : ∀ x : Fin 256, C (ix3 0 0 x) = cumAt X h (256 * n + x.val))
    (hK : ∀ (x : Fin 256) (l : Fin 128), Kb (ix2 x l) = rowAt K (256 * n + x.val) l)
    (hV : ∀ x : Fin 256, Vb (ix2 x d) = rowAt V (256 * n + x.val) d)
    (ho : Online (masked n q K X h r) (fun k => rowAt V k d) n (st.1 (ix2 r 0)) (st.2.1 (ix2 r 0)) (st.2.2 (ix2 r d))) :
    ∃ m l a, Online (masked n q K X h r) (fun k => rowAt V k d) (n + 1) m l a
      ∧ quot (upd (diag q cd Kb C) Vb st) (ix2 r d) = Ideal.div a l := by
  refine ⟨_, _, _, block_step hn ht st (diag q cd Kb C) Vb (fun x => ?_) hV (by omega) ho, quot_apply _ r d⟩
  rw [diag_apply, hcd, hC]
  unfold masked score
  by_cases e : x.val ≤ r.val
  · rw [if_pos e, if_pos (by omega)]
    congr 1
    exact Finset.sum_congr rfl fun l _ => by rw [hK]
  · rw [if_neg e, if_neg (by omega)]

end Cert.KernelIdeal.Attn
-- ==== Proof.AttnOut.lean ====
module

public import proofs.«01_k».proof.Proof.AttnPoint

@[expose] public section

/-!
# The block the attention kernel writes at a grid point

The text of the body, at either kind of point, as the two heads' finished rows side by side.
-/

set_option maxRecDepth 16384

noncomputable section

namespace Cert.KernelIdeal.Attn

open Cert.KernelIdeal Cert.KernelIdeal.Gen Idealize.ShloMosaic Idealize.ShloMosaic.TcCoe Idealize.SL.Sem Cert.AttnMath

/-- The running sums of the query block's own positions, for a head of the pair. -/
abbrev cumRead (arg8 : Memref sig .tc .vmem S8x8x256 .f32) (i : grid0.Coords) (X8 : BufTy.Contents (Elt Ideal) arg8.view.ty) (h : Fin 2) :
    Vec Ideal S1x1x256 .f32 :=
  View.readAt (Elt Ideal) arg8.view (Rect.unit (s := S8x8x256) (k0_off1 i (BitVec.ofNat 32 h.val)) S1x1x256.size (k0_off1_inb i h)).toLoadRect X8

/-- The rows of the query block's own positions. -/
abbrev ownRows (arg4 : Memref sig .tc .vmem S2048x128 .bf16) (i : grid0.Coords) (X4 : BufTy.Contents (Elt Ideal) arg4.view.ty) :
    Vec Ideal S256x128 .bf16 :=
  View.readAt (Elt Ideal) arg4.view (Rect.unit (s := S2048x128) (k0_off6 i) S256x128.size (k0_off6_inb i)).toLoadRect X4

/-- The block written at a point, from the query block and the contents of the keys, the values and the running sums. -/
def pointOut (c : Dev nD) (i : grid0.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x8x2048 .f32) (harg6 : arg6.IsWhole) (arg7 : Memref sig .tc .vmem S256x128 .bf16) (harg7 : arg7.IsWhole) (arg8 : Memref sig .tc .vmem S8x8x256 .f32) (harg8 : arg8.IsWhole) (q : Vec Ideal S256x128 .bf16) (X4 : BufTy.Contents (Elt Ideal) arg4.view.ty) (X5 : BufTy.Contents (Elt Ideal) arg5.view.ty) (X8 : BufTy.Contents (Elt Ideal) arg8.view.ty) : FVec Ideal S256x128 .bf16 :=
  k0_pay1 (iota .tc S256x128 32 [1] iota_S256x128_d1_w32)
    (quot (upd (diag (k0_pay12 q) (cumRead arg8 i X8 ⟨0, by decide⟩) (ownRows arg4 i X4) (cumRead arg8 i X8 ⟨0, by decide⟩)) (ownRows arg5 i X5)
      (st_k0_t1 Variants.none c none i arg3 harg3 arg4 harg4 arg5 harg5 arg6 harg6 arg7 harg7 arg8 harg8 (BitVec.ofNat 32 (i 2).val) (iota .tc S256x256 32 [0] iota_S256x256_d0_w32) (iota .tc S256x256 32 [1] iota_S256x256_d1_w32) (k0_pay12 q) (Scalar.addi (Scalar.muli (BitVec.ofNat 32 (i 1).val) 2#32) 0#32) (cumRead arg8 i X8 ⟨0, by decide⟩) X4 X5 X8 start (Scf.trips (k0_t1_loop i).lb (k0_t1_loop i).ub (k0_t1_loop i).st))))
    (quot (upd (diag (k0_pay37 q (iota .tc S256x128 32 [1] iota_S256x128_d1_w32)) (cumRead arg8 i X8 ⟨1, by decide⟩) (ownRows arg4 i X4) (cumRead arg8 i X8 ⟨1, by decide⟩)) (ownRows arg5 i X5)
      (st_k0_t3 Variants.none c none i arg3 harg3 arg4 harg4 arg5 harg5 arg6 harg6 arg7 harg7 arg8 harg8 (BitVec.ofNat 32 (i 2).val) (iota .tc S256x128 32 [1] iota_S256x128_d1_w32) (iota .tc S256x256 32 [0] iota_S256x256_d0_w32) (iota .tc S256x256 32 [1] iota_S256x256_d1_w32) (k0_pay37 q (iota .tc S256x128 32 [1] iota_S256x128_d1_w32)) (Scalar.addi (Scalar.muli (BitVec.ofNat 32 (i 1).val) 2#32) 1#32) (k0_pay38 (cumRead arg8 i X8 ⟨1, by decide⟩)) k0_pay39 k0_pay40 k0_pay41 0#32 (Scalar.subi (BitVec.ofNat 32 (i 2).val) 0#32) X4 X5 X8 start (Scf.trips (k0_t3_loop i).lb (k0_t3_loop i).ub (k0_t3_loop i).st))))
    64#32 (k0_pay55 (iota .tc S256x128 32 [1] iota_S256x128_d1_w32)) k0_pay56

theorem out_B (c : Dev nD) (i : grid0.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x8x2048 .f32) (harg6 : arg6.IsWhole) (arg7 : Memref sig .tc .vmem S256x128 .bf16) (harg7 : arg7.IsWhole) (arg8 : Memref sig .tc .vmem S8x8x256 .f32) (harg8 : arg8.IsWhole) (hc0 : ¬cond0_0 i) (x0 : Vec Ideal S256x128 .bf16) (x1 : Vec Ideal S2048x128 .bf16) (x2 : Vec Ideal S2048x128 .bf16) (x3 : Vec Ideal S1x8x2048 .f32) (xs0 : Vec Ideal S8x8x256 .f32) :
    out0_B_4 (F := Ideal) c i arg3 harg3 arg4 harg4 arg5 harg5 arg6 harg6 arg7 harg7 arg8 harg8 hc0 x0 x1 x2 x3 xs0 = pointOut c i arg3 harg3 arg4 harg4 arg5 harg5 arg6 harg6 arg7 harg7 arg8 harg8 x0 (harg4.unread x1) (harg5.unread x2) (harg8.unread xs0) := by
  unfold out0_B_4
  rw [View.read_writes_eq_canon _ _ _ (cover0_B_4 c i arg3 harg3 arg4 harg4 arg5 harg5 arg6 harg6 arg7 harg7 arg8 harg8 hc0 x0 x1 x2 x3 xs0)]
  unfold kernelRun0_B
  dsimp only
  sl_unfold_words
  rw [rem2, rem4]
  rw [View.canon_unit_zero (by decide), View.readAt_eq_ld, View.ld_unit_zero (by decide), harg3.read_unread]
  rfl

/-- What the stores to the scratch leave, as raw contents. -/
theorem raw_A (c : Dev nD) (i : grid0.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x8x2048 .f32) (harg6 : arg6.IsWhole) (arg7 : Memref sig .tc .vmem S256x128 .bf16) (harg7 : arg7.IsWhole) (arg8 : Memref sig .tc .vmem S8x8x256 .f32) (harg8 : arg8.IsWhole) (hc0 : cond0_0 i) (x0 : Vec Ideal S256x128 .bf16) (x1 : Vec Ideal S2048x128 .bf16) (x2 : Vec Ideal S2048x128 .bf16) (x3 : Vec Ideal S1x8x2048 .f32) :
    harg8.unread (sout0_A_0 (F := Ideal) c i arg3 harg3 arg4 harg4 arg5 harg5 arg6 harg6 arg7 harg7 arg8 harg8 hc0 x0 x1 x2 x3) = arg8.view.writes (Elt Ideal) arg8.view.junk (kernelRun0_A (F := Ideal) c i arg3 harg3 arg4 harg4 arg5 harg5 arg6 harg6 arg7 harg7 arg8 harg8 hc0 x0 x1 x2 x3).2.1 := by
  symm
  refine harg8.eq_unread ?_
  unfold sout0_A_0
  rw [View.read_writes_junk_eq_canon, View.read_writes_junk_eq_canon]

theorem out_A (c : Dev nD) (i : grid0.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x8x2048 .f32) (harg6 : arg6.IsWhole) (arg7 : Memref sig .tc .vmem S256x128 .bf16) (harg7 : arg7.IsWhole) (arg8 : Memref sig .tc .vmem S8x8x256 .f32) (harg8 : arg8.IsWhole) (hc0 : cond0_0 i) (x0 : Vec Ideal S256x128 .bf16) (x1 : Vec Ideal S2048x128 .bf16) (x2 : Vec Ideal S2048x128 .bf16) (x3 : Vec Ideal S1x8x2048 .f32) :
    out0_A_4 (F := Ideal) c i arg3 harg3 arg4 harg4 arg5 harg5 arg6 harg6 arg7 harg7 arg8 harg8 hc0 x0 x1 x2 x3 = pointOut c i arg3 harg3 arg4 harg4 arg5 harg5 arg6 harg6 arg7 harg7 arg8 harg8 x0 (harg4.unread x1) (harg5.unread x2) (harg8.unread (sout0_A_0 (F := Ideal) c i arg3 harg3 arg4 harg4 arg5 harg5 arg6 harg6 arg7 harg7 arg8 harg8 hc0 x0 x1 x2 x3)) := by
  rw [raw_A]
  unfold out0_A_4
  rw [View.read_writes_eq_canon _ _ _ (cover0_A_4 c i arg3 harg3 arg4 harg4 arg5 harg5 arg6 harg6 arg7 harg7 arg8 harg8 hc0 x0 x1 x2 x3)]
  unfold kernelRun0_A
  dsimp only
  sl_unfold_words
  rw [rem2, rem4]
  rw [View.canon_unit_zero (by decide), View.readAt_eq_ld, View.ld_unit_zero (by decide), harg3.read_unread]
  rfl

end Cert.KernelIdeal.Attn
-- ==== Proof.AttnRow.lean ====
module

public import proofs.«01_k».proof.Proof.AttnOut

@[expose] public section

/-!
# A row of the block the attention kernel writes

At each row and lane the block is the weighted sum of the values over the weight, for the head the lane belongs to.
-/

set_option maxRecDepth 16384

noncomputable section

namespace Cert.KernelIdeal.Attn

open Cert.KernelIdeal Cert.KernelIdeal.Gen Idealize.ShloMosaic Idealize.ShloMosaic.TcCoe Idealize.SL.Sem Cert.AttnMath

/-- A query block with the lanes of the other head of the pair put to zero. -/
def half (b : Fin 2) (q : Vec Ideal S256x128 .bf16) : Vec Ideal S256x128 .bf16 := fun y => if (y 1).val / 64 = b.val then q y else 0

theorem idx2 (y : S256x128.Idx) : y = ix2 (y 0) (y 1) := by
  funext a; fin_cases a <;> rfl

theorem half0 (q : Vec Ideal S256x128 .bf16) : k0_pay12 q = half 0 q := by
  funext y; rw [idx2 y]; exact mask0_apply q (y 0) (y 1)

theorem half1 (q : Vec Ideal S256x128 .bf16) : k0_pay37 q (iota .tc S256x128 32 [1] iota_S256x128_d1_w32) = half 1 q := by
  funext y; rw [idx2 y]; exact mask1_apply q (y 0) (y 1)

theorem point_row (c : Dev nD) (i : grid0.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x8x2048 .f32) (harg6 : arg6.IsWhole) (arg7 : Memref sig .tc .vmem S256x128 .bf16) (harg7 : arg7.IsWhole) (arg8 : Memref sig .tc .vmem S8x8x256 .f32) (harg8 : arg8.IsWhole) (q : Vec Ideal S256x128 .bf16) (X4 : BufTy.Contents (Elt Ideal) arg4.view.ty) (X5 : BufTy.Contents (Elt Ideal) arg5.view.ty) (X8 : BufTy.Contents (Elt Ideal) arg8.view.ty)
    (K V : Vec Ideal S2048x128 .bf16) (X : Vec Ideal S8x8x256 .f32) (hK : arg4.view.read (Elt Ideal) X4 = K)
    (hV : arg5.view.read (Elt Ideal) X5 = V) (hX : arg8.view.read (Elt Ideal) X8 = X)
    (b : Fin 2) (h : Fin 8) (hh : h.val = 2 * (i 1).val + b.val) (r : Fin 256) (d : Fin 128) (hb : d.val / 64 = b.val)
    (ht : ∀ k, k < 2048 → score (i 2).val (half b q) K X h r k ≠ ⊤ ∧ score (i 2).val (half b q) K X h r k ≠ ⊥) :
    ∃ m l a, Online (masked (i 2).val (half b q) K X h r) (fun k => rowAt V k d) ((i 2).val + 1) m l a
      ∧ pointOut c i arg3 harg3 arg4 harg4 arg5 harg5 arg6 harg6 arg7 harg7 arg8 harg8 q X4 X5 X8 (ix2 r d) = Ideal.div a l := by
  have hi : (i 2).val < 8 := (i 2).isLt
  have hcum : ∀ (e : Fin 2) (x : Fin 256) (h : Fin 8), h.val = 2 * (i 1).val + e.val → cumRead arg8 i X8 e (ix3 0 0 x) = cumAt X h (256 * (i 2).val + x.val) := by
    intro e x h hh
    unfold cumRead
    rw [View.readAt_eq_ld, hX, ld_cum X ⟨(i 2).val, hi⟩ h _ (by rw [k0_off1_eq, hh]) _ x, cum_read X]
  have hrows : ∀ (A : Memref sig .tc .vmem S2048x128 .bf16) (Y : BufTy.Contents (Elt Ideal) A.view.ty) (x : Fin 256) (l : Fin 128),
      ownRows A i Y (ix2 x l) = rowAt (A.view.read (Elt Ideal) Y) (256 * (i 2).val + x.val) l := by
    intro A Y x l
    have hx := x.isLt
    unfold ownRows
    rw [View.readAt_eq_ld, ld_rows _ (i 2).val _ (k0_off6_eq i) _ x l (by omega)]
    unfold rowAt
    rw [dif_pos (by omega)]
  unfold pointOut
  rw [merge_apply, half0, half1]
  match b, hb, hh, ht with
  | ⟨0, _⟩, hb, hh, ht =>
    rw [if_neg (by show ¬ d.val / 64 = 1; have : d.val / 64 = 0 := hb; omega)]
    refine finish hi ht _ _ _ _ _ (hcum 0 255 h hh) (fun x => hcum 0 x h hh) (fun x l => by rw [hrows, hK]) (fun x => by rw [hrows, hV]) ?_
    rw [show Scf.trips (k0_t1_loop i).lb (k0_t1_loop i).ub (k0_t1_loop i).st = (i 2).val from trips1 i]
    exact loop1 c i arg3 harg3 arg4 harg4 arg5 harg5 arg6 harg6 arg7 harg7 arg8 harg8 _ _ _ _ _ _ X4 X5 X8 K V X hK hV hX h hh (hcum 0 255 h hh) r d ht _ le_rfl
  | ⟨1, _⟩, hb, hh, ht =>
    rw [if_pos hb]
    refine finish hi ht _ _ _ _ _ (hcum 1 255 h hh) (fun x => hcum 1 x h hh) (fun x l => by rw [hrows, hK]) (fun x => by rw [hrows, hV]) ?_
    rw [show Scf.trips (k0_t3_loop i).lb (k0_t3_loop i).ub (k0_t3_loop i).st = (i 2).val from trips3 i]
    exact loop3 c i arg3 harg3 arg4 harg4 arg5 harg5 arg6 harg6 arg7 harg7 arg8 harg8 _ _ _ _ _ _ _ _ _ _ _ _ X4 X5 X8 K V X hK hV hX h hh (hcum 1 255 h hh) r d ht _ le_rfl

end Cert.KernelIdeal.Attn
-- ==== Proof.AttnCum.lean ====
module

public import proofs.«01_k».proof.Proof.AttnStep
public import Idealize.ShloMosaic.Lib.Pipeline.CanonAppend

@[expose] public section

/-!
# The running sums the attention kernel keeps in its scratch

At a batch's first block of queries the body forms the running sums of the log forget gates by doubling, eleven
rotations with the wrapped lanes put to zero, and stores them in eight pieces of 256 lanes.
-/

set_option maxRecDepth 16384

noncomputable section

namespace Cert.KernelIdeal.Attn

open Cert.KernelIdeal Cert.KernelIdeal.Gen Idealize.ShloMosaic Idealize.ShloMosaic.TcCoe Idealize.SL.Sem Cert.AttnMath

/-- One doubling: the row rotated by `d` lanes, its wrapped lanes zero, added to the row. -/
def rstep (d : BitVec 32) (c : FVec Ideal S8x2048 .f32) : FVec Ideal S8x2048 .f32 :=
  addf c (select (cmpi .sge (iota .tc S8x2048 32 [1] iota_S8x2048_d1_w32) (broadcast S8x2048 d))
    (dynamicRotate 1 d none c rotates_S8x2048_d1) (broadcast S8x2048 (Scalar.ofBits .f32 0x00000000#32 : Ideal .f32)))

/-- The comparison of a lane's number with a shift. -/
theorem ge_word : ∀ (e : Fin 11) (k : Fin 2048),
    IntOp.cmpi CmpIPredicate.sge (BitVec.ofNat 32 k.val) (BitVec.ofNat 32 (2 ^ e.val)) = if 2 ^ e.val ≤ k.val then 1#1 else 0#1 := by
  decide +kernel

theorem shift_word : ∀ e : Fin 11, (BitVec.ofNat 32 (2 ^ e.val)).toNat = 2 ^ e.val ∧ 2 ^ e.val < 2048 := by decide +kernel

/-- Row `h` of the running sums as a sequence. -/
def seq (c : FVec Ideal S8x2048 .f32) (h : Fin 8) (k : ℕ) : EReal := if hk : k < 2048 then c (ix2 h ⟨k, hk⟩) else 0

theorem rstep_apply (e : Fin 11) (c : FVec Ideal S8x2048 .f32) (h : Fin 8) (k : ℕ) (hk : k < 2048) :
    seq (rstep (BitVec.ofNat 32 (2 ^ e.val)) c) h k = shiftAdd (2 ^ e.val) (seq c h) k := by
  have hs := shift_word e
  unfold seq shiftAdd
  beta_reduce
  rw [dif_pos hk, dif_pos hk]
  unfold rstep
  pointwise
  rw [ge_word e ⟨k, hk⟩]
  congr 1
  by_cases hle : 2 ^ e.val ≤ k
  · rw [if_pos (by simpa using hle), if_pos hle, dif_pos (by omega)]
    show c _ = c _
    congr 2
    refine Fin.ext ?_
    show (k + 2048 - (BitVec.ofNat 32 (2 ^ e.val)).toNat % 2048) % 2048 = k - 2 ^ e.val
    rw [hs.1]
    omega
  · rw [if_neg (by simpa using hle), if_neg hle]
    rfl

/-- After the doublings up to `2 ^ e` each lane holds the sum of the `2 ^ (e + 1)` lanes up to it. -/
theorem rstep_win (e : Fin 11) (a : ℕ → EReal) (c : FVec Ideal S8x2048 .f32) (h : Fin 8)
    (hc : ∀ k, k < 2048 → seq c h k = win a (2 ^ e.val) k) (k : ℕ) (hk : k < 2048) :
    seq (rstep (BitVec.ofNat 32 (2 ^ e.val)) c) h k = win a (2 ^ (e.val + 1)) k := by
  rw [rstep_apply e c h k hk, pow_succ, mul_comm, ← shiftAdd_win]
  unfold shiftAdd
  rw [hc k hk, hc (k - 2 ^ e.val) (lt_of_le_of_lt (Nat.sub_le _ _) hk)]

/-- The eleven doublings of a block of log forget gates. -/
def sums (x : Vec Ideal S1x8x2048 .f32) : FVec Ideal S8x2048 .f32 :=
  k0_pay3 (iota .tc S8x2048 32 [1] iota_S8x2048_d1_w32) (k0_pay2 x)

theorem sums_eq (x : Vec Ideal S1x8x2048 .f32) : sums x =
    rstep 1024#32 (rstep 512#32 (rstep 256#32 (rstep 128#32 (rstep 64#32 (rstep 32#32 (rstep 16#32 (rstep 8#32 (rstep 4#32
      (rstep 2#32 (rstep 1#32 (shapeCast S8x2048 x shapeCasts_S1x8x2048_S8x2048))))))))))) := rfl

theorem sums_apply (x : Vec Ideal S1x8x2048 .f32) (h : Fin 8) (k : ℕ) (hk : k < 2048) :
    seq (sums x) h k = ∑ s ∈ Finset.range (k + 1), (if hs : s < 2048 then x (ix3 0 h ⟨s, hs⟩) else 0) := by
  rw [sums_eq, ← win_all _ 2048 k hk]
  refine rstep_win 10 _ _ h ?_ k hk
  refine rstep_win 9 _ _ h ?_
  refine rstep_win 8 _ _ h ?_
  refine rstep_win 7 _ _ h ?_
  refine rstep_win 6 _ _ h ?_
  refine rstep_win 5 _ _ h ?_
  refine rstep_win 4 _ _ h ?_
  refine rstep_win 3 _ _ h ?_
  refine rstep_win 2 _ _ h ?_
  refine rstep_win 1 _ _ h ?_
  refine rstep_win 0 _ _ h ?_
  intro k hk
  show _ = win _ 1 k
  rw [win_one]
  unfold seq
  rw [dif_pos hk, dif_pos hk]
  pointwise

/-- The running sums as the scratch keeps them. -/
def kept (x : Vec Ideal S1x8x2048 .f32) : Vec Ideal S8x8x256 .f32 := fun y =>
  seq (sums x) (y 1) (256 * (y 0).val + (y 2).val)

/-- A store of 256 lanes of the running sums. -/
theorem kept_piece (x : Vec Ideal S1x8x2048 .f32) (j : ℕ) (hj : j < 8) (off : Fin 3 → ℕ) (ho : off = ![j, 0, 0])
    (inb : ∀ a, off a + S1x8x256.size a ≤ S8x8x256.size a) (f : Vec Ideal S1x8x256 .f32)
    (hf : ∀ (a : Fin 8) (b : Fin 256), f (ix3 0 a b) = sums x (ix2 a ⟨256 * j + b.val, by omega⟩)) (z : S1x8x256.Idx) :
    f z = kept x ((Rect.unit (s := S8x8x256) off S1x8x256.size inb).emb z) := by
  subst ho
  have hz : z = ix3 0 (z 1) (z 2) := by
    funext a; fin_cases a
    · exact Subsingleton.elim (α := Fin 1) _ _
    · rfl
    · rfl
  have h2 : (z 2).val < 256 := (z 2).isLt
  have h0 : (z 0).val = 0 := by have : (z 0).val < 1 := (z 0).isLt; omega
  have e0 : (((Rect.unit (s := S8x8x256) ![j, 0, 0] S1x8x256.size inb).emb z) 0).val = j := by
    show j + 1 * (z 0).val = j; omega
  have e1 : ((Rect.unit (s := S8x8x256) ![j, 0, 0] S1x8x256.size inb).emb z) 1 = z 1 := Fin.ext (by
    show 0 + 1 * (z 1).val = _; omega)
  have e2 : (((Rect.unit (s := S8x8x256) ![j, 0, 0] S1x8x256.size inb).emb z) 2).val = (z 2).val := by
    show 0 + 1 * (z 2).val = _; omega
  conv_lhs => rw [hz]
  refine (hf (z 1) (z 2)).trans ?_
  unfold kept seq
  rw [e0, e1, e2, dif_pos (by omega)]

theorem scratch_eq (c : Dev nD) (i : grid0.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x8x2048 .f32) (harg6 : arg6.IsWhole) (arg7 : Memref sig .tc .vmem S256x128 .bf16) (harg7 : arg7.IsWhole) (arg8 : Memref sig .tc .vmem S8x8x256 .f32) (harg8 : arg8.IsWhole) (hc0 : cond0_0 i)
    (x0 : Vec Ideal S256x128 .bf16) (x1 : Vec Ideal S2048x128 .bf16) (x2 : Vec Ideal S2048x128 .bf16) (x3 : Vec Ideal S1x8x2048 .f32) :
    sout0_A_0 (F := Ideal) c i arg3 harg3 arg4 harg4 arg5 harg5 arg6 harg6 arg7 harg7 arg8 harg8 hc0 x0 x1 x2 x3 = kept x3 := by
  unfold sout0_A_0
  rw [View.read_writes_eq_canon _ _ _ (scover0_A_0 c i arg3 harg3 arg4 harg4 arg5 harg5 arg6 harg6 arg7 harg7 arg8 harg8 hc0 x0 x1 x2 x3)]
  funext y
  rw [← List.append_nil (kernelRun0_A (F := Ideal) c i arg3 harg3 arg4 harg4 arg5 harg5 arg6 harg6 arg7 harg7 arg8 harg8 hc0 x0 x1 x2 x3).2.1]
  refine View.canon_append_of_pieces (kept x3) [] _ ?_ y (scover0_A_0 c i arg3 harg3 arg4 harg4 arg5 harg5 arg6 harg6 arg7 harg7 arg8 harg8 hc0 x0 x1 x2 x3 y)
  unfold kernelRun0_A
  dsimp only
  sl_unfold_words
  rw [View.readAt_eq_ld, View.ld_unit_zero (by decide), harg6.read_unread]
  simp only [List.mem_cons, List.not_mem_nil, or_false, forall_eq_or_imp, forall_eq]
  have hs : ∀ v, v = sums x3 → k0_pay3 (iota .tc S8x2048 32 [1] iota_S8x2048_d1_w32) (k0_pay2 x3) = v := fun v h => h.symm
  refine ⟨kept_piece x3 7 (by omega) _ rfl _ _ ?_, kept_piece x3 6 (by omega) _ rfl _ _ ?_, kept_piece x3 5 (by omega) _ rfl _ _ ?_,
    kept_piece x3 4 (by omega) _ rfl _ _ ?_, kept_piece x3 3 (by omega) _ rfl _ _ ?_, kept_piece x3 2 (by omega) _ rfl _ _ ?_,
    kept_piece x3 1 (by omega) _ rfl _ _ ?_, kept_piece x3 0 (by omega) _ rfl _ _ ?_⟩ <;> intro a b
  · unfold k0_pay11; rw [hs _ rfl]; pointwise
  · unfold k0_pay10; rw [hs _ rfl]; pointwise
  · unfold k0_pay9; rw [hs _ rfl]; pointwise
  · unfold k0_pay8; rw [hs _ rfl]; pointwise
  · unfold k0_pay7; rw [hs _ rfl]; pointwise
  · unfold k0_pay6; rw [hs _ rfl]; pointwise
  · unfold k0_pay5; rw [hs _ rfl]; pointwise
  · unfold k0_pay4; rw [hs _ rfl]; pointwise

end Cert.KernelIdeal.Attn
-- ==== Proof.AttnSpec.lean ====
module

public import Idealize.ShloMosaic.PureOps.Ideal
public import Idealize.ShloMosaic.Lib.Pointwise
public import Idealize.ShloMosaic.Lib.Routing.Ops

@[expose] public section

/-!
# The prompt's attention, as mathematics

`attn q k v lf t d` is lane `d` of token `t`'s row: the softmax of the logits of the tokens of its sequence up to it,
over the values. Also the running sum along the rows of a matrix, as the host's windowed sum states it.
-/

noncomputable section

namespace Cert.AttnSpec

open Idealize.ShloMosaic Idealize.ShloMosaic.Routing

/-- The running sum of a head's log forget gates up to place `n` of the sequence that starts at row `2048 * b`. -/
def gate (lf : Fin 16384 → Fin 8 → EReal) (b h : Fin 8) (n : ℕ) : EReal :=
  ∑ j ∈ Finset.range (n + 1), if hj : j < 2048 then lf ⟨b.val * 2048 + j, by omega⟩ h else 0

/-- The logit of place `x` of token `t`'s sequence, for the head lane `d` belongs to; `⊥` past the token. -/
def logit (q k : Fin 16896 → Fin 512 → EReal) (lf : Fin 16384 → Fin 8 → EReal) (t : Fin 16384) (d : Fin 512) (x : Fin 2048) : EReal :=
  if x.val ≤ t.val % 2048 then
    (∑ e : Fin 64, q ⟨t.val, by omega⟩ ⟨d.val / 64 * 64 + e.val, by omega⟩ * k ⟨t.val / 2048 * 2048 + x.val, by omega⟩ ⟨d.val / 64 * 64 + e.val, by omega⟩)
      + gate lf ⟨t.val / 2048, by omega⟩ ⟨d.val / 64, by omega⟩ (t.val % 2048)
      - gate lf ⟨t.val / 2048, by omega⟩ ⟨d.val / 64, by omega⟩ x.val
  else ⊥

/-- Softmax of `s` over the values `v`. -/
def soft (s v : Fin 2048 → EReal) : EReal :=
  ∑ x, Ideal.div (Ideal.exp (s x - Finset.univ.fold max ⊥ s)) (∑ y, Ideal.exp (s y - Finset.univ.fold max ⊥ s)) * v x

def attn (q k v : Fin 16896 → Fin 512 → EReal) (lf : Fin 16384 → Fin 8 → EReal) (t : Fin 16384) (d : Fin 512) : EReal :=
  soft (logit q k lf t d) (fun x => v ⟨t.val / 2048 * 2048 + x.val, by omega⟩ d)

/-! ## Running sums -/

theorem foldl_add {ι : Type} (l : List ι) (f : ι → EReal) (z : EReal) : l.foldl (fun r n => r + f n) z = z + (l.map f).sum := by
  induction l generalizing z with
  | nil => simp
  | cons a l ih => rw [List.foldl_cons, ih, List.map_cons, List.sum_cons, add_assoc]

theorem sum_shifted {N Nm1 : ℕ} (hN : Nm1 + 1 = N) (F : ℕ → EReal) (j : ℕ) (hj : j < N) :
    ∑ n : Fin N, (if Nm1 ≤ j + n.val then F (j + n.val - Nm1) else 0) = ∑ i ∈ Finset.range (j + 1), F i := by
  rw [Fin.sum_univ_eq_sum_range (fun n => if Nm1 ≤ j + n then F (j + n - Nm1) else 0) N,
    show N = (Nm1 - j) + (j + 1) by omega, Finset.sum_range_add, Finset.sum_eq_zero (fun n hn => ?_), zero_add]
  · refine Finset.sum_congr rfl fun i _ => ?_
    rw [if_pos (by omega), show j + (Nm1 - j + i) - Nm1 = i by omega]
  · have := Finset.mem_range.1 hn
    rw [if_neg (by omega)]

/-- The windowed sum whose windows end at each place of a row is the row's running sum. -/
theorem cumsum_row {G N Nm1 : ℕ} (hN : Nm1 + 1 = N) (x : FVec Ideal (shape2 G N) .f32) (init : FVec Ideal shape0 .f32) (hinit : init ix0 = 0)
    (h : (shape2 G N).ReduceWindows (![1, N] : Fin 2 → Nat) ![1, 1] ![0, Nm1] ![0, 0] (shape2 G N)) (hu : 0 < shape0.numel) (g : Fin G) (j : Fin N) :
    Host.reduceWindowAdd ![1, N] ![1, 1] ![0, Nm1] ![0, 0] x init h hu (ix2 g j)
      = ∑ i ∈ Finset.range (j.val + 1), if hi : i < N then x (ix2 g ⟨i, hi⟩) else 0 := by
  have hj := j.isLt
  have hg := g.isLt
  rw [← sum_shifted hN (fun i => if hi : i < N then x (ix2 g ⟨i, hi⟩) else 0) j.val hj]
  unfold Host.reduceWindowAdd
  rw [Ideal.hostReduceWindowAdd_def]
  unfold Ideal.hostReduceWindowAdd Host.reduceWindow
  dsimp only
  rw [foldl_add, (congrArg init (funext fun a => a.elim0)).trans hinit, zero_add, ← Fin.sum_univ_def]
  refine Fintype.sum_equiv (finCongr (numel2 N)) _ _ fun n => ?_
  have hn : n.val < N := (n.cast (numel2 N)).isLt
  have hw0 : ((shape2 1 N).rowMajor.symm n 0).val = 0 := by rw [symm2]; rfl
  have hw : ((shape2 1 N).rowMajor.symm n 1).val = n.val := by rw [symm2]; rfl
  show _ = if Nm1 ≤ j.val + n.val then (if hi : j.val + n.val - Nm1 < N then x (ix2 g ⟨j.val + n.val - Nm1, hi⟩) else 0) else 0
  split
  · next hin =>
    have h1 := hin 1
    change Nm1 ≤ j.val * 1 + ((shape2 1 N).rowMajor.symm n 1).val ∧ j.val * 1 + ((shape2 1 N).rowMajor.symm n 1).val - Nm1 < N at h1
    rw [hw] at h1
    rw [if_pos (by omega), dif_pos (by omega)]
    refine congrArg x (funext fun a => Fin.ext ?_)
    match a with
    | ⟨0, _⟩ =>
      show g.val * 1 + ((shape2 1 N).rowMajor.symm n 0).val - 0 = g.val
      rw [hw0]; omega
    | ⟨1, _⟩ =>
      show j.val * 1 + ((shape2 1 N).rowMajor.symm n 1).val - Nm1 = j.val + n.val - Nm1
      rw [hw, Nat.mul_one]
  · next hin =>
    rw [if_neg fun hle => hin fun a => by
      match a with
      | ⟨0, _⟩ =>
        show 0 ≤ g.val * 1 + ((shape2 1 N).rowMajor.symm n 0).val ∧ g.val * 1 + ((shape2 1 N).rowMajor.symm n 0).val - 0 < G
        rw [hw0]; omega
      | ⟨1, _⟩ =>
        show Nm1 ≤ j.val * 1 + ((shape2 1 N).rowMajor.symm n 1).val ∧ j.val * 1 + ((shape2 1 N).rowMajor.symm n 1).val - Nm1 < N
        rw [hw]; omega]

/-- A choice by a comparison of two small positions. -/
theorem select_le (x y : ℕ) (hx : x < 2048) (hy : y < 2048) (a b : EReal) :
    Scalar.select (IntOp.cmpi .sle (BitVec.ofNat 32 x) (BitVec.ofNat 32 y)) a b = if x ≤ y then a else b := by
  have h : (BitVec.ofNat 32 x).sle (BitVec.ofNat 32 y) = decide (x ≤ y) := by
    rw [BitVec.sle_eq_decide, decide_eq_decide, BitVec.toInt_eq_toNat_of_lt (by rw [BitVec.toNat_ofNat]; omega),
      BitVec.toInt_eq_toNat_of_lt (by rw [BitVec.toNat_ofNat]; omega), BitVec.toNat_ofNat, BitVec.toNat_ofNat]
    omega
  unfold IntOp.cmpi Scalar.select
  by_cases hxy : x ≤ y <;> simp [h, hxy]

end Cert.AttnSpec
-- ==== Proof.AttnBlk.lean ====
module

public import proofs.«01_k».proof.Proof.AttnRow
public import proofs.«01_k».proof.Proof.AttnCum
public import proofs.«01_k».proof.Proof.AttnSpec
public import proofs.«01_k».proof.Proof.Gen.KernelIdeal.Value
public import Idealize.ShloMosaic.Lib.Pipeline.ValueKit.Partial
public import Idealize.ShloMosaic.Lib.Pipeline.ValueKit.Geometry
public import Idealize.ShloMosaic.Lib.Pipeline.ValueKit.Point

@[expose] public section

/-!
# The attention kernel's blocks

Point `t` of the grid is sequence `t / 32`, pair of heads `t / 8 % 4`, block of queries `t % 8`. Each block read at
coordinates, and the running sums the scratch holds at every point.
-/

set_option maxRecDepth 16384

noncomputable section

namespace Cert.KernelIdeal.Attn

open Cert.KernelIdeal Cert.KernelIdeal.Gen Idealize.ShloMosaic Idealize.ShloMosaic.TcCoe Idealize.SL.Sem Cert.AttnMath Cert.AttnSpec

variable (m : (ℓ : Loc nD τ sig) → Buf (Elt Ideal) ℓ)

theorem coords_eq : ∀ t : Fin cfg0.N, ((grid0.coords t) 0).val = t.val / 32 ∧ ((grid0.coords t) 1).val = t.val / 8 % 4 ∧ ((grid0.coords t) 2).val = t.val % 8 := by
  decide +kernel

theorem index_0 : ∀ t : Fin cfg0.N, win0_0.index t = ![8 * (t.val / 32) + t.val % 8, t.val / 8 % 4] := by decide +kernel
theorem index_1 : ∀ t : Fin cfg0.N, win0_1.index t = ![t.val / 32, t.val / 8 % 4] := by decide +kernel
theorem index_2 : ∀ t : Fin cfg0.N, win0_2.index t = ![t.val / 32, t.val / 8 % 4] := by decide +kernel
theorem index_3 : ∀ t : Fin cfg0.N, win0_3.index t = ![t.val / 32, 0, 0] := by decide +kernel
theorem index_4 : ∀ t : Fin cfg0.N, win0_4.index t = ![8 * (t.val / 32) + t.val % 8, t.val / 8 % 4] := by decide +kernel

theorem lt_N (t : Fin cfg0.N) : t.val < 256 := lt_of_lt_of_eq t.isLt N_0

theorem q_read (c : Dev nD) (t : Fin cfg0.N) (r : Fin 256) (l : Fin 128) :
    (iblk m c 0 t : Vec Ideal S256x128 .bf16) (ix2 r l)
      = m (c.tc.loc main_arg0) (ix2 ⟨(8 * (t.val / 32) + t.val % 8) * 256 + r.val, by have := lt_N t; omega⟩ ⟨t.val / 8 % 4 * 128 + l.val, by omega⟩) := by
  have h := lt_N t
  blk_ext! [iblk, V, index_0 t]

theorem k_read (c : Dev nD) (t : Fin cfg0.N) (k : Fin 2048) (l : Fin 128) :
    (X0_1 m c t : Vec Ideal S2048x128 .bf16) (ix2 k l)
      = m (c.tc.loc main_arg1) (ix2 ⟨t.val / 32 * 2048 + k.val, by have := lt_N t; omega⟩ ⟨t.val / 8 % 4 * 128 + l.val, by omega⟩) := by
  have h := lt_N t
  unfold X0_1 Pipeline.Window.fill
  rw [dif_pos (moved0_1 t _)]
  blk_ext! [iblk, V, index_1 t]

theorem v_read (c : Dev nD) (t : Fin cfg0.N) (k : Fin 2048) (l : Fin 128) :
    (X0_2 m c t : Vec Ideal S2048x128 .bf16) (ix2 k l)
      = m (c.tc.loc main_arg2) (ix2 ⟨t.val / 32 * 2048 + k.val, by have := lt_N t; omega⟩ ⟨t.val / 8 % 4 * 128 + l.val, by omega⟩) := by
  have h := lt_N t
  unfold X0_2 Pipeline.Window.fill
  rw [dif_pos (moved0_2 t _)]
  blk_ext! [iblk, V, index_2 t]

theorem lf_read (c : Dev nD) (t : Fin cfg0.N) (h : Fin 8) (s : Fin 2048) :
    (iblk m c 3 t : Vec Ideal S1x8x2048 .f32) (ix3 0 h s)
      = m (c.tc.loc main_arg3) (ix2 ⟨t.val / 32 * 2048 + s.val, by have := lt_N t; omega⟩ h) := by
  have ht := lt_N t
  blk_simp [iblk, index_3 t]
  entry_read
  pointwise
  blk_ext! [index_3 t]

theorem scratch_at (c : Dev nD) (n : ℕ) (hn : n < cfg0.N) : (outsAt0 m c n hn).2 = kept (iblk m c 3 ⟨n, hn⟩) := by
  have hA : ∀ (n : ℕ) (hn : n < cfg0.N), n % 8 = 0 → (outsAt0 m c n hn).2 = kept (iblk m c 3 ⟨n, hn⟩) := by
    intro n hn h0
    refine (congrArg Prod.snd (outsAt0_A m c ⟨n, hn⟩ h0)).trans ?_
    dsimp only
    rw [scratch_eq]
  induction n with
  | zero => exact hA 0 hn rfl
  | succ n ih =>
    by_cases h0 : (n + 1) % 8 = 0
    · exact hA (n + 1) hn h0
    · refine (congrArg Prod.snd (outsAt0_B m c ⟨n + 1, hn⟩ h0)).trans ?_
      dsimp only
      unfold sout0_B_0
      refine (ih (Nat.lt_of_succ_lt hn)).trans ?_
      refine congrArg kept (funext fun (y : S1x8x2048.Idx) => ?_)
      have hy : y = ix3 0 (y 1) (y 2) := by
        funext a; fin_cases a
        · exact Fin.ext (by have := (y 0).isLt; change (y 0).val < 1 at this; show (y 0).val = 0; omega)
        · rfl
        · rfl
      rw [hy]
      refine (lf_read m c ⟨n, Nat.lt_of_succ_lt hn⟩ (y 1) (y 2)).trans (Eq.trans ?_ (lf_read m c ⟨n + 1, hn⟩ (y 1) (y 2)).symm)
      have e : n / 32 = (n + 1) / 32 := by omega
      simp only [e]

/-- The running sums kept for a sequence are its gates' running sums. -/
theorem gate_read (c : Dev nD) (t : Fin cfg0.N) (h : Fin 8) (k : ℕ) (hk : k < 2048) :
    cumAt (kept (iblk m c 3 t)) h k
      = gate (fun r a => m (c.tc.loc main_arg3) (ix2 r a)) ⟨t.val / 32, by have := lt_N t; omega⟩ h k := by
  unfold cumAt
  rw [dif_pos hk]
  show seq (sums (iblk m c 3 t)) h (256 * (k / 256) + k % 256) = _
  rw [Nat.div_add_mod, sums_apply _ h k hk]
  unfold gate
  refine Finset.sum_congr rfl fun j _ => ?_
  split
  · exact lf_read m c t h _
  · rfl

end Cert.KernelIdeal.Attn
-- ==== Proof.AttnArr.lean ====
module

public import proofs.«01_k».proof.Proof.AttnBlk
public import proofs.«01_k».proof.Proof.AttnOut

@[expose] public section

/-!
# What the attention kernel's result array holds

Row `t` of the prompt, lane `d`: `AttnSpec.attn` of the arguments, when the queries, the keys and the gates are numbers.
-/

set_option maxRecDepth 16384

noncomputable section

namespace Cert.KernelIdeal.Attn

open Cert.KernelIdeal Cert.KernelIdeal.Gen Idealize.ShloMosaic Idealize.ShloMosaic.TcCoe Idealize.SL.Sem Cert.AttnMath Cert.AttnSpec

/-! ## Numbers -/

theorem real_sum {ι : Type} (s : Finset ι) (f : ι → EReal) (h : ∀ i ∈ s, ∃ x : ℝ, f i = x) : ∃ x : ℝ, ∑ i ∈ s, f i = x := by
  classical
  induction s using Finset.induction_on with
  | empty => exact ⟨0, by simp⟩
  | insert a s ha ih =>
    obtain ⟨x, hx⟩ := h a (Finset.mem_insert_self a s)
    obtain ⟨y, hy⟩ := ih fun i hi => h i (Finset.mem_insert_of_mem hi)
    exact ⟨x + y, by rw [Finset.sum_insert ha, hx, hy, EReal.coe_add]⟩

theorem real_gate {lf : Fin 16384 → Fin 8 → EReal} (hlf : ∀ r a, ∃ x : ℝ, lf r a = x) (b h : Fin 8) (n : ℕ) :
    ∃ x : ℝ, gate lf b h n = x :=
  real_sum _ _ fun j _ => by
    split
    · exact hlf _ _
    · exact ⟨0, rfl⟩

theorem real_dot {n : ℕ} {f g : Fin n → EReal} (hf : ∀ i, ∃ x : ℝ, f i = x) (hg : ∀ i, ∃ x : ℝ, g i = x) : ∃ x : ℝ, ∑ i, f i * g i = x :=
  real_sum _ _ fun i _ => by
    obtain ⟨x, hx⟩ := hf i
    obtain ⟨y, hy⟩ := hg i
    exact ⟨x * y, by rw [hx, hy, EReal.coe_mul]⟩

/-- A sum over two heads' lanes with one head's put to zero is the sum over the other head's lanes. -/
theorem sum_half (b : Fin 2) (f g : Fin 128 → EReal) :
    ∑ l : Fin 128, (if l.val / 64 = b.val then f l else 0) * g l
      = ∑ e : Fin 64, f ⟨64 * b.val + e.val, by omega⟩ * g ⟨64 * b.val + e.val, by omega⟩ := by
  rw [Fin.sum_univ_add (a := 64) (b := 64) (fun l : Fin 128 => (if l.val / 64 = b.val then f l else 0) * g l)]
  match b with
  | ⟨0, _⟩ =>
    rw [Finset.sum_eq_zero (s := Finset.univ) (f := fun e : Fin 64 => _ * g (Fin.natAdd 64 e)) fun e _ => ?_, add_zero]
    · refine Finset.sum_congr rfl fun e _ => ?_
      rw [if_pos (by show e.val / 64 = 0; omega)]
      congr 2 <;> exact Fin.ext (by show e.val = 64 * 0 + e.val; omega)
    · rw [if_neg (by show ¬ (64 + e.val) / 64 = 0; omega), zero_mul]
  | ⟨1, _⟩ =>
    rw [Finset.sum_eq_zero (s := Finset.univ) (f := fun e : Fin 64 => _ * g (Fin.castAdd 64 e)) fun e _ => ?_, zero_add]
    · refine Finset.sum_congr rfl fun e _ => ?_
      rw [if_pos (by show (64 + e.val) / 64 = 1; omega)]
      congr 2
    · rw [if_neg (by show ¬ e.val / 64 = 1; omega), zero_mul]

variable (m : (ℓ : Loc nD τ sig) → Buf (Elt Ideal) ℓ)

/-- The block a point leaves, whichever case it is. -/
theorem out_at (c : Dev nD) (t : Fin cfg0.N) : (outsAt0 m c t.val t.isLt).1
    = pointOut c (grid0.coords t) (ms0_0 t) (hs0_0 t) (ms0_1 t) (hs0_1 t) (ms0_2 t) (hs0_2 t) (ms0_3 t) (hs0_3 t) (ms0_4 t) (hs0_4 t) scM0_0 (Memref.isWhole_whole _)
        (iblk m c 0 t) ((hs0_1 t).unread (X0_1 m c t)) ((hs0_2 t).unread (X0_2 m c t)) ((Memref.isWhole_whole _).unread (kept (iblk m c 3 t))) := by
  by_cases h0 : t.val % 8 = 0
  · refine (congrArg Prod.fst (outsAt0_A m c t h0)).trans ?_
    dsimp only
    rw [out_A, scratch_eq]
  · have hs : (outsAt0 m c (t.val - 1) (Nat.lt_of_le_of_lt (Nat.sub_le _ _) t.isLt)).2 = kept (iblk m c 3 t) := by
      have h1 := scratch_at m c t.val t.isLt
      rw [congrArg Prod.snd (outsAt0_B m c t h0)] at h1
      exact h1
    refine (congrArg Prod.fst (outsAt0_B m c t h0)).trans ?_
    dsimp only
    rw [out_B, hs]

section
variable (c : Dev nD)

abbrev qa : Fin 16896 → Fin 512 → EReal := fun r a => m (c.tc.loc main_arg0) (ix2 r a)
abbrev ka : Fin 16896 → Fin 512 → EReal := fun r a => m (c.tc.loc main_arg1) (ix2 r a)
abbrev va : Fin 16896 → Fin 512 → EReal := fun r a => m (c.tc.loc main_arg2) (ix2 r a)
abbrev la : Fin 16384 → Fin 8 → EReal := fun r a => m (c.tc.loc main_arg3) (ix2 r a)

theorem point_attn (t : Fin cfg0.N) (r : Fin 256) (l : Fin 128)
    (hq : ∀ r a, ∃ x : ℝ, qa m c r a = x) (hk : ∀ r a, ∃ x : ℝ, ka m c r a = x) (hlf : ∀ r a, ∃ x : ℝ, la m c r a = x)
    (T : Fin 16384) (hT : T.val = (8 * (t.val / 32) + t.val % 8) * 256 + r.val) (D : Fin 512) (hD : D.val = t.val / 8 % 4 * 128 + l.val) :
    (outsAt0 m c t.val t.isLt).1 (ix2 r l) = attn (qa m c) (ka m c) (va m c) (la m c) T D := by
  have htN := lt_N t
  obtain ⟨_, hc1, hc2⟩ := coords_eq t
  have hr := r.isLt
  have hl := l.isLt
  rw [out_at m c t]
  -- the score, as the arguments give it
  have hscore : ∀ k (hk : k < 2048), score (grid0.coords t 2).val (half ⟨l.val / 64, by omega⟩ (iblk m c 0 t)) (X0_1 m c t) (kept (iblk m c 3 t)) ⟨D.val / 64, by omega⟩ r k
      = (∑ e : Fin 64, qa m c ⟨T.val, by omega⟩ ⟨D.val / 64 * 64 + e.val, by omega⟩ * ka m c ⟨T.val / 2048 * 2048 + k, by omega⟩ ⟨D.val / 64 * 64 + e.val, by omega⟩)
        + (gate (la m c) ⟨T.val / 2048, by omega⟩ ⟨D.val / 64, by omega⟩ (256 * (t.val % 8) + 255) - gate (la m c) ⟨T.val / 2048, by omega⟩ ⟨D.val / 64, by omega⟩ k) := by
    intro k hk
    have eb : (⟨t.val / 32, by omega⟩ : Fin 8) = ⟨T.val / 2048, by omega⟩ := Fin.ext (by show t.val / 32 = T.val / 2048; omega)
    unfold score
    rw [hc2, gate_read m c t _ _ (by omega), gate_read m c t _ k hk, eb]
    congr 1
    refine (sum_half ⟨l.val / 64, by omega⟩ (fun x => (iblk m c 0 t : Vec Ideal S256x128 .bf16) (ix2 r x)) (fun x => rowAt (X0_1 m c t) k x)).trans ?_
    refine Finset.sum_congr rfl fun e _ => ?_
    unfold rowAt
    dsimp only
    rw [dif_pos hk, q_read m c t, k_read m c t]
    have e1 : ∀ h1, (⟨t.val / 8 % 4 * 128 + (64 * (l.val / 64) + e.val), h1⟩ : Fin 512) = ⟨D.val / 64 * 64 + e.val, by omega⟩ := fun _ => Fin.ext (by dsimp only; omega)
    have e2 : ∀ h1, (⟨(8 * (t.val / 32) + t.val % 8) * 256 + r.val, h1⟩ : Fin 16896) = ⟨T.val, by omega⟩ := fun _ => Fin.ext (by dsimp only; omega)
    have e3 : ∀ h1, (⟨t.val / 32 * 2048 + k, h1⟩ : Fin 16896) = ⟨T.val / 2048 * 2048 + k, by omega⟩ := fun _ => Fin.ext (by dsimp only; omega)
    simp only [e1, e2, e3]
  have hreal : ∀ k, k < 2048 → ∃ x : ℝ, score (grid0.coords t 2).val (half ⟨l.val / 64, by omega⟩ (iblk m c 0 t)) (X0_1 m c t) (kept (iblk m c 3 t)) ⟨D.val / 64, by omega⟩ r k = x := by
    intro k hk'
    rw [hscore k hk']
    obtain ⟨x, hx⟩ := real_dot (f := fun e : Fin 64 => qa m c ⟨T.val, by omega⟩ ⟨D.val / 64 * 64 + e.val, by omega⟩)
      (g := fun e => ka m c ⟨T.val / 2048 * 2048 + k, by omega⟩ ⟨D.val / 64 * 64 + e.val, by omega⟩) (fun e => hq _ _) (fun e => hk _ _)
    obtain ⟨y, hy⟩ := real_gate hlf ⟨T.val / 2048, by omega⟩ ⟨D.val / 64, by omega⟩ (256 * (t.val % 8) + 255)
    obtain ⟨z, hz⟩ := real_gate hlf ⟨T.val / 2048, by omega⟩ ⟨D.val / 64, by omega⟩ k
    exact ⟨x + (y - z), by rw [hx, hy, hz, EReal.coe_add, EReal.coe_sub]⟩
  have hne : ∀ k, k < 2048 → score (grid0.coords t 2).val (half ⟨l.val / 64, by omega⟩ (iblk m c 0 t)) (X0_1 m c t) (kept (iblk m c 3 t)) ⟨D.val / 64, by omega⟩ r k ≠ ⊤
      ∧ score (grid0.coords t 2).val (half ⟨l.val / 64, by omega⟩ (iblk m c 0 t)) (X0_1 m c t) (kept (iblk m c 3 t)) ⟨D.val / 64, by omega⟩ r k ≠ ⊥ := by
    intro k hk'
    obtain ⟨x, hx⟩ := hreal k hk'
    rw [hx]
    exact ⟨EReal.coe_ne_top x, EReal.coe_ne_bot x⟩
  obtain ⟨M, L, A, hO, hp⟩ := point_row c (grid0.coords t) (ms0_0 t) (hs0_0 t) (ms0_1 t) (hs0_1 t) (ms0_2 t) (hs0_2 t) (ms0_3 t) (hs0_3 t) (ms0_4 t) (hs0_4 t) scM0_0 (Memref.isWhole_whole _)
    (iblk m c 0 t) ((hs0_1 t).unread (X0_1 m c t)) ((hs0_2 t).unread (X0_2 m c t)) ((Memref.isWhole_whole _).unread (kept (iblk m c 3 t)))
    (X0_1 m c t) (X0_2 m c t) (kept (iblk m c 3 t)) ((hs0_1 t).read_unread _) ((hs0_2 t).read_unread _) ((Memref.isWhole_whole _).read_unread _)
    ⟨l.val / 64, by omega⟩ ⟨D.val / 64, by omega⟩ (by rw [hc1]; show D.val / 64 = 2 * (t.val / 8 % 4) + l.val / 64; omega) r l rfl hne
  rw [hp]
  obtain ⟨y, hy⟩ := real_gate hlf ⟨T.val / 2048, by omega⟩ ⟨D.val / 64, by omega⟩ (256 * (t.val % 8) + 255)
  obtain ⟨w, hw⟩ := real_gate hlf ⟨T.val / 2048, by omega⟩ ⟨D.val / 64, by omega⟩ (T.val % 2048)
  have hTm : T.val % 2048 = 256 * (t.val % 8) + r.val := by omega
  unfold attn soft
  refine hO.finish (N := 2048) (by rw [hc2]; omega) (by omega) (fun k hk' => ?_) (masked_ne_top (by rw [hc2]; omega) fun k hk' => (hne k hk').1) 0 (by omega) ?_
    (w - y) _ _ (fun k => ?_) (fun k => ?_)
  · rw [hc2] at hk'
    unfold masked
    rw [if_neg (by rw [hc2]; omega)]
  · unfold masked
    rw [if_pos (Nat.zero_le _)]
    exact (hne 0 (by omega)).2
  · unfold logit masked
    rw [hc2, hTm]
    split
    · rw [← hc2, hscore k.val k.isLt]
      obtain ⟨x, hx⟩ := real_dot (f := fun e : Fin 64 => qa m c ⟨T.val, by omega⟩ ⟨D.val / 64 * 64 + e.val, by omega⟩)
        (g := fun e => ka m c ⟨T.val / 2048 * 2048 + k.val, by omega⟩ ⟨D.val / 64 * 64 + e.val, by omega⟩) (fun e => hq _ _) (fun e => hk _ _)
      obtain ⟨z, hz⟩ := real_gate hlf ⟨T.val / 2048, by omega⟩ ⟨D.val / 64, by omega⟩ k.val
      rw [hTm] at hw
      rw [hx, hy, hz, hc2, hw]
      norm_cast
      ring
    · simp
  · unfold rowAt
    rw [dif_pos k.isLt]
    refine Eq.trans ?_ (v_read m c t k l).symm
    have e1 : ∀ h1, (⟨t.val / 8 % 4 * 128 + l.val, h1⟩ : Fin 512) = D := fun _ => Fin.ext (by dsimp only; omega)
    have e3 : ∀ h1, (⟨t.val / 32 * 2048 + k.val, h1⟩ : Fin 16896) = ⟨T.val / 2048 * 2048 + k.val, by omega⟩ := fun _ => Fin.ext (by dsimp only; omega)
    simp only [e1, e3]

/-- What the whole result array is on the prompt's rows. -/
def whole : S16896x512.Idx → EReal := fun i =>
  if h : (i 0).val < 16384 then attn (qa m c) (ka m c) (va m c) (la m c) ⟨(i 0).val, h⟩ (i 1) else 0

theorem arr_attn (hq : ∀ r a, ∃ x : ℝ, qa m c r a = x) (hk : ∀ r a, ∃ x : ℝ, ka m c r a = x) (hlf : ∀ r a, ∃ x : ℝ, la m c r a = x)
    (T : Fin 16384) (D : Fin 512) :
    (dats m 0 c).arrAt 4 cfg0.N (ix2 (⟨T.val, by omega⟩ : Fin 16896) D) = attn (qa m c) (ka m c) (va m c) (la m c) T D := by
  have h := (dats m 0 c).arrAt_apply_of_coversWhere 4 (whole m c) (P := fun i => (i 0).val < 16384) (fun β => β (0 : Fin 2) < 64) (by decide +kernel)
    (fun t hf y => ?_) (fun j => by blk_simp [Pipeline.Window.cell_apply]; omega) (ix2 (⟨T.val, by omega⟩ : Fin 16896) D)
  · rw [h, if_pos (show ((ix2 (⟨T.val, by omega⟩ : Fin 16896) D) 0).val < 16384 from T.isLt)]
    unfold whole
    exact dif_pos T.isLt
  · blk_simp
    rw [after0_4]
    have htN := lt_N t
    have h0 := index_4 t
    have hy0 : (y 0).val < 256 := (y 0).isLt
    have hy1 : (y 1).val < 128 := (y 1).isLt
    have e0 : (((win0_4.blk t).view.emb y) 0).val = (8 * (t.val / 32) + t.val % 8) * 256 + (y 0).val := by
      blk_simp [index_4 t]
    have e1 : (((win0_4.blk t).view.emb y) 1).val = t.val / 8 % 4 * 128 + (y 1).val := by
      blk_simp [index_4 t]
    have hy : y = ix2 (⟨(y 0).val, hy0⟩ : Fin 256) (⟨(y 1).val, hy1⟩ : Fin 128) := by funext a; fin_cases a <;> rfl
    unfold whole
    rw [dif_pos (by omega)]
    rw [← point_attn m c t ⟨(y 0).val, hy0⟩ ⟨(y 1).val, hy1⟩ hq hk hlf _ e0 _ e1]
    exact congrArg _ hy

end

end Cert.KernelIdeal.Attn
-- ==== Proof.AttnRef.lean ====
module
public import proofs.«01_k».proof.Proof.Gen.ReferenceIdeal.Run
public import proofs.«01_k».proof.Proof.AttnSpec

@[expose] public section

/-!
# What the reference attention computes

Row `t` of the prompt, lane `d`: `AttnSpec.attn` of the arguments.
-/

set_option maxRecDepth 16384

noncomputable section

namespace Cert.ReferenceIdeal.Attn

open Cert.ReferenceIdeal Cert.ReferenceIdeal.Gen Idealize.ShloMosaic Idealize.ShloMosaic.TcCoe Idealize.SL.Sem Cert.AttnSpec

theorem negInf : Ideal.ofBits .f32 0xFF800000#32 = ⊥ := by simp [Ideal.ofBits, Ideal.ieee]

theorem zero_word : Ideal.ofBits .f32 0x00000000#32 = 0 := by simp [Ideal.ofBits, Ideal.ieee]

/-- The reference's running sums of the gates. -/
theorem gates (lf : FVec Ideal S16384x8 .f32) (b h : Fin 8) (n : Fin 2048) (g : Fin 64) (hg : g.val = b.val * 8 + h.val) :
    Host.reduceWindowAdd ![1, 2048] ![1, 1] ![0, 2047] ![0, 0]
      (shapeCast S64x2048 (transpose S8x8x2048 [0, 2, 1] (shapeCast S8x2048x8 lf shapeCasts_S16384x8_S8x2048x8) transposes_S8x2048x8_S8x8x2048_0_2_1) shapeCasts_S8x8x2048_S64x2048)
      (broadcastInDim S_ ![] bcast_S_S_ (constant S_ FTy.f32 0#32)) reduceWindows_S64x2048_S64x2048_w1s1p0_0_w2048s1p2047_0 h_S_ (ix2 g n)
      = gate (fun r a => lf (ix2 r a)) b h n.val := by
  refine (cumsum_row (G := 64) (N := 2048) rfl _ _ zero_word _ _ g n).trans ?_
  unfold gate
  refine Finset.sum_congr rfl fun j _ => ?_
  split
  · pointwise
    congr 2 <;> apply Fin.ext <;> dsimp only <;> omega
  · rfl

theorem res_apply (m : (ℓ : Loc nD τ sig) → Buf (Elt Ideal) ℓ) (c : Dev nD) (t : Fin 16384) (d : Fin 512) :
    Value.res_out0 m c (ix2 (⟨t.val, by omega⟩ : Fin 16896) d)
      = attn (fun r a => m (c.tc.loc main_arg0) (ix2 r a)) (fun r a => m (c.tc.loc main_arg1) (ix2 r a)) (fun r a => m (c.tc.loc main_arg2) (ix2 r a))
          (fun r a => m (c.tc.loc main_arg3) (ix2 r a)) t d := by
  have ht := t.isLt
  have hd := d.isLt
  have et : ∀ h, (⟨t.val / 2048 * 2048 + t.val % 2048, h⟩ : Fin 16896) = ⟨t.val, by omega⟩ := fun h => Fin.ext (by dsimp only; omega)
  have hc : ∀ (n : Fin 2048) h, _ = _ := fun n h => gates (m (c.tc.loc main_arg3)) ⟨t.val / 2048, by omega⟩ ⟨d.val / 64, by omega⟩ n ⟨t.val / 2048 * 8 + d.val / 64, h⟩ rfl
  have hs : ∀ (x : Fin 2048) (a b : EReal), _ = _ := fun x a b => select_le x.val (t.val % 2048) x.isLt (by omega) a b
  have hb : (id (constant (F := Ideal) S_ FTy.f32 4286578688#32) : FVec Ideal S_ .f32) ix0 = (⊥ : EReal) := negInf
  unfold Value.res_out0 Value.res_main_v44
  pointwise
  unfold attn soft logit
  simp only [hs, hc, et, negInf, hb]

end Cert.ReferenceIdeal.Attn
-- ==== Proof.AttnPre.lean ====
module

public import proofs.«01_k».proof.Proof.Gen.Pre_finite
public import proofs.«01_k».proof.Proof.Gen.On_prompt_rows
public import Idealize.ShloMosaic.Lib.ReduceAll
public import Idealize.ShloMosaic.Lib.Pointwise

@[expose] public section

/-!
# The attention claim's precondition and mask, read at an index
-/

noncomputable section

open Idealize.ShloMosaic Idealize.SL.Sem

namespace Cert.Pre_finite

/-- An extended real whose absolute value is below infinity is a number. -/
theorem real_of_abs_lt (x : EReal) (h : Ideal.cmp .olt (max x (-x)) (Ideal.ofBits .f32 0x7F800000#32) = 1#1) : ∃ r : ℝ, x = r := by
  have hw : Ideal.ofBits .f32 0x7F800000#32 = ⊤ := by simp [Ideal.ofBits, Ideal.ieee]
  rw [hw] at h
  induction x with
  | bot => simp [Ideal.cmp] at h
  | top => simp [Ideal.cmp] at h
  | coe r => exact ⟨r, rfl⟩

instance : Subsingleton S_.Idx := ⟨fun a b => funext fun i => i.elim0⟩

theorem real_of_fn (q k v : FVec Ideal S16896x512 .bf16) (lf : FVec Ideal S16384x8 .f32) (h : fn q k v lf = fun _ => 1#1) :
    (∀ r a, ∃ x : ℝ, (q (ix2 r a) : EReal) = x) ∧ (∀ r a, ∃ x : ℝ, (k (ix2 r a) : EReal) = x) ∧ (∀ r a, ∃ x : ℝ, (lf (ix2 r a) : EReal) = x) := by
  have h0 := congrFun h ix0
  unfold fn at h0
  obtain ⟨h1, h2⟩ := IntOp.andi_eq_one.1 h0
  obtain ⟨h3, h4⟩ := IntOp.andi_eq_one.1 h1
  refine ⟨fun r a => real_of_abs_lt _ ?_, fun r a => real_of_abs_lt _ ?_, fun r a => real_of_abs_lt _ ?_⟩
  · exact Host.reduce_andi_all _ _ _ _ _ h3 (ix2 r a)
  · exact Host.reduce_andi_all _ _ _ _ _ h4 (ix2 r a)
  · exact Host.reduce_andi_all _ _ _ _ _ h2 (ix2 r a)

end Cert.Pre_finite

namespace Cert.On_prompt_rows

theorem row_of_fn {F : FTy → Type} [FloatOps F] (q k v : FVec F S16896x512 .bf16) (lf : FVec F S16384x8 .f32) (i : S16896x512.Idx)
    (h : fn q k v lf i = 1#1) : (i 0).val < 16384 := by
  have key : ∀ r : Fin 16896, IntOp.cmpi .slt (BitVec.ofNat 32 r.val) 16384#32 = 1#1 → r.val < 16384 := by decide +kernel
  exact key (i 0) h

end Cert.On_prompt_rows
-- ==== Proof.AttnClaim.lean ====
module

public import proofs.«01_k».proof.Defs
public import proofs.«01_k».proof.Proof.Gen.Kernel.Frame
public import proofs.«01_k».proof.Proof.AttnArr
public import proofs.«01_k».proof.Proof.AttnRef
public import proofs.«01_k».proof.Proof.AttnPre
public import Idealize.ShloMosaic.Lib.Quiescent

@[expose] public section

/-!
# The attention's claims
-/

noncomputable section

namespace Cert.Proof.Attn

open Idealize.ShloMosaic Idealize.ShloMosaic.TcCoe Idealize.SL.Sem Cert.AttnSpec

theorem frame_kernel : Cert.quiescent_Kernel := fun m ρ _ => Cert.Kernel.Gen.frame m ρ

theorem frame_ideal : Cert.quiescent_KernelIdeal := fun m ρ _ => Cert.KernelIdeal.Gen.frame m ρ

theorem frame_ideal_pre : Cert.quiescent_KernelIdeal_pre_finite := fun m ρ _ => Cert.KernelIdeal.Gen.frame m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_finite := fun m ρ _ => frame_reference m ρ trivial

theorem preserves : Cert.preserves_Kernel_KernelIdeal := trivial

/-- The attention of the arguments, at an index of the result; zero below the prompt's rows. -/
def value (q k v : (⟨2, ![16896, 512]⟩ : Shape).Idx → EReal) (lf : (⟨2, ![16384, 8]⟩ : Shape).Idx → EReal) (i : (⟨2, ![16896, 512]⟩ : Shape).Idx) : EReal :=
  if h : (i 0).val < 16384 then
    attn (fun r a => q (ix2 r a)) (fun r a => k (ix2 r a)) (fun r a => v (ix2 r a)) (fun r a => lf (ix2 r a)) ⟨(i 0).val, h⟩ (i 1)
  else 0

theorem algebraic : Cert.algebraic_KernelIdeal_ReferenceIdeal_on_prompt_rows_pre_finite := by
  intro m ρ m' ρ' hpre hagree
  refine ⟨fun c => value (m (c.tc.loc Cert.KernelIdeal.main_arg0)) (m (c.tc.loc Cert.KernelIdeal.main_arg1)) (m (c.tc.loc Cert.KernelIdeal.main_arg2))
    (m (c.tc.loc Cert.KernelIdeal.main_arg3)), ?_, ?_⟩
  · refine (θ_run Cert.KernelIdeal.defs _ _).mono (fun r h c => ⟨fun i hi => ?_, (h c).2⟩) (Cert.KernelIdeal.Value.run_blocks (F := Ideal) m ρ)
    have hrow := Cert.On_prompt_rows.row_of_fn _ _ _ _ i hi
    obtain ⟨hq, hk, hlf⟩ := Cert.Pre_finite.real_of_fn _ _ _ _ (hpre c)
    rw [(h c).1]
    refine Eq.trans ?_ (dif_pos hrow).symm
    refine Eq.trans (congrArg _ ?_) (Cert.KernelIdeal.Attn.arr_attn m c hq hk hlf ⟨(i 0).val, hrow⟩ (i 1))
    funext a; fin_cases a <;> rfl
  · refine (θ_run Cert.ReferenceIdeal.defs _ _).mono (fun r h c => ⟨fun i hi => ?_, (h c).2⟩) (Cert.ReferenceIdeal.Value.run (F := Ideal) m' ρ')
    have hrow := Cert.On_prompt_rows.row_of_fn _ _ _ _ i hi
    obtain ⟨e0, e1, e2, e3⟩ := hagree c
    refine (congrFun (h c).1 i).trans (Eq.trans ?_ (dif_pos hrow).symm)
    rw [← e0, ← e1, ← e2, ← e3]
    refine Eq.trans (congrArg _ ?_) (Cert.ReferenceIdeal.Attn.res_apply m' c ⟨(i 0).val, hrow⟩ (i 1))
    funext a; fin_cases a <;> rfl

end Cert.Proof.Attn
-- ==== Proof.MixSpec.lean ====
module

public import Idealize.ShloMosaic.PureOps
public import Idealize.ShloMosaic.Lib.Pipeline.ValueKit.Point

@[expose] public section

/-!
# One token's merge of the two branches

The functions of a token's rows that both programs compute: the normalised row, the gated activation, and the residual
with the gated attention and state-space branches added.
-/

noncomputable section

namespace Cert.MixSpec

open Idealize.ShloMosaic

/-- A two-dimensional array of extended reals. -/
abbrev Mat (a b : ℕ) : Type := (⟨2, ![a, b]⟩ : Shape).Idx → EReal

/-- A row over the root of its mean square, times the gains. -/
def rms (x g : Fin 1024 → EReal) (j : Fin 1024) : EReal :=
  x j * Ideal.rsqrt (Ideal.div (∑ k, x k * x k) (Ideal.ofBits .f32 0x44800000#32) + Ideal.ofBits .f32 0x358637BD#32) * g j

/-- The smooth gate with the hyperbolic tangent. -/
def gelu (s : EReal) : EReal :=
  s * (Ideal.ofBits .f32 0x3F000000#32 * (1 + Ideal.tanh (Ideal.ofBits .f32 0x3F4C422A#32 * (s + Ideal.ofBits .f32 0x3D372713#32 * (s * (s * s))))))

theorem cube (s : EReal) : s * s * s = s * (s * s) := mul_comm _ _

/-- A token's merged row, from its residual row, its attention row, its scan row and its scan input. -/
def mix (gm : Fin 1024 → EReal) (d : Fin 512 → EReal) (wg : Mat 1024 2048) (wa wb wao : Mat 512 1024) (wo : Mat 1024 1024)
    (x : Fin 1024 → EReal) (a y u : Fin 512 → EReal) (j : Fin 1024) : EReal :=
  x j + ∑ k : Fin 1024,
    (Ideal.logistic (∑ l, rms x gm l * wg (ix2 l ⟨k.val, by omega⟩)) * ∑ l, a l * wao (ix2 l k)
      + Ideal.logistic (∑ l, rms x gm l * wg (ix2 l ⟨1024 + k.val, by omega⟩))
        * ((∑ l, gelu (y l + d l * u l) * wa (ix2 l k)) * Ideal.logistic (∑ l, gelu (y l + d l * u l) * wb (ix2 l k))))
      * wo (ix2 k j)

theorem mix_congr {gm : Fin 1024 → EReal} {d : Fin 512 → EReal} {wg : Mat 1024 2048} {wa wb wao : Mat 512 1024} {wo : Mat 1024 1024}
    {x x' : Fin 1024 → EReal} {a a' y y' u u' : Fin 512 → EReal} (hx : ∀ l, x l = x' l) (ha : ∀ l, a l = a' l) (hy : ∀ l, y l = y' l) (hu : ∀ l, u l = u' l) :
    mix gm d wg wa wb wao wo x a y u = mix gm d wg wa wb wao wo x' a' y' u' := by
  rw [funext hx, funext ha, funext hy, funext hu]

/-- The merged row of token `T`: a token of the prompt, or one of the sample after them. -/
def rowH (xp : Mat 16384 1024) (xs : Mat 512 1024) (ap : Mat 16896 512) (ao : Mat 512 512) (yp : Mat 2048 4096) (ys : Mat 512 512) (u : Mat 2560 4096)
    (gm : Mat 1 1024) (d : Mat 1 512) (wg : Mat 1024 2048) (wa wb wao : Mat 512 1024) (wo : Mat 1024 1024) (T : Fin 16896) : Fin 1024 → EReal :=
  mix (fun l => gm (ix2 0 l)) (fun l => d (ix2 0 l)) wg wa wb wao wo
    (fun l => if h : T.val < 16384 then xp (ix2 ⟨T.val, h⟩ l) else xs (ix2 ⟨T.val - 16384, by omega⟩ l))
    (fun l => if _h : T.val < 16384 then ap (ix2 T l) else ao (ix2 ⟨T.val - 16384, by omega⟩ l))
    (fun l => if h : T.val < 16384 then yp (ix2 ⟨T.val % 2048, by omega⟩ ⟨T.val / 2048 * 512 + l.val, by omega⟩)
      else ys (ix2 ⟨T.val - 16384, by omega⟩ l))
    (fun l => if h : T.val < 16384 then u (ix2 ⟨T.val % 2048, by omega⟩ ⟨T.val / 2048 * 512 + l.val, by omega⟩)
      else u (ix2 ⟨2048 + (T.val - 16384), by omega⟩ ⟨l.val, by omega⟩))

end Cert.MixSpec
-- ==== Proof.MixBlk.lean ====
module

public import proofs.«01_k».proof.Proof.Gen.Kernel3Ideal.Value
public import proofs.«01_k».proof.Proof.MixSpec
public import Idealize.ShloMosaic.Lib.Pipeline.ValueKit.Partial
public import Idealize.ShloMosaic.Lib.Pipeline.ValueKit.Geometry
public import Idealize.ShloMosaic.Lib.Pipeline.ValueKit.Point

@[expose] public section

/-!
# What a point of the merge writes

Point `0` of the grid takes the sample's block, point `t + 1` block `t` of the prompt.
-/

set_option maxRecDepth 16384

noncomputable section

namespace Cert.Kernel3Ideal.Mix

open Cert.Kernel3Ideal Cert.Kernel3Ideal.Gen Idealize.ShloMosaic Idealize.ShloMosaic.TcCoe Idealize.SL.Sem Cert.MixSpec

/-- The sample's value at point `0`, the prompt's at the others. -/
abbrev pick (i : grid0.Coords) (a b : EReal) : EReal := Scalar.select (Scalar.cmpi CmpIPredicate.eq (BitVec.ofNat 32 (i 0).val) 0#32) a b

theorem pick_eq (i : grid0.Coords) (a b : EReal) : pick i a b = if (i 0).val = 0 then a else b := by
  have h : (i 0).val < 33 := (i 0).isLt
  by_cases h0 : (i 0).val = 0
  · simp [pick, Scalar.select, Scalar.cmpi, IntOp.cmpi, h0]
  · have : BitVec.ofNat 32 (i 0).val ≠ 0#32 := fun e => h0 (by have := congrArg BitVec.toNat e; simp at this; omega)
    have hb : (BitVec.ofNat 32 (i 0).val == 0#32) = false := by simpa using this
    simp [pick, Scalar.select, Scalar.cmpi, IntOp.cmpi, h0, hb]

section
variable (i : grid0.Coords) (x0 x1 : Vec Ideal S512x1024 .f32) (x2 x3 : Vec Ideal S512x512 .bf16) (x4 x5 x6 : Vec Ideal S512x512 .f32)
  (x7 x8 : Vec Ideal S1x1024 .f32) (x9 : Vec Ideal S1x512 .f32) (x10 : Vec Ideal S1024x2048 .bf16) (x11 x12 x13 : Vec Ideal S512x1024 .bf16) (x14 : Vec Ideal S1024x1024 .bf16)

/-- Row `r` of what a point merges. -/
def pointH (r : Fin 512) : Fin 1024 → EReal :=
  mix (fun l => x7 (ix2 0 l)) (fun l => x9 (ix2 0 l)) x10 x11 x12 x13 x14 (fun l => pick i (x1 (ix2 r l)) (x0 (ix2 r l)))
    (fun l => pick i (x3 (ix2 r l)) (x2 (ix2 r l))) (fun l => pick i (x5 (ix2 r l)) (x4 (ix2 r l))) (fun l => x6 (ix2 r l))

theorem out_h (r : Fin 512) (j : Fin 1024) :
    out0_15 i x0 x1 x2 x3 x4 x5 x6 x7 x8 x9 x10 x11 x12 x13 x14 (ix2 r j) = pointH i x0 x1 x2 x3 x4 x5 x6 x7 x9 x10 x11 x12 x13 x14 r j := by
  unfold_out out0_15
  unfold k0_pay7 k0_pay6 k0_pay5 k0_pay4 k0_pay3 k0_pay2 r0_0
  rw [View.canon_unit_zero (by decide)]
  pointwise
  rfl

theorem out_n (r : Fin 512) (j : Fin 1024) :
    out0_16 i x0 x1 x2 x3 x4 x5 x6 x7 x8 x9 x10 x11 x12 x13 x14 (ix2 r j)
      = rms (pointH i x0 x1 x2 x3 x4 x5 x6 x7 x9 x10 x11 x12 x13 x14 r) (fun l => x8 (ix2 0 l)) j := by
  unfold_out out0_16
  unfold k0_pay1 k0_pay8 k0_pay7 k0_pay6 k0_pay5 k0_pay4 k0_pay3 k0_pay2 r0_0
  rw [View.canon_unit_zero (by decide)]
  pointwise
  rfl

end

variable (m : (ℓ : Loc nD τ sig) → Buf (Elt Ideal) ℓ) (c : Dev nD)

theorem coords_eq : ∀ t : Fin cfg0.N, ((grid0.coords t) 0).val = t.val := by decide +kernel

theorem index_0 : ∀ t : Fin cfg0.N, win0_0.index t = ![t.val - 1, 0] := by decide +kernel
theorem index_1 : ∀ t : Fin cfg0.N, win0_1.index t = ![0, 0] := by decide +kernel
theorem index_2 : ∀ t : Fin cfg0.N, win0_2.index t = ![(t.val + 32) % 33, 0] := by decide +kernel
theorem index_3 : ∀ t : Fin cfg0.N, win0_3.index t = ![0, 0] := by decide +kernel
theorem index_4 : ∀ t : Fin cfg0.N, win0_4.index t = ![(t.val - 1) % 4, (t.val - 1) / 4] := by decide +kernel
theorem index_5 : ∀ t : Fin cfg0.N, win0_5.index t = ![0, 0] := by decide +kernel
theorem index_6 : ∀ t : Fin cfg0.N, win0_6.index t = ![if t.val = 0 then 4 else (t.val - 1) % 4, if t.val = 0 then 0 else (t.val - 1) / 4] := by decide +kernel
theorem index_7 : ∀ t : Fin cfg0.N, win0_7.index t = ![0, 0] := by decide +kernel
theorem index_8 : ∀ t : Fin cfg0.N, win0_8.index t = ![0, 0] := by decide +kernel
theorem index_9 : ∀ t : Fin cfg0.N, win0_9.index t = ![0, 0] := by decide +kernel
theorem index_10 : ∀ t : Fin cfg0.N, win0_10.index t = ![0, 0] := by decide +kernel
theorem index_11 : ∀ t : Fin cfg0.N, win0_11.index t = ![0, 0] := by decide +kernel
theorem index_12 : ∀ t : Fin cfg0.N, win0_12.index t = ![0, 0] := by decide +kernel
theorem index_13 : ∀ t : Fin cfg0.N, win0_13.index t = ![0, 0] := by decide +kernel
theorem index_14 : ∀ t : Fin cfg0.N, win0_14.index t = ![0, 0] := by decide +kernel
theorem index_15 : ∀ t : Fin cfg0.N, win0_15.index t = ![(t.val + 32) % 33, 0] := by decide +kernel
theorem index_16 : ∀ t : Fin cfg0.N, win0_16.index t = ![(t.val + 32) % 33, 0] := by decide +kernel

theorem lt_N (t : Fin cfg0.N) : t.val < 33 := lt_of_lt_of_eq t.isLt N_0

theorem read_0 (t : Fin cfg0.N) (r : Fin 512) (l : Fin 1024) :
    (iblk m c 0 t : Vec Ideal S512x1024 .f32) (ix2 r l) = m (c.tc.loc main_arg0) (ix2 ⟨(t.val - 1) * 512 + r.val, by have := lt_N t; omega⟩ l) := by
  have h := lt_N t
  blk_ext! [iblk, V, index_0 t]

theorem read_1 (t : Fin cfg0.N) : (iblk m c 1 t : Vec Ideal S512x1024 .f32) = m (c.tc.loc main_arg1) := by
  blk_ext! [iblk, V, index_1 t]

theorem read_2 (t : Fin cfg0.N) (r : Fin 512) (l : Fin 512) :
    (iblk m c 2 t : Vec Ideal S512x512 .bf16) (ix2 r l) = m (c.tc.loc main_arg2) (ix2 ⟨(t.val + 32) % 33 * 512 + r.val, by omega⟩ l) := by
  have h := lt_N t
  blk_ext! [iblk, V, index_2 t]

theorem read_3 (t : Fin cfg0.N) : (iblk m c 3 t : Vec Ideal S512x512 .bf16) = m (c.tc.loc main_arg3) := by
  blk_ext! [iblk, V, index_3 t]

theorem read_4 (t : Fin cfg0.N) (r : Fin 512) (l : Fin 512) :
    (iblk m c 4 t : Vec Ideal S512x512 .f32) (ix2 r l)
      = m (c.tc.loc main_arg4) (ix2 ⟨(t.val - 1) % 4 * 512 + r.val, by omega⟩ ⟨(t.val - 1) / 4 * 512 + l.val, by have := lt_N t; omega⟩) := by
  have h := lt_N t
  blk_ext! [iblk, V, index_4 t]

theorem read_5 (t : Fin cfg0.N) : (iblk m c 5 t : Vec Ideal S512x512 .f32) = m (c.tc.loc main_arg5) := by
  blk_ext! [iblk, V, index_5 t]

theorem read_6 (t : Fin cfg0.N) (r : Fin 512) (l : Fin 512) :
    (iblk m c 6 t : Vec Ideal S512x512 .f32) (ix2 r l)
      = m (c.tc.loc main_arg6) (ix2 ⟨(if t.val = 0 then 4 else (t.val - 1) % 4) * 512 + r.val, by split <;> omega⟩
        ⟨(if t.val = 0 then 0 else (t.val - 1) / 4) * 512 + l.val, by have := lt_N t; split <;> omega⟩) := by
  have h := lt_N t
  blk_ext! [iblk, V, index_6 t]

theorem read_7 (t : Fin cfg0.N) : (iblk m c 7 t : Vec Ideal S1x1024 .f32) = m (c.tc.loc main_arg7) := by
  blk_ext! [iblk, V, index_7 t]
theorem read_8 (t : Fin cfg0.N) : (iblk m c 8 t : Vec Ideal S1x1024 .f32) = m (c.tc.loc main_arg8) := by
  blk_ext! [iblk, V, index_8 t]
theorem read_9 (t : Fin cfg0.N) : (iblk m c 9 t : Vec Ideal S1x512 .f32) = m (c.tc.loc main_arg9) := by
  blk_ext! [iblk, V, index_9 t]
theorem read_10 (t : Fin cfg0.N) : (iblk m c 10 t : Vec Ideal S1024x2048 .bf16) = m (c.tc.loc main_arg10) := by
  blk_ext! [iblk, V, index_10 t]
theorem read_11 (t : Fin cfg0.N) : (iblk m c 11 t : Vec Ideal S512x1024 .bf16) = m (c.tc.loc main_arg11) := by
  blk_ext! [iblk, V, index_11 t]
theorem read_12 (t : Fin cfg0.N) : (iblk m c 12 t : Vec Ideal S512x1024 .bf16) = m (c.tc.loc main_arg12) := by
  blk_ext! [iblk, V, index_12 t]
theorem read_13 (t : Fin cfg0.N) : (iblk m c 13 t : Vec Ideal S512x1024 .bf16) = m (c.tc.loc main_arg13) := by
  blk_ext! [iblk, V, index_13 t]
theorem read_14 (t : Fin cfg0.N) : (iblk m c 14 t : Vec Ideal S1024x1024 .bf16) = m (c.tc.loc main_arg14) := by
  blk_ext! [iblk, V, index_14 t]

/-- The merged rows, of the kernel's arguments. -/
def rows : Fin 16896 → Fin 1024 → EReal :=
  rowH (m (c.tc.loc main_arg0)) (m (c.tc.loc main_arg1)) (m (c.tc.loc main_arg2)) (m (c.tc.loc main_arg3)) (m (c.tc.loc main_arg4)) (m (c.tc.loc main_arg5))
    (m (c.tc.loc main_arg6)) (m (c.tc.loc main_arg7)) (m (c.tc.loc main_arg9)) (m (c.tc.loc main_arg10)) (m (c.tc.loc main_arg11)) (m (c.tc.loc main_arg12))
    (m (c.tc.loc main_arg13)) (m (c.tc.loc main_arg14))

theorem point_rows (t : Fin cfg0.N) (r : Fin 512) (T : Fin 16896) (hT : T.val = (t.val + 32) % 33 * 512 + r.val) :
    pointH (grid0.coords t) (iblk m c 0 t) (iblk m c 1 t) (iblk m c 2 t) (iblk m c 3 t) (iblk m c 4 t) (iblk m c 5 t) (iblk m c 6 t) (iblk m c 7 t)
      (iblk m c 9 t) (iblk m c 10 t) (iblk m c 11 t) (iblk m c 12 t) (iblk m c 13 t) (iblk m c 14 t) r = rows m c T := by
  have h := lt_N t
  have hr := r.isLt
  obtain ⟨T, hT'⟩ := T
  obtain rfl : T = (t.val + 32) % 33 * 512 + r.val := hT
  unfold pointH rows rowH
  simp only [pick_eq, coords_eq, read_0, read_1, read_2, read_3, read_4, read_5, read_6, read_7, read_9, read_10, read_11, read_12, read_13, read_14]
  by_cases h0 : t.val = 0
  · have hlt : ¬ (t.val + 32) % 33 * 512 + r.val < 16384 := by omega
    refine mix_congr (fun l => ?_) (fun l => ?_) (fun l => ?_) fun l => ?_
    all_goals
      rw [dif_neg hlt]
      simp only [if_pos h0]
      exact congrArg _ (congrArg₂ _ (Fin.ext (by dsimp only; omega)) (Fin.ext (by dsimp only; try omega)))
  · have hlt : (t.val + 32) % 33 * 512 + r.val < 16384 := by omega
    refine mix_congr (fun l => ?_) (fun l => ?_) (fun l => ?_) fun l => ?_
    all_goals
      rw [dif_pos hlt]
      simp only [if_neg h0] <;>
      exact congrArg _ (congrArg₂ _ (Fin.ext (by dsimp only; omega)) (Fin.ext (by dsimp only; try omega)))

/-- The first result. -/
def wholeH : Mat 16896 1024 := fun i => rows m c (i 0) (i 1)

/-- The second result. -/
def wholeN : Mat 16896 1024 := fun i => rms (rows m c (i 0)) (fun l => m (c.tc.loc main_arg8) (ix2 0 l)) (i 1)

theorem arr_h : (dats m 0 c).arrAt 15 cfg0.N = wholeH m c := by
  refine (dats m 0 c).arrAt_eq_of_covers 15 _ (by decide +kernel) fun t hf y => ?_
  blk_simp
  rw [after0_15]
  have htN := lt_N t
  have hy0 : (y 0).val < 512 := (y 0).isLt
  have hy1 : (y 1).val < 1024 := (y 1).isLt
  have e0 : (((win0_15.blk t).view.emb y) 0).val = (t.val + 32) % 33 * 512 + (y 0).val := by blk_simp [index_15 t]
  have e1 : (((win0_15.blk t).view.emb y) 1).val = (y 1).val := by blk_simp [index_15 t]
  have hy : y = ix2 (⟨(y 0).val, hy0⟩ : Fin 512) (⟨(y 1).val, hy1⟩ : Fin 1024) := by funext a; fin_cases a <;> rfl
  unfold wholeH
  rw [← point_rows m c t ⟨(y 0).val, hy0⟩ _ e0, show ((win0_15.blk t).view.emb y) 1 = (⟨(y 1).val, hy1⟩ : Fin 1024) from Fin.ext e1, ← out_h]
  exact congrArg _ hy

theorem arr_n : (dats m 0 c).arrAt 16 cfg0.N = wholeN m c := by
  refine (dats m 0 c).arrAt_eq_of_covers 16 _ (by decide +kernel) fun t hf y => ?_
  blk_simp
  rw [after0_16]
  have htN := lt_N t
  have hy0 : (y 0).val < 512 := (y 0).isLt
  have hy1 : (y 1).val < 1024 := (y 1).isLt
  have e0 : (((win0_16.blk t).view.emb y) 0).val = (t.val + 32) % 33 * 512 + (y 0).val := by blk_simp [index_16 t]
  have e1 : (((win0_16.blk t).view.emb y) 1).val = (y 1).val := by blk_simp [index_16 t]
  have hy : y = ix2 (⟨(y 0).val, hy0⟩ : Fin 512) (⟨(y 1).val, hy1⟩ : Fin 1024) := by funext a; fin_cases a <;> rfl
  unfold wholeN
  rw [← point_rows m c t ⟨(y 0).val, hy0⟩ _ e0, show ((win0_16.blk t).view.emb y) 1 = (⟨(y 1).val, hy1⟩ : Fin 1024) from Fin.ext e1, ← read_8 m c t, ← out_n]
  exact congrArg _ hy

end Cert.Kernel3Ideal.Mix
-- ==== Proof.MixRef.lean ====
module

public import proofs.«01_k».proof.Proof.Gen.Reference3Ideal.Run
public import proofs.«01_k».proof.Proof.MixSpec
public import Idealize.ShloMosaic.Lib.Pipeline.ValueKit.Point

@[expose] public section

/-!
# What the reference merge computes
-/

set_option maxRecDepth 16384

noncomputable section

namespace Cert.Reference3Ideal.Mix

open Cert.Reference3Ideal Cert.Reference3Ideal.Gen Idealize.ShloMosaic Idealize.ShloMosaic.TcCoe Idealize.SL.Sem Cert.MixSpec

variable (m : (ℓ : Loc nD τ sig) → Buf (Elt Ideal) ℓ) (c : Dev nD)

/-- The merged rows, of the reference's arguments. -/
def rows : Fin 16896 → Fin 1024 → EReal :=
  rowH (m (c.tc.loc main_arg0)) (m (c.tc.loc main_arg1)) (m (c.tc.loc main_arg2)) (m (c.tc.loc main_arg3)) (m (c.tc.loc main_arg4)) (m (c.tc.loc main_arg5))
    (m (c.tc.loc main_arg6)) (m (c.tc.loc main_arg7)) (m (c.tc.loc main_arg9)) (m (c.tc.loc main_arg10)) (m (c.tc.loc main_arg11)) (m (c.tc.loc main_arg12))
    (m (c.tc.loc main_arg13)) (m (c.tc.loc main_arg14))

theorem h_apply (T : Fin 16896) (j : Fin 1024) : Value.res_out0 m c (ix2 T j) = rows m c T j := by
  unfold Value.res_out0 Value.res_main_v76
  pointwise
  simp only [cube]
  rfl

/-- The reference's norm of an array of rows. -/
def normed (h : FVec Ideal S16896x1024 .f32) (g : FVec Ideal S1x1024 .f32) : FVec Ideal S16896x1024 .bf16 :=
  truncf .bf16 (mulf (mulf h (broadcastInDim S16896x1024 ![0, 1] bcast_S16896x1_S16896x1024_0_1 (Host.rsqrt (addf
    (Host.divf (broadcastInDim S16896x1 ![0] bcast_S16896_S16896x1_0 (Host.reduceAdd (mulf h h) (constant S_ .f32 0x00000000#32) reducesTo_S16896x1024_S16896_d1 h_S_))
      (broadcastInDim S16896x1 ![] bcast_S_S16896x1 (constant S_ .f32 0x44800000#32)))
    (broadcastInDim S16896x1 ![] bcast_S_S16896x1 (constant S_ .f32 0x358637BD#32))))))
    (broadcastInDim S16896x1024 ![0, 1] bcast_S1x1024_S16896x1024_0_1 g)) bitsLt_bf16_f32

theorem normed_apply (h : FVec Ideal S16896x1024 .f32) (g : FVec Ideal S1x1024 .f32) (T : Fin 16896) (j : Fin 1024) :
    normed h g (ix2 T j) = rms (fun l => h (ix2 T l)) (fun l => g (ix2 0 l)) j := by
  unfold normed rms
  pointwise

theorem n_apply (T : Fin 16896) (j : Fin 1024) :
    Value.res_out1 m c (ix2 T j) = rms (rows m c T) (fun l => m (c.tc.loc main_arg8) (ix2 0 l)) j := by
  have e : Value.res_out1 m c = normed (Value.res_out0 m c) (m (c.tc.loc main_arg8)) := rfl
  rw [e, normed_apply]
  simp only [h_apply]

end Cert.Reference3Ideal.Mix
-- ==== Proof.MixClaim.lean ====
module

public import proofs.«01_k».proof.Defs
public import proofs.«01_k».proof.Proof.Gen.Kernel3.Frame
public import proofs.«01_k».proof.Proof.MixBlk
public import proofs.«01_k».proof.Proof.MixRef
public import Idealize.ShloMosaic.Lib.Quiescent

@[expose] public section

/-!
# The merge's claims
-/

noncomputable section

namespace Cert.Proof.Mix

open Idealize.ShloMosaic Idealize.ShloMosaic.TcCoe Idealize.SL.Sem Cert.MixSpec

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem preserves : Cert.preserves_Kernel3_Kernel3Ideal := trivial

theorem algebraic : Cert.algebraic_Kernel3Ideal_Reference3Ideal := by
  intro m ρ m' ρ' _ hagree
  have hrows : ∀ c, Cert.Reference3Ideal.Mix.rows m' c = Cert.Kernel3Ideal.Mix.rows m c := by
    intro c
    obtain ⟨e0, e1, e2, e3, e4, e5, e6, e7, _, e9, e10, e11, e12, e13, e14⟩ := hagree c
    unfold Cert.Reference3Ideal.Mix.rows Cert.Kernel3Ideal.Mix.rows
    rw [e0, e1, e2, e3, e4, e5, e6, e7, e9, e10, e11, e12, e13, e14]
  refine ⟨fun c => Cert.Kernel3Ideal.Mix.wholeH m c, fun c => Cert.Kernel3Ideal.Mix.wholeN m c, ?_, ?_⟩
  · exact (θ_run Cert.Kernel3Ideal.defs _ _).mono
      (fun r h c => ⟨(h c).1.trans (Cert.Kernel3Ideal.Mix.arr_h m c), (h c).2.1.trans (Cert.Kernel3Ideal.Mix.arr_n m c), (h c).2.2⟩)
      (Cert.Kernel3Ideal.Value.run_blocks (F := Ideal) m ρ)
  · refine (θ_run Cert.Reference3Ideal.defs _ _).mono (fun r h c => ⟨(h c).1.trans ?_, (h c).2.1.trans ?_, (h c).2.2⟩)
      (Cert.Reference3Ideal.Value.run (F := Ideal) m' ρ')
    · funext i
      refine (congrArg _ (show i = ix2 (i 0) (i 1) by funext a; fin_cases a <;> rfl)).trans ((Cert.Reference3Ideal.Mix.h_apply m' c (i 0) (i 1)).trans ?_)
      rw [hrows c]
      rfl
    · funext i
      refine (congrArg _ (show i = ix2 (i 0) (i 1) by funext a; fin_cases a <;> rfl)).trans ((Cert.Reference3Ideal.Mix.n_apply m' c (i 0) (i 1)).trans ?_)
      obtain ⟨_, _, _, _, _, _, _, _, e8, _⟩ := hagree c
      rw [hrows c, e8]
      rfl

end Cert.Proof.Mix
-- ==== Proof.Held.lean ====
module

public import Idealize.ShloMosaic.Lib.Pipeline.TableIdle

@[expose] public section

/-!
# A window that one point writes and the last point writes back

The body stores into such a window's buffer at the first point only, and the buffer goes back to its array at the end of
the grid. `Y` is what the first point leaves there.
-/

namespace Cert.Held

open Idealize.ShloMosaic Idealize.ShloMosaic.TcCoe Idealize.SL Idealize.SL.RA Idealize.SL.BI Idealize.SL.Sem Idealize.SL.ProofMode
open scoped Idealize.SL.BI
open Idealize.SL.BI.BIBase Idealize.SL.BI.Laws

variable {nD : Nat} {τ : Topo} {sig : RefSig} {Val : EltTy → Type}
variable {Ix : Type} [DecidableEq Ix] {Name : Type} [DecidableEq Name] {U : Type} [URA U] {Lvl : Type}
variable {Λ₀ : Labels} {cfg : Pipeline.Cfg sig Λ₀} {c : Dev nD} (dat : Pipeline.Dat τ Val Ix Name U Lvl cfg c)

/-- After the first point the body finds `Y`. -/
theorem before_eq (w : Fin cfg.W) (hw : (cfg.win w).isOut = true) (hclip : ∀ (i : cfg.grid.Coords) a, (cfg.win w).clip i a = none)
    (hidle : ∀ t : Fin cfg.N, cfg.idle w (cfg.grid.coords t) = true → t.val ≠ 0)
    (hflush : ∀ t : Fin cfg.N, t.val + 1 < cfg.N → (cfg.win w).flush t = false)
    {Y : (cfg.win w).block.Idx → Val (cfg.win w).elt} (hafter : ∀ t, dat.after w t = Y)
    (t : Fin cfg.N) (ht : t.val ≠ 0) (d) : dat.before w t d = Y := by
  have hf : ∀ n, n < cfg.N → cfg.fresh w n = (n == 0) := by
    intro n hn
    induction n with
    | zero => exact cfg.fresh_zero w
    | succ n ih =>
      have hn' : n < cfg.N := Nat.lt_of_succ_lt hn
      rw [cfg.fresh_succ w n hn', hflush ⟨n, hn'⟩ hn, ih hn']
      cases hi : cfg.idle w (cfg.grid.coords ⟨n, hn'⟩)
      · simp
      · have := hidle _ hi
        simp at this
        simp [this]
  rw [dat.before_out_traj w hw hclip (fun s _ _ _ => (hafter s).trans (hafter _).symm) t.val t rfl d, hf _ t.isLt]
  simp [ht, hafter]

/-- So a buffer that holds `Y` after the body is one the body leaves as it should. -/
theorem leaves (w : Fin cfg.W) (t : Fin cfg.N) {Y : (cfg.win w).block.Idx → Val (cfg.win w).elt} (hafter : dat.after w t = Y)
    (hbefore : cfg.idle w (cfg.grid.coords t) = true → ∀ d, dat.before w t d = Y) :
    owns c ((cfg.win w).stage (cfg.slots t w)) fullShare Y ⊢ (dat.leavesExact w t : sProp (MT nD τ sig Ix Val Name U Lvl)) := by
  subst hafter
  unfold Pipeline.Dat.leavesExact
  cases hi : cfg.idle w (cfg.grid.coords t)
  · exact .rfl
  · cases (cfg.win w).flush t
    · iintro H
      iexists dat.after w t
      rw [hbefore hi]
      iexact H
    · exact .rfl

end Cert.Held
-- ==== Proof.PleFrame.lean ====
module

public import proofs.«01_k».proof.Proof.Gen.Kernel4Ideal.Frame
public import proofs.«01_k».proof.Proof.Gen.Kernel4Ideal.Skeleton
public import proofs.«01_k».proof.Proof.Held
public import Idealize.ShloMosaic.Lib.Claim

@[expose] public section

/-!
# The embedding's call runs

Every point stores its block of the prompt's result; the first point stores the sample's result as well, which stays in its
buffer until the last point writes it back.
-/

set_option maxRecDepth 16384

noncomputable section

namespace Cert.Kernel4Ideal.Ple

open Cert.Kernel4Ideal Cert.Kernel4Ideal.Gen Idealize.ShloMosaic Idealize.ShloMosaic.TcCoe Idealize.ShloMosaic.Tactic
open Idealize.SL Idealize.SL.RA Idealize.SL.BI Idealize.SL.ProofMode Idealize.SL.Sem
open scoped Idealize.SL.BI
open Idealize.SL.BI.BIBase Idealize.SL.BI.Laws
open Idealize.ShloMosaic.Pipeline (Dat BodyObligation)

variable {F : FTy → Type} [FloatOps F]

local notation "𝕄" => MT nD τ sig Unit (Elt F) ℕ (UR sig nD τ) ℕ

/-- All of a block of tokens. -/
abbrev rect : Rect S512x1024 := Rect.unit (s := S512x1024) ![0, 0] S512x1024.size inb_S512x1024_S512x1024_0_0
/-- All of a block of embeddings. -/
abbrev rectP : Rect S512x256 := Rect.unit (s := S512x256) ![0, 0] S512x256.size inb_S512x256_S512x256_0_0
/-- All of a norm's gains. -/
abbrev rectG : Rect S1x1024 := Rect.unit (s := S1x1024) ![0, 0] S1x1024.size inb_S1x1024_S1x1024_0_0
/-- All of the gate's weights. -/
abbrev rectW : Rect S1024x1024 := Rect.unit (s := S1024x1024) ![0, 0] S1024x1024.size inb_S1024x1024_S1024x1024_0_0
/-- All of the embedding's weights. -/
abbrev rectE : Rect S256x1024 := Rect.unit (s := S256x1024) ![0, 0] S256x1024.size inb_S256x1024_S256x1024_0_0

/-- What a point computes from its blocks. -/
def out (i : grid0.Coords) (x0 x1 : Vec F S512x1024 .f32) (x2 x3 : Vec F S512x256 .f32) (x4 x5 : Vec F S1x1024 .f32) (x6 : Vec F S1024x1024 .bf16)
    (x7 : Vec F S256x1024 .bf16) : Vec F S512x1024 .f32 :=
  View.canon [⟨rect, k0_pay1 (k0_pay2 i (View.ld x3 rectP) (View.ld x2 rectP) (View.ld x0 rect) (View.ld x1 rect) (View.ld x4 rectG) (View.ld x6 rectW) (View.ld x7 rectE)) (View.ld x5 rectG)
    (k0_pay3 i (View.ld x3 rectP) (View.ld x2 rectP) (View.ld x0 rect) (View.ld x1 rect) (View.ld x4 rectG) (View.ld x6 rectW) (View.ld x7 rectE))⟩]

theorem cover (p : Vec F S512x1024 .f32) (y : S512x1024.Idx) : ∃ pc ∈ ([⟨rect, p⟩] : List (View.Piece (Elt F) S512x1024 .f32)), y ∈ pc.1.set :=
  View.cover_of_tiled [⟨rect, p⟩] S512x1024.size (by rfl) y

set_option maxHeartbeats 1000000 in
/-- The body reads its eight inputs, stores its result, and stores it a second time where the condition holds. -/
theorem sound_kernel (c : Dev nD) (E : Set ℕ) (i : grid0.Coords) (a1 : Memref sig .tc .vmem S512x1024 .f32) (h1 : a1.IsWhole) (a2 : Memref sig .tc .vmem S512x1024 .f32) (h2 : a2.IsWhole)
    (a3 : Memref sig .tc .vmem S512x256 .f32) (h3 : a3.IsWhole) (a4 : Memref sig .tc .vmem S512x256 .f32) (h4 : a4.IsWhole) (a5 : Memref sig .tc .vmem S1x1024 .f32) (h5 : a5.IsWhole)
    (a6 : Memref sig .tc .vmem S1x1024 .f32) (h6 : a6.IsWhole) (a7 : Memref sig .tc .vmem S1024x1024 .bf16) (h7 : a7.IsWhole) (a8 : Memref sig .tc .vmem S256x1024 .bf16) (h8 : a8.IsWhole)
    (a9 : Memref sig .tc .vmem S512x1024 .f32) (h9 : a9.IsWhole) (a10 : Memref sig .tc .vmem S512x1024 .f32) (h10 : a10.IsWhole)
    (x0 x1 : Vec F S512x1024 .f32) (x2 x3 : Vec F S512x256 .f32) (x4 x5 : Vec F S1x1024 .f32) (x6 : Vec F S1024x1024 .bf16) (x7 : Vec F S256x1024 .bf16) (d : Vec F S512x1024 .f32)
    (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3
        ∗ owns (c : Thread nD τ) a5 fullShare x4 ∗ owns (c : Thread nD τ) a6 fullShare x5 ∗ owns (c : Thread nD τ) a7 fullShare x6 ∗ owns (c : Thread nD τ) a8 fullShare x7
        ∗ (∃ d, owns (c : Thread nD τ) a9 fullShare d) ∗ owns (c : Thread nD τ) a10 fullShare d
        ∗ (iprop(owns (c : Thread nD τ) a1 fullShare x0 ∗ owns (c : Thread nD τ) a2 fullShare x1 ∗ owns (c : Thread nD τ) a3 fullShare x2 ∗ owns (c : Thread nD τ) a4 fullShare x3
          ∗ owns (c : Thread nD τ) a5 fullShare x4 ∗ owns (c : Thread nD τ) a6 fullShare x5 ∗ owns (c : Thread nD τ) a7 fullShare x6 ∗ owns (c : Thread nD τ) a8 fullShare x7
          ∗ owns (c : Thread nD τ) a9 fullShare (out i x0 x1 x2 x3 x4 x5 x6 x7)
          ∗ owns (c : Thread nD τ) a10 fullShare (if k0_cond1 i = 1#1 then out i x0 x1 x2 x3 x4 x5 x6 x7 else d)) -∗ K ⟨⟩))
      ⊢ wp frame (wpE (defs₀ (F := F)) Variants.none c none) E (cc0_ple_final i a1 h1 a2 h2 a3 h3 a4 h4 a5 h5 a6 h6 a7 h7 a8 h8 a9 h9 a10 h10) K := by
  simp only [cc0_ple_final_eq_skeleton]; unfold cc0_ple_final_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%e8, %f8, -, H8⟩, ⟨%f9, %hf9, H9⟩, Hk⟩
  subst hf0 hf1 hf2 hf3 hf4 hf5 hf6 hf7 hf9
  by_cases hc : k0_cond1 i = 1#1
  · rw [if_pos hc]
    sl_exec (disch := sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists _; isplitr
      swap; · iexact H8
      ipureintro
      exact View.read_writes_eq_canon _ _ _ (cover _)
    iexists _; isplitr
    swap; · iexact H9
    ipureintro
    exact View.read_writes_eq_canon _ _ _ (cover _)
  · rw [if_neg hc]
    sl_exec (disch := sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists _; isplitr
      swap; · iexact H8
      ipureintro
      exact View.read_writes_eq_canon _ _ _ (cover _)
    iexists f9; isplitr; · ipureintro; rfl
    iexact H9

variable (m : (ℓ : Loc nD τ sig) → Buf (Elt F) ℓ) (ρ : Dev nD → PrngReg)

/-- What point `t` computes. -/
def outAt (c : Dev nD) (t : Fin cfg0.N) : Vec F S512x1024 .f32 :=
  out (grid0.coords t) (iblk m c 0 t) (iblk m c 1 t) (iblk m c 2 t) (iblk m c 3 t) (iblk m c 4 t) (iblk m c 5 t) (iblk m c 6 t) (iblk m c 7 t)

/-- The first point. -/
def first : Fin cfg0.N := ⟨0, by decide⟩

/-- The inputs stay as they are, the prompt's window holds the point's result, the sample's that of the first point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
    | ⟨9, _⟩ => outAt m c first
    | ⟨_ + 10, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem idle_pos : ∀ t : Fin cfg0.N, cfg0.idle 9 (cfg0.grid.coords t) = true → t.val ≠ 0 := by decide +kernel

theorem cond_iff : ∀ t : Fin cfg0.N, k0_cond1 (grid0.coords t) = 1#1 ↔ t.val = 0 := by decide +kernel

theorem flush_9 : ∀ t : Fin cfg0.N, t.val + 1 < cfg0.N → (cfg0.win 9).flush t = false := by decide +kernel

theorem after_8 (c : Dev nD) (t : Fin cfg0.N) : (dats m 0 c).after 8 t = outAt m c t := by dsimp only [dats]
theorem after_9 (c : Dev nD) (t : Fin cfg0.N) : (dats m 0 c).after 9 t = outAt m c first := by dsimp only [dats]

theorem clip_9 : ∀ i a, (cfg0.win 9).clip i a = none := fun _ _ => rfl

theorem out_9 : (cfg0.win 9).isOut = true := rfl

/-- After the first point the sample's buffer holds the sample's result. -/
theorem before_9 (c : Dev nD) (t : Fin cfg0.N) (ht : t.val ≠ 0) (d) : (dats m 0 c).before 9 t d = outAt m c first :=
  Cert.Held.before_eq (dats m 0 c) 9 out_9 clip_9 idle_pos flush_9 (after_9 m c) t ht d

/-- The body at any point. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d))
      ∗ (∃ d, owns (c : Thread nD τ) (st0_9 t) fullShare ((dats m 0 c).before 9 t d)))
    ⊢ wp frame (wpE (defs₀ (F := F)) Variants.none c none) Set.univ (bodyAt0 t) (fun _ =>
      iprop((dats m 0 c).Φ t.castSucc ∗ (dats m 0 c).owesAt () t.castSucc
        ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare (iblk m c 5 t)
        ∗ owns (c : Thread nD τ) (st0_6 t) fullShare (iblk m c 6 t) ∗ owns (c : Thread nD τ) (st0_7 t) fullShare (iblk m c 7 t)
        ∗ owns (c : Thread nD τ) (st0_8 t) fullShare (outAt m c t) ∗ owns (c : Thread nD τ) (st0_9 t) fullShare (outAt m c first))) := by
  unfold bodyAt0
  simp only [before0_0_of m (dats m 0 c) (A_eq m c 0) (fun _ => rfl) t, before0_1_of m (dats m 0 c) (A_eq m c 1) (fun _ => rfl) t,
    before0_2_of m (dats m 0 c) (A_eq m c 2) (fun _ => rfl) t, before0_3_of m (dats m 0 c) (A_eq m c 3) (fun _ => rfl) t,
    before0_4_of m (dats m 0 c) (A_eq m c 4) (fun _ => rfl) t, before0_5_of m (dats m 0 c) (A_eq m c 5) (fun _ => rfl) t,
    before0_6_of m (dats m 0 c) (A_eq m c 6) (fun _ => rfl) t, before0_7_of m (dats m 0 c) (A_eq m c 7) (fun _ => rfl) t]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t)
    (iblk m c 4 t) (iblk m c 5 t) (iblk m c 6 t) (iblk m c 7 t) ((dats m 0 c).before 9 t d9) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  have he : (if k0_cond1 (grid0.coords t) = 1#1 then outAt m c t else (dats m 0 c).before 9 t d9) = outAt m c first := by
    by_cases h : t.val = 0
    · rw [if_pos ((cond_iff t).2 h), show t = first from Fin.ext h]
    · rw [if_neg (fun e => h ((cond_iff t).1 e)), before_9 m c t h]
  unfold outAt at he ⊢
  rw [he]
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) : defs₀ (F := F) .tc cfg0.body (cfg0.bodyArgs t (cfg0.slots t)) = bodyAt0 t := by
  unfold defs₀; rw [Defs.onTc_tc]

theorem leaves_9 (c : Dev nD) (t : Fin cfg0.N) : owns (c : Thread nD τ) (st0_9 t) fullShare (outAt m c first) ⊢ ((dats m 0 c).leavesExact 9 t : sProp 𝕄) :=
  Cert.Held.leaves (dats m 0 c) 9 t (after_9 m c t) fun hi d => before_9 m c t (idle_pos t hi) d

attribute [local irreducible] outAt in
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  iterate 11 refine sep_mono .rfl ?_
  exact leaves_9 m c t

set_option backward.isDefEq.respectTransparency.types false in
set_option maxHeartbeats 800000 in
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The call ends with its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- And with its results at what the points write back. -/
theorem run : θ_run defs (onTc (τ := τ) (main (F := F))) ⟨m, fun _ => 0, ρ⟩ (fun r =>
      (∀ c : Dev nD, r.2.mem ((c.tc : Thread nD τ).loc main_v0_0) = (dats m 0 c).arrAt 8 cfg0.N
        ∧ r.2.mem ((c.tc : Thread nD τ).loc main_v0_1) = (dats m 0 c).arrAt 9 cfg0.N)) :=
  (θ_run defs _ _).mono (fun _ h c => ⟨(h.1 c).1 8, (h.1 c).1 9⟩) (run_main m ρ)

end Cert.Kernel4Ideal.Ple
-- ==== Proof.PleSpec.lean ====
module

public import proofs.«01_k».proof.Proof.MixSpec

@[expose] public section

/-!
# One token's gated embedding and final norm
-/

noncomputable section

namespace Cert.PleSpec

open Idealize.ShloMosaic Cert.MixSpec

/-- A token's row with its gated embedding added. -/
def embed (g : Fin 1024 → EReal) (wg : Mat 1024 1024) (we : Mat 256 1024) (x : Fin 1024 → EReal) (p : Fin 256 → EReal) (j : Fin 1024) : EReal :=
  x j + (∑ l, p l * we (ix2 l j)) * Ideal.logistic (∑ l, rms x g l * wg (ix2 l j))

/-- The row of token `T`: a token of the prompt, or one of the sample after them. -/
def rowE (h po : Mat 16896 1024) (pp : Mat 16384 256) (ps : Mat 512 256) (g : Mat 1 1024) (wg : Mat 1024 1024) (we : Mat 256 1024)
    (T : Fin 16896) : Fin 1024 → EReal :=
  embed (fun l => g (ix2 0 l)) wg we (fun l => h (ix2 T l) + po (ix2 T l))
    (fun l => if h : T.val < 16384 then pp (ix2 ⟨T.val, h⟩ l) else ps (ix2 ⟨T.val - 16384, by omega⟩ l))

end Cert.PleSpec
-- ==== Proof.PleBlk.lean ====
module

public import proofs.«01_k».proof.Proof.PleFrame
public import proofs.«01_k».proof.Proof.PleSpec
public import Idealize.ShloMosaic.Lib.Pipeline.ValueKit.Partial
public import Idealize.ShloMosaic.Lib.Pipeline.ValueKit.Geometry
public import Idealize.ShloMosaic.Lib.Pipeline.ValueKit.Point

@[expose] public section

/-!
# What a point of the embedding's call writes

Point `0` of the grid takes the sample's block, point `t + 1` block `t` of the prompt.
-/

set_option maxRecDepth 16384

noncomputable section

namespace Cert.Kernel4Ideal.Ple

open Cert.Kernel4Ideal Cert.Kernel4Ideal.Gen Idealize.ShloMosaic Idealize.ShloMosaic.TcCoe Idealize.SL.Sem Cert.MixSpec Cert.PleSpec

theorem coords_eq : ∀ t : Fin cfg0.N, ((grid0.coords t) 0).val = t.val := by decide +kernel

theorem pick_eq (t : Fin cfg0.N) (a b : EReal) :
    Scalar.select (Scalar.cmpi CmpIPredicate.eq (BitVec.ofNat 32 ((grid0.coords t) 0).val) 0#32) a b = if t.val = 0 then a else b := by
  have h : ∀ t : Fin cfg0.N, Scalar.cmpi CmpIPredicate.eq (BitVec.ofNat 32 ((grid0.coords t) 0).val) 0#32 = if t.val = 0 then 1#1 else 0#1 := by decide +kernel
  rw [h t]
  by_cases h0 : t.val = 0
  · simp [Scalar.select, h0]
  · simp [Scalar.select, h0]

section
variable (i : grid0.Coords) (x0 x1 : Vec Ideal S512x1024 .f32) (x2 x3 : Vec Ideal S512x256 .f32) (x4 x5 : Vec Ideal S1x1024 .f32)
  (x6 : Vec Ideal S1024x1024 .bf16) (x7 : Vec Ideal S256x1024 .bf16)

/-- Row `r` of what a point has before the final norm. -/
def pointE (r : Fin 512) : Fin 1024 → EReal :=
  embed (fun l => x4 (ix2 0 l)) x6 x7 (fun l => x0 (ix2 r l) + x1 (ix2 r l))
    (fun l => Scalar.select (Scalar.cmpi CmpIPredicate.eq (BitVec.ofNat 32 (i 0).val) 0#32) (x3 (ix2 r l)) (x2 (ix2 r l)))

theorem out_apply (r : Fin 512) (j : Fin 1024) :
    out i x0 x1 x2 x3 x4 x5 x6 x7 (ix2 r j) = rms (pointE i x0 x1 x2 x3 x4 x6 x7 r) (fun l => x5 (ix2 0 l)) j := by
  unfold out rect rectP rectG rectW rectE
  unfold k0_pay1 k0_pay3 k0_pay2
  rw [View.canon_unit_zero (by decide)]
  pointwise
  rfl

end

variable (m : (ℓ : Loc nD τ sig) → Buf (Elt Ideal) ℓ) (c : Dev nD)

theorem index_0 : ∀ t : Fin cfg0.N, win0_0.index t = ![(t.val + 32) % 33, 0] := by decide +kernel
theorem index_1 : ∀ t : Fin cfg0.N, win0_1.index t = ![(t.val + 32) % 33, 0] := by decide +kernel
theorem index_2 : ∀ t : Fin cfg0.N, win0_2.index t = ![t.val - 1, 0] := by decide +kernel
theorem index_3 : ∀ t : Fin cfg0.N, win0_3.index t = ![0, 0] := by decide +kernel
theorem index_4 : ∀ t : Fin cfg0.N, win0_4.index t = ![0, 0] := by decide +kernel
theorem index_5 : ∀ t : Fin cfg0.N, win0_5.index t = ![0, 0] := by decide +kernel
theorem index_6 : ∀ t : Fin cfg0.N, win0_6.index t = ![0, 0] := by decide +kernel
theorem index_7 : ∀ t : Fin cfg0.N, win0_7.index t = ![0, 0] := by decide +kernel
theorem index_8 : ∀ t : Fin cfg0.N, win0_8.index t = ![t.val - 1, 0] := by decide +kernel
theorem index_9 : ∀ t : Fin cfg0.N, win0_9.index t = ![0, 0] := by decide +kernel

theorem lt_N (t : Fin cfg0.N) : t.val < 33 := lt_of_lt_of_eq t.isLt N_0

theorem read_0 (t : Fin cfg0.N) (r : Fin 512) (l : Fin 1024) :
    (iblk m c 0 t : Vec Ideal S512x1024 .f32) (ix2 r l) = m (c.tc.loc main_arg0) (ix2 ⟨(t.val + 32) % 33 * 512 + r.val, by omega⟩ l) := by
  have h := lt_N t
  blk_ext! [iblk, V, index_0 t]

theorem read_1 (t : Fin cfg0.N) (r : Fin 512) (l : Fin 1024) :
    (iblk m c 1 t : Vec Ideal S512x1024 .f32) (ix2 r l) = m (c.tc.loc main_arg1) (ix2 ⟨(t.val + 32) % 33 * 512 + r.val, by omega⟩ l) := by
  have h := lt_N t
  blk_ext! [iblk, V, index_1 t]

theorem read_2 (t : Fin cfg0.N) (r : Fin 512) (l : Fin 256) :
    (iblk m c 2 t : Vec Ideal S512x256 .f32) (ix2 r l) = m (c.tc.loc main_arg2) (ix2 ⟨(t.val - 1) * 512 + r.val, by have := lt_N t; omega⟩ l) := by
  have h := lt_N t
  blk_ext! [iblk, V, index_2 t]

theorem read_3 (t : Fin cfg0.N) : (iblk m c 3 t : Vec Ideal S512x256 .f32) = m (c.tc.loc main_arg3) := by
  blk_ext! [iblk, V, index_3 t]
theorem read_4 (t : Fin cfg0.N) : (iblk m c 4 t : Vec Ideal S1x1024 .f32) = m (c.tc.loc main_arg4) := by
  blk_ext! [iblk, V, index_4 t]
theorem read_5 (t : Fin cfg0.N) : (iblk m c 5 t : Vec Ideal S1x1024 .f32) = m (c.tc.loc main_arg5) := by
  blk_ext! [iblk, V, index_5 t]
theorem read_6 (t : Fin cfg0.N) : (iblk m c 6 t : Vec Ideal S1024x1024 .bf16) = m (c.tc.loc main_arg6) := by
  blk_ext! [iblk, V, index_6 t]
theorem read_7 (t : Fin cfg0.N) : (iblk m c 7 t : Vec Ideal S256x1024 .bf16) = m (c.tc.loc main_arg7) := by
  blk_ext! [iblk, V, index_7 t]

/-- The rows before the final norm, of the kernel's arguments. -/
def rows : Fin 16896 → Fin 1024 → EReal :=
  rowE (m (c.tc.loc main_arg0)) (m (c.tc.loc main_arg1)) (m (c.tc.loc main_arg2)) (m (c.tc.loc main_arg3)) (m (c.tc.loc main_arg4))
    (m (c.tc.loc main_arg6)) (m (c.tc.loc main_arg7))

/-- The final norm's gains. -/
def gains : Fin 1024 → EReal := fun l => m (c.tc.loc main_arg5) (ix2 0 l)

theorem outAt_apply (t : Fin cfg0.N) (r : Fin 512) (j : Fin 1024) (T : Fin 16896) (hT : T.val = (t.val + 32) % 33 * 512 + r.val) :
    outAt m c t (ix2 r j) = rms (rows m c T) (gains m c) j := by
  have h := lt_N t
  have hr := r.isLt
  obtain ⟨T, hT'⟩ := T
  obtain rfl : T = (t.val + 32) % 33 * 512 + r.val := hT
  unfold outAt
  rw [out_apply]
  unfold pointE rows rowE gains
  simp only [pick_eq, read_0, read_1, read_2, read_3, read_4, read_5, read_6, read_7]
  refine congrArg (fun p => rms (embed _ _ _ _ p) _ j) (funext fun l => ?_)
  by_cases h0 : t.val = 0
  · rw [dif_neg (by omega), if_pos h0]
    exact congrArg _ (congrArg₂ _ (Fin.ext (by dsimp only; omega)) rfl)
  · rw [dif_pos (by omega), if_neg h0]
    exact congrArg _ (congrArg₂ _ (Fin.ext (by dsimp only; omega)) rfl)

/-- The prompt's result. -/
def wholeP : Mat 16384 1024 := fun i => rms (rows m c ⟨(i 0).val, lt_trans (i 0).isLt (by decide)⟩) (gains m c) (i 1)

/-- The sample's result. -/
def wholeS : Mat 512 1024 := fun i => rms (rows m c ⟨16384 + (i 0).val, Nat.add_lt_add_left (i 0).isLt 16384⟩) (gains m c) (i 1)

theorem flush_8 : ∀ t : Fin cfg0.N, (cfg0.win 8).flush t = true → t.val ≠ 0 := by decide +kernel

theorem arr_p : (dats m 0 c).arrAt 8 cfg0.N = wholeP m c := by
  refine (dats m 0 c).arrAt_eq_of_covers 8 _ (by decide +kernel) fun t hf y => ?_
  blk_simp
  rw [after_8]
  have htN := lt_N t
  have ht := flush_8 t hf
  have hy0 : (y 0).val < 512 := (y 0).isLt
  have hy1 : (y 1).val < 1024 := (y 1).isLt
  have e0 : (((win0_8.blk t).view.emb y) 0).val = (t.val - 1) * 512 + (y 0).val := by blk_simp [index_8 t]
  have e1 : (((win0_8.blk t).view.emb y) 1).val = (y 1).val := by blk_simp [index_8 t]
  have hy : y = ix2 (⟨(y 0).val, hy0⟩ : Fin 512) (⟨(y 1).val, hy1⟩ : Fin 1024) := by funext a; fin_cases a <;> rfl
  unfold wholeP
  rw [show ((win0_8.blk t).view.emb y) 1 = (⟨(y 1).val, hy1⟩ : Fin 1024) from Fin.ext e1,
    ← outAt_apply m c t ⟨(y 0).val, hy0⟩ ⟨(y 1).val, hy1⟩ _ (by dsimp only; rw [e0]; omega)]
  exact congrArg _ hy

theorem arr_s : (dats m 0 c).arrAt 9 cfg0.N = wholeS m c := by
  refine (dats m 0 c).arrAt_eq_of_covers 9 _ (by decide +kernel) fun t hf y => ?_
  blk_simp
  rw [after_9]
  have hy0 : (y 0).val < 512 := (y 0).isLt
  have hy1 : (y 1).val < 1024 := (y 1).isLt
  have e0 : (((win0_9.blk t).view.emb y) 0).val = (y 0).val := by blk_simp [index_9 t]
  have e1 : (((win0_9.blk t).view.emb y) 1).val = (y 1).val := by blk_simp [index_9 t]
  have hy : y = ix2 (⟨(y 0).val, hy0⟩ : Fin 512) (⟨(y 1).val, hy1⟩ : Fin 1024) := by funext a; fin_cases a <;> rfl
  unfold wholeS
  rw [show ((win0_9.blk t).view.emb y) 1 = (⟨(y 1).val, hy1⟩ : Fin 1024) from Fin.ext e1,
    ← outAt_apply m c first ⟨(y 0).val, hy0⟩ ⟨(y 1).val, hy1⟩ _ (by dsimp only [first]; rw [e0])]
  exact congrArg _ hy

end Cert.Kernel4Ideal.Ple
-- ==== Proof.PleRef.lean ====
module

public import proofs.«01_k».proof.Proof.Gen.Reference4Ideal.Run
public import proofs.«01_k».proof.Proof.PleSpec
public import Idealize.ShloMosaic.Lib.Pipeline.ValueKit.Point

@[expose] public section

/-!
# What the reference's embedding computes
-/

set_option maxRecDepth 16384

noncomputable section

namespace Cert.Reference4Ideal.Ple

open Cert.Reference4Ideal Cert.Reference4Ideal.Gen Idealize.ShloMosaic Idealize.ShloMosaic.TcCoe Idealize.SL.Sem Cert.MixSpec Cert.PleSpec

variable (m : (ℓ : Loc nD τ sig) → Buf (Elt Ideal) ℓ) (c : Dev nD)

/-- The rows before the final norm, of the reference's arguments. -/
def rows : Fin 16896 → Fin 1024 → EReal :=
  rowE (m (c.tc.loc main_arg0)) (m (c.tc.loc main_arg1)) (m (c.tc.loc main_arg2)) (m (c.tc.loc main_arg3)) (m (c.tc.loc main_arg4))
    (m (c.tc.loc main_arg6)) (m (c.tc.loc main_arg7))

/-- The final norm's gains. -/
def gains : Fin 1024 → EReal := fun l => m (c.tc.loc main_arg5) (ix2 0 l)

/-- The reference's norm of an array of rows. -/
def normed (h : FVec Ideal S16896x1024 .f32) (g : FVec Ideal S1x1024 .f32) : FVec Ideal S16896x1024 .f32 :=
  mulf (mulf h (broadcastInDim S16896x1024 ![0, 1] bcast_S16896x1_S16896x1024_0_1 (Host.rsqrt (addf
    (Host.divf (broadcastInDim S16896x1 ![0] bcast_S16896_S16896x1_0 (Host.reduceAdd (mulf h h) (constant S_ .f32 0x00000000#32) reducesTo_S16896x1024_S16896_d1 h_S_))
      (broadcastInDim S16896x1 ![] bcast_S_S16896x1 (constant S_ .f32 0x44800000#32)))
    (broadcastInDim S16896x1 ![] bcast_S_S16896x1 (constant S_ .f32 0x358637BD#32))))))
    (broadcastInDim S16896x1024 ![0, 1] bcast_S1x1024_S16896x1024_0_1 g)

theorem normed_apply (h : FVec Ideal S16896x1024 .f32) (g : FVec Ideal S1x1024 .f32) (T : Fin 16896) (j : Fin 1024) :
    normed h g (ix2 T j) = rms (fun l => h (ix2 T l)) (fun l => g (ix2 0 l)) j := by
  unfold normed rms
  pointwise

/-- The reference's rows before the final norm. -/
def embedded : FVec Ideal S16896x1024 .f32 :=
  let h : FVec Ideal S16896x1024 .f32 := addf (m (c.tc.loc main_arg0)) (m (c.tc.loc main_arg1))
  addf h (mulf
    (Host.dotGeneral dot_S16896x256_S256x1024_S16896x1024_1_0_0_1_n_n none (concatenate (α := Ideal FTy.f32) S16896x256 0 [⟨S16384x256, (m (c.tc.loc main_arg2) : FVec Ideal S16384x256 .f32)⟩, ⟨S512x256, (m (c.tc.loc main_arg3) : FVec Ideal S512x256 .f32)⟩] concatenates_S16384x256_S512x256_S16896x256_d0) (extf .f32 (m (c.tc.loc main_arg7) : FVec Ideal S256x1024 .bf16) bitsLt_bf16_f32))
    (Host.divf (broadcastInDim S16896x1024 ![] bcast_S_S16896x1024 (constant S_ .f32 0x3F800000#32)) (addf (broadcastInDim S16896x1024 ![] bcast_S_S16896x1024 (constant S_ .f32 0x3F800000#32)) (Host.exp (Host.negf (Host.dotGeneral dot_S16896x1024_S1024x1024_S16896x1024_1_0_0_1_n_n none
      (mulf (mulf h (broadcastInDim S16896x1024 ![0, 1] bcast_S16896x1_S16896x1024_0_1 (Host.rsqrt (addf (Host.divf (broadcastInDim S16896x1 ![0] bcast_S16896_S16896x1_0 (Host.reduceAdd (mulf h h) (constant S_ .f32 0x00000000#32) reducesTo_S16896x1024_S16896_d1 h_S_)) (broadcastInDim S16896x1 ![] bcast_S_S16896x1 (constant S_ .f32 0x44800000#32))) (broadcastInDim S16896x1 ![] bcast_S_S16896x1 (constant S_ .f32 0x358637BD#32)))))) (broadcastInDim S16896x1024 ![0, 1] bcast_S1x1024_S16896x1024_0_1 (m (c.tc.loc main_arg4)))) (extf .f32 (m (c.tc.loc main_arg6) : FVec Ideal S1024x1024 .bf16) bitsLt_bf16_f32)))))))

theorem embedded_apply (T : Fin 16896) (j : Fin 1024) : embedded m c (ix2 T j) = rows m c T j := by
  unfold embedded
  pointwise
  rfl

theorem prompt_apply (T : Fin 16384) (j : Fin 1024) : Value.res_out0 m c (ix2 T j) = rms (rows m c ⟨T.val, by omega⟩) (gains m c) j := by
  have e : Value.res_out0 m c = extractStridedSlice S16384x1024 ![0, 0] (normed (embedded m c) (m (c.tc.loc main_arg5))) slices_S16896x1024_S16384x1024_0_0 := rfl
  rw [e, ← funext (embedded_apply m c _)]
  refine Eq.trans ?_ (normed_apply (embedded m c) (m (c.tc.loc main_arg5)) ⟨T.val, by omega⟩ j)
  pointwise

theorem sample_apply (T : Fin 512) (j : Fin 1024) : Value.res_out1 m c (ix2 T j) = rms (rows m c ⟨16384 + T.val, by omega⟩) (gains m c) j := by
  have e : Value.res_out1 m c = extractStridedSlice S512x1024 ![16384, 0] (normed (embedded m c) (m (c.tc.loc main_arg5))) slices_S16896x1024_S512x1024_16384_0 := rfl
  rw [e, ← funext (embedded_apply m c _)]
  refine Eq.trans ?_ (normed_apply (embedded m c) (m (c.tc.loc main_arg5)) ⟨16384 + T.val, by omega⟩ j)
  pointwise

end Cert.Reference4Ideal.Ple
-- ==== Proof.PleClaim.lean ====
module

public import proofs.«01_k».proof.Defs
public import proofs.«01_k».proof.Proof.Gen.Kernel4.Frame
public import proofs.«01_k».proof.Proof.PleBlk
public import proofs.«01_k».proof.Proof.PleRef
public import Idealize.ShloMosaic.Lib.Quiescent

@[expose] public section

/-!
# The embedding's claims
-/

noncomputable section

namespace Cert.Proof.Ple

open Idealize.ShloMosaic Idealize.ShloMosaic.TcCoe Idealize.SL.Sem Cert.MixSpec

/-- The two programs' tables of bodies are the same, at the bits. -/
theorem bodies_eq : Cert.Kernel4.defs₀ (F := Bits) = Cert.Kernel4Ideal.defs₀ (F := Bits) := by
  unfold Cert.Kernel4.defs₀ Cert.Kernel4Ideal.defs₀
  refine congrArg _ ?_
  funext l
  match l with
  | ⟨0, _⟩ => funext a; rfl

theorem defs_eq : Cert.Kernel4.defs (F := Bits) = Cert.Kernel4Ideal.defs (F := Bits) := congrArg _ bodies_eq

theorem frame_kernel : Cert.quiescent_Kernel4 := fun m ρ _ => by
  rw [defs_eq]
  exact Cert.Kernel4Ideal.Ple.frame (F := Bits) m ρ

theorem frame_ideal : Cert.quiescent_Kernel4Ideal := fun m ρ _ => Cert.Kernel4Ideal.Ple.frame m ρ

theorem frame_reference : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem preserves : Cert.preserves_Kernel4_Kernel4Ideal := trivial

theorem algebraic : Cert.algebraic_Kernel4Ideal_Reference4Ideal := by
  intro m ρ m' ρ' _ hagree
  have hrows : ∀ c, Cert.Reference4Ideal.Ple.rows m' c = Cert.Kernel4Ideal.Ple.rows m c := by
    intro c
    obtain ⟨e0, e1, e2, e3, e4, _, e6, e7⟩ := hagree c
    unfold Cert.Reference4Ideal.Ple.rows Cert.Kernel4Ideal.Ple.rows
    rw [e0, e1, e2, e3, e4, e6, e7]
  have hgains : ∀ c, Cert.Reference4Ideal.Ple.gains m' c = Cert.Kernel4Ideal.Ple.gains m c := by
    intro c
    obtain ⟨_, _, _, _, _, e5, _⟩ := hagree c
    unfold Cert.Reference4Ideal.Ple.gains Cert.Kernel4Ideal.Ple.gains
    rw [e5]
  refine ⟨fun c => Cert.Kernel4Ideal.Ple.wholeP m c, fun c => Cert.Kernel4Ideal.Ple.wholeS m c, ?_, ?_⟩
  · exact (θ_run Cert.Kernel4Ideal.defs _ _).mono
      (fun r h c => ⟨(h.1 c).1.trans (Cert.Kernel4Ideal.Ple.arr_p m c), (h.1 c).2.trans (Cert.Kernel4Ideal.Ple.arr_s m c), h.2.1 c⟩)
      (θ_run_and (Cert.Kernel4Ideal.Ple.run (F := Ideal) m ρ) (Cert.Kernel4Ideal.Ple.frame (F := Ideal) m ρ))
  · refine (θ_run Cert.Reference4Ideal.defs _ _).mono (fun r h c => ⟨(h c).1.trans ?_, (h c).2.1.trans ?_, (h c).2.2⟩)
      (Cert.Reference4Ideal.Value.run (F := Ideal) m' ρ')
    · funext i
      refine (congrArg _ (show i = ix2 (i 0) (i 1) by funext a; fin_cases a <;> rfl)).trans ((Cert.Reference4Ideal.Ple.prompt_apply m' c (i 0) (i 1)).trans ?_)
      rw [hrows c, hgains c]
      rfl
    · funext i
      refine (congrArg _ (show i = ix2 (i 0) (i 1) by funext a; fin_cases a <;> rfl)).trans ((Cert.Reference4Ideal.Ple.sample_apply m' c (i 0) (i 1)).trans ?_)
      rw [hrows c, hgains c]
      rfl

end Cert.Proof.Ple
-- ==== Proof.StepSpec.lean ====
module

public import Idealize.ShloMosaic.PureOps
public import Idealize.ShloMosaic.Lib.Pipeline.ValueKit.Point

@[expose] public section

/-!
# One step of the sample's scan

The functions that both programs compute: a diagonal complex state times its factor plus the input's product, and the
output's product, for 32 groups of 64 states and 16 channels.
-/

noncomputable section

namespace Cert.StepSpec

open Idealize.ShloMosaic

/-- A two-dimensional array of extended reals. -/
abbrev Mat (a b : ℕ) : Type := (⟨2, ![a, b]⟩ : Shape).Idx → EReal

/-- A three-dimensional array of extended reals. -/
abbrev Cube (a b c : ℕ) : Type := (⟨3, ![a, b, c]⟩ : Shape).Idx → EReal

/-- The input's product for a state: over the 16 channels of its group. -/
def inp (u : Mat 32 512) (w : Cube 32 64 16) (b : Fin 32) (g : Fin 32) (n : Fin 64) : EReal :=
  ∑ k : Fin 16, w (ix3 g n k) * u (ix2 b ⟨g.val * 16 + k.val, by omega⟩)

/-- The place of a state in the rows of all groups. -/
abbrev at64 (g : Fin 32) (n : Fin 64) : Fin 2048 := ⟨g.val * 64 + n.val, by omega⟩

/-- The real part of the next state. -/
def stRe (u : Mat 32 512) (hr hi : Mat 32 2048) (ar ai : Mat 32 64) (br : Cube 32 64 16) (b : Fin 32) (g : Fin 32) (n : Fin 64) : EReal :=
  ar (ix2 g n) * hr (ix2 b (at64 g n)) - ai (ix2 g n) * hi (ix2 b (at64 g n)) + inp u br b g n

/-- The imaginary part of the next state. -/
def stIm (u : Mat 32 512) (hr hi : Mat 32 2048) (ar ai : Mat 32 64) (bi : Cube 32 64 16) (b : Fin 32) (g : Fin 32) (n : Fin 64) : EReal :=
  ar (ix2 g n) * hi (ix2 b (at64 g n)) + ai (ix2 g n) * hr (ix2 b (at64 g n)) + inp u bi b g n

/-- The output at a channel of a group, from the group's next state. -/
def outY (xr xi : Fin 64 → EReal) (cr ci : Cube 32 16 64) (g : Fin 32) (k : Fin 16) : EReal :=
  ∑ n : Fin 64, cr (ix3 g k n) * xr n - ∑ n : Fin 64, ci (ix3 g k n) * xi n

/-- A sum whose terms vanish off one block of `w` places is the sum over the block. -/
theorem sum_block {N w : ℕ} (f : Fin N → EReal) (o : ℕ) (ho : o + w ≤ N) (h0 : ∀ k : Fin N, (k.val < o ∨ o + w ≤ k.val) → f k = 0) :
    ∑ k, f k = ∑ k : Fin w, f ⟨o + k.val, by omega⟩ := by
  symm
  refine Fintype.sum_of_injective (fun k : Fin w => (⟨o + k.val, by omega⟩ : Fin N)) (fun a b h => ?_) _ _ (fun k hk => h0 k ?_) fun _ => rfl
  · have := congrArg Fin.val h
    exact Fin.ext (by dsimp only at this; omega)
  · by_contra hc
    exact hk ⟨⟨k.val - o, by omega⟩, Fin.ext (by dsimp only; omega)⟩

end Cert.StepSpec
-- ==== Proof.StepBlk.lean ====
module

public import proofs.«01_k».proof.Proof.Gen.Kernel5Ideal.Value
public import proofs.«01_k».proof.Proof.StepSpec
public import Idealize.ShloMosaic.Lib.Pipeline.ValueKit.Partial
public import Idealize.ShloMosaic.Lib.Pipeline.ValueKit.Geometry
public import Idealize.ShloMosaic.Lib.Pipeline.ValueKit.Point
public import Idealize.ShloMosaic.Lib.Pipeline.ValueKit.Tiles

@[expose] public section

/-!
# What the kernel step writes

The input's product is stored in eight column blocks, four real and four imaginary, and read back in two halves; the new
state is stored whole and read back in four blocks, one for each block of the output.
-/

set_option maxRecDepth 16384

noncomputable section

namespace Cert.Kernel5Ideal.Step

open Cert.Kernel5Ideal Cert.Kernel5Ideal.Gen Idealize.ShloMosaic Idealize.ShloMosaic.TcCoe Idealize.SL.Sem Cert.StepSpec

section
variable (x0 : Vec Ideal S32x512 .f32) (x1 x2 : Vec Ideal S32x2048 .f32) (x3 x4 : Vec Ideal S1x2048 .f32) (x5 : Vec Ideal S4x128x1024 .bf16)
  (x6 x7 : Vec Ideal S4x512x128 .bf16)

/-- The stored input's product: real parts in columns `0..2047`, imaginary parts after them. -/
def buV (b : Fin 32) (j : Fin 4096) : EReal :=
  ∑ k : Fin 128, x0 (ix2 b ⟨j.val % 2048 / 512 * 128 + k.val, by omega⟩) * x5 (ix3 ⟨j.val % 2048 / 512, by omega⟩ k ⟨j.val / 2048 * 512 + j.val % 512, by omega⟩)

/-- The stores of the input's product, last first. -/
abbrev buPieces : List (View.Piece (Elt Ideal) S32x4096 .f32) :=
  [⟨Rect.unit ![0, 3584] ![32, 512] inb_S32x4096_S32x512_0_3584,
      k0_pay17 (k0_pay4 x0) (View.ld x5 (Rect.unit ![3, 0, 0] ![1, 128, 1024] inb_S4x128x1024_S1x128x1024_3_0_0))⟩,
    ⟨Rect.unit ![0, 1536] ![32, 512] inb_S32x4096_S32x512_0_1536,
      k0_pay16 (k0_pay4 x0) (View.ld x5 (Rect.unit ![3, 0, 0] ![1, 128, 1024] inb_S4x128x1024_S1x128x1024_3_0_0))⟩,
    ⟨Rect.unit ![0, 3072] ![32, 512] inb_S32x4096_S32x512_0_3072,
      k0_pay14 (k0_pay11 x0) (View.ld x5 (Rect.unit ![2, 0, 0] ![1, 128, 1024] inb_S4x128x1024_S1x128x1024_2_0_0))⟩,
    ⟨Rect.unit ![0, 1024] ![32, 512] inb_S32x4096_S32x512_0_1024,
      k0_pay13 (k0_pay11 x0) (View.ld x5 (Rect.unit ![2, 0, 0] ![1, 128, 1024] inb_S4x128x1024_S1x128x1024_2_0_0))⟩,
    ⟨Rect.unit ![0, 2560] ![32, 512] inb_S32x4096_S32x512_0_2560,
      k0_pay10 x0 (View.ld x5 (Rect.unit ![1, 0, 0] ![1, 128, 1024] inb_S4x128x1024_S1x128x1024_1_0_0))⟩,
    ⟨Rect.unit ![0, 512] ![32, 512] inb_S32x4096_S32x512_0_512,
      k0_pay9 x0 (View.ld x5 (Rect.unit ![1, 0, 0] ![1, 128, 1024] inb_S4x128x1024_S1x128x1024_1_0_0))⟩,
    ⟨Rect.unit ![0, 2048] ![32, 512] inb_S32x4096_S32x512_0_2048,
      k0_pay7 x0 (View.ld x5 (Rect.unit ![0, 0, 0] ![1, 128, 1024] inb_S4x128x1024_S1x128x1024_0_0_0))⟩,
    ⟨Rect.unit ![0, 0] ![32, 512] inb_S32x4096_S32x512_0_0,
      k0_pay6 x0 (View.ld x5 (Rect.unit ![0, 0, 0] ![1, 128, 1024] inb_S4x128x1024_S1x128x1024_0_0_0))⟩]

/-- One store's block: chunk `o` of the inputs against its matrix, from lane `q` on. -/
theorem chunk (o q : ℕ) (ho : o < 4) (hq : q < 2) (b : Fin 32) (l : Fin 512) (y : S32x4096.Idx) (h0 : (y 0).val = b.val) (h1 : (y 1).val = q * 2048 + o * 512 + l.val) :
    (∑ k : Fin 128, x0 (ix2 b ⟨o * 128 + k.val, by omega⟩) * x5 (ix3 ⟨o, ho⟩ k ⟨q * 512 + l.val, by omega⟩)) = buV x0 x5 (y 0) (y 1) := by
  unfold buV
  have hl := l.isLt
  refine Finset.sum_congr rfl fun k _ => congrArg₂ _ (congrArg _ (congrArg₂ _ (Fin.ext h0.symm) (Fin.ext ?_))) (congrArg _ ?_)
  · dsimp only; omega
  · refine congrArg₂ (fun a d => ix3 a k d) (Fin.ext ?_) (Fin.ext ?_) <;> dsimp only <;> omega

theorem pay_17 (b : Fin 32) (l : Fin 512) :
    k0_pay17 (k0_pay4 x0) (View.ld x5 (Rect.unit (s := S4x128x1024) ![3, 0, 0] ![1, 128, 1024] inb_S4x128x1024_S1x128x1024_3_0_0)) (ix2 b l)
      = ∑ k : Fin 128, x0 (ix2 b ⟨3 * 128 + k.val, by omega⟩) * x5 (ix3 ⟨3, by decide⟩ k ⟨1 * 512 + l.val, by omega⟩) := by
  unfold k0_pay17 k0_pay15 k0_pay4
  pointwise

theorem pay_16 (b : Fin 32) (l : Fin 512) :
    k0_pay16 (k0_pay4 x0) (View.ld x5 (Rect.unit (s := S4x128x1024) ![3, 0, 0] ![1, 128, 1024] inb_S4x128x1024_S1x128x1024_3_0_0)) (ix2 b l)
      = ∑ k : Fin 128, x0 (ix2 b ⟨3 * 128 + k.val, by omega⟩) * x5 (ix3 ⟨3, by decide⟩ k ⟨0 * 512 + l.val, by omega⟩) := by
  unfold k0_pay16 k0_pay15 k0_pay4
  pointwise

theorem pay_14 (b : Fin 32) (l : Fin 512) :
    k0_pay14 (k0_pay11 x0) (View.ld x5 (Rect.unit (s := S4x128x1024) ![2, 0, 0] ![1, 128, 1024] inb_S4x128x1024_S1x128x1024_2_0_0)) (ix2 b l)
      = ∑ k : Fin 128, x0 (ix2 b ⟨2 * 128 + k.val, by omega⟩) * x5 (ix3 ⟨2, by decide⟩ k ⟨1 * 512 + l.val, by omega⟩) := by
  unfold k0_pay14 k0_pay12 k0_pay11 k0_pay4
  pointwise

theorem pay_13 (b : Fin 32) (l : Fin 512) :
    k0_pay13 (k0_pay11 x0) (View.ld x5 (Rect.unit (s := S4x128x1024) ![2, 0, 0] ![1, 128, 1024] inb_S4x128x1024_S1x128x1024_2_0_0)) (ix2 b l)
      = ∑ k : Fin 128, x0 (ix2 b ⟨2 * 128 + k.val, by omega⟩) * x5 (ix3 ⟨2, by decide⟩ k ⟨0 * 512 + l.val, by omega⟩) := by
  unfold k0_pay13 k0_pay12 k0_pay11 k0_pay4
  pointwise

theorem pay_10 (b : Fin 32) (l : Fin 512) :
    k0_pay10 x0 (View.ld x5 (Rect.unit (s := S4x128x1024) ![1, 0, 0] ![1, 128, 1024] inb_S4x128x1024_S1x128x1024_1_0_0)) (ix2 b l)
      = ∑ k : Fin 128, x0 (ix2 b ⟨1 * 128 + k.val, by omega⟩) * x5 (ix3 ⟨1, by decide⟩ k ⟨1 * 512 + l.val, by omega⟩) := by
  unfold k0_pay10 k0_pay8 k0_pay4
  pointwise

theorem pay_9 (b : Fin 32) (l : Fin 512) :
    k0_pay9 x0 (View.ld x5 (Rect.unit (s := S4x128x1024) ![1, 0, 0] ![1, 128, 1024] inb_S4x128x1024_S1x128x1024_1_0_0)) (ix2 b l)
      = ∑ k : Fin 128, x0 (ix2 b ⟨1 * 128 + k.val, by omega⟩) * x5 (ix3 ⟨1, by decide⟩ k ⟨0 * 512 + l.val, by omega⟩) := by
  unfold k0_pay9 k0_pay8 k0_pay4
  pointwise

theorem pay_7 (b : Fin 32) (l : Fin 512) :
    k0_pay7 x0 (View.ld x5 (Rect.unit (s := S4x128x1024) ![0, 0, 0] ![1, 128, 1024] inb_S4x128x1024_S1x128x1024_0_0_0)) (ix2 b l)
      = ∑ k : Fin 128, x0 (ix2 b ⟨0 * 128 + k.val, by omega⟩) * x5 (ix3 ⟨0, by decide⟩ k ⟨1 * 512 + l.val, by omega⟩) := by
  unfold k0_pay7 k0_pay5 k0_pay4
  pointwise

theorem pay_6 (b : Fin 32) (l : Fin 512) :
    k0_pay6 x0 (View.ld x5 (Rect.unit (s := S4x128x1024) ![0, 0, 0] ![1, 128, 1024] inb_S4x128x1024_S1x128x1024_0_0_0)) (ix2 b l)
      = ∑ k : Fin 128, x0 (ix2 b ⟨0 * 128 + k.val, by omega⟩) * x5 (ix3 ⟨0, by decide⟩ k ⟨0 * 512 + l.val, by omega⟩) := by
  unfold k0_pay6 k0_pay5 k0_pay4
  pointwise

theorem bu_canon (y : S32x4096.Idx) : View.canon (buPieces x0 x5) y = buV x0 x5 (y 0) (y 1) := by
  unfold buPieces
  canon_tiles x h
  · exact (congrArg _ (show x = ix2 (⟨(x 0).val, x0_lt⟩ : Fin 32) (⟨(x 1).val, x1_lt⟩ : Fin 512) by funext a; fin_cases a <;> rfl)).trans
      ((pay_17 x0 x5 ⟨(x 0).val, x0_lt⟩ ⟨(x 1).val, x1_lt⟩).trans (chunk x0 x5 3 1 (by decide) (by decide) _ _ y h0 (by dsimp only; omega)))
  · exact (congrArg _ (show x = ix2 (⟨(x 0).val, x0_lt⟩ : Fin 32) (⟨(x 1).val, x1_lt⟩ : Fin 512) by funext a; fin_cases a <;> rfl)).trans
      ((pay_16 x0 x5 ⟨(x 0).val, x0_lt⟩ ⟨(x 1).val, x1_lt⟩).trans (chunk x0 x5 3 0 (by decide) (by decide) _ _ y h0 (by dsimp only; omega)))
  · exact (congrArg _ (show x = ix2 (⟨(x 0).val, x0_lt⟩ : Fin 32) (⟨(x 1).val, x1_lt⟩ : Fin 512) by funext a; fin_cases a <;> rfl)).trans
      ((pay_14 x0 x5 ⟨(x 0).val, x0_lt⟩ ⟨(x 1).val, x1_lt⟩).trans (chunk x0 x5 2 1 (by decide) (by decide) _ _ y h0 (by dsimp only; omega)))
  · exact (congrArg _ (show x = ix2 (⟨(x 0).val, x0_lt⟩ : Fin 32) (⟨(x 1).val, x1_lt⟩ : Fin 512) by funext a; fin_cases a <;> rfl)).trans
      ((pay_13 x0 x5 ⟨(x 0).val, x0_lt⟩ ⟨(x 1).val, x1_lt⟩).trans (chunk x0 x5 2 0 (by decide) (by decide) _ _ y h0 (by dsimp only; omega)))
  · exact (congrArg _ (show x = ix2 (⟨(x 0).val, x0_lt⟩ : Fin 32) (⟨(x 1).val, x1_lt⟩ : Fin 512) by funext a; fin_cases a <;> rfl)).trans
      ((pay_10 x0 x5 ⟨(x 0).val, x0_lt⟩ ⟨(x 1).val, x1_lt⟩).trans (chunk x0 x5 1 1 (by decide) (by decide) _ _ y h0 (by dsimp only; omega)))
  · exact (congrArg _ (show x = ix2 (⟨(x 0).val, x0_lt⟩ : Fin 32) (⟨(x 1).val, x1_lt⟩ : Fin 512) by funext a; fin_cases a <;> rfl)).trans
      ((pay_9 x0 x5 ⟨(x 0).val, x0_lt⟩ ⟨(x 1).val, x1_lt⟩).trans (chunk x0 x5 1 0 (by decide) (by decide) _ _ y h0 (by dsimp only; omega)))
  · exact (congrArg _ (show x = ix2 (⟨(x 0).val, x0_lt⟩ : Fin 32) (⟨(x 1).val, x1_lt⟩ : Fin 512) by funext a; fin_cases a <;> rfl)).trans
      ((pay_7 x0 x5 ⟨(x 0).val, x0_lt⟩ ⟨(x 1).val, x1_lt⟩).trans (chunk x0 x5 0 1 (by decide) (by decide) _ _ y h0 (by dsimp only; omega)))
  · exact (congrArg _ (show x = ix2 (⟨(x 0).val, x0_lt⟩ : Fin 32) (⟨(x 1).val, x1_lt⟩ : Fin 512) by funext a; fin_cases a <;> rfl)).trans
      ((pay_6 x0 x5 ⟨(x 0).val, x0_lt⟩ ⟨(x 1).val, x1_lt⟩).trans (chunk x0 x5 0 0 (by decide) (by decide) _ _ y h0 (by dsimp only; omega)))

theorem bu_lo (v : View sig .tc .vmem S32x4096 .f32) (b : Fin 32) (j : Fin 2048) :
    v.readCov (buPieces x0 x5) (Rect.unit (s := S32x4096) k0_off1 ![32, 2048] k0_off1_inb).toLoadRect (ix2 b j) = buV x0 x5 b ⟨j.val, by omega⟩ := by
  rw [View.readCov_eq_canon']
  refine (bu_canon x0 x5 _).trans (congrArg₂ _ (Fin.ext ?_) (Fin.ext ?_))
  · show k0_off1 0 + 1 * b.val = b.val
    rw [k0_off1_eq]; simp
  · show k0_off1 1 + 1 * j.val = j.val
    rw [k0_off1_eq]; simp

theorem bu_hi (v : View sig .tc .vmem S32x4096 .f32) (b : Fin 32) (j : Fin 2048) :
    v.readCov (buPieces x0 x5) (Rect.unit (s := S32x4096) k0_off2 ![32, 2048] k0_off2_inb).toLoadRect (ix2 b j) = buV x0 x5 b ⟨2048 + j.val, by omega⟩ := by
  rw [View.readCov_eq_canon']
  refine (bu_canon x0 x5 _).trans (congrArg₂ _ (Fin.ext ?_) (Fin.ext ?_))
  · show k0_off2 0 + 1 * b.val = b.val
    rw [k0_off2_eq]; simp
  · show k0_off2 1 + 1 * j.val = 2048 + j.val
    rw [k0_off2_eq]; simp

/-- The real part of the new state. -/
def newRe (b : Fin 32) (j : Fin 2048) : EReal :=
  x3 (ix2 0 j) * x1 (ix2 b j) - x4 (ix2 0 j) * x2 (ix2 b j) + buV x0 x5 b ⟨j.val, by omega⟩

/-- The imaginary part of the new state. -/
def newIm (b : Fin 32) (j : Fin 2048) : EReal :=
  x3 (ix2 0 j) * x2 (ix2 b j) + x4 (ix2 0 j) * x1 (ix2 b j) + buV x0 x5 b ⟨2048 + j.val, by omega⟩

theorem pay_re (v : View sig .tc .vmem S32x4096 .f32) (b : Fin 32) (j : Fin 2048) :
    k0_pay20 (k0_pay18 x3) (k0_pay19 x4) (k0_pay2 x1) (k0_pay3 x2) (v.readCov (buPieces x0 x5) (Rect.unit (s := S32x4096) k0_off1 ![32, 2048] k0_off1_inb).toLoadRect) (ix2 b j)
      = newRe x0 x1 x2 x3 x4 x5 b j := by
  unfold newRe
  rw [← bu_lo x0 x5 v b j]
  generalize v.readCov (buPieces x0 x5) (Rect.unit (s := S32x4096) k0_off1 ![32, 2048] k0_off1_inb).toLoadRect = B
  unfold k0_pay20 k0_pay18 k0_pay19 k0_pay2 k0_pay3
  pointwise

theorem pay_im (v : View sig .tc .vmem S32x4096 .f32) (b : Fin 32) (j : Fin 2048) :
    k0_pay21 (k0_pay18 x3) (k0_pay19 x4) (k0_pay2 x1) (k0_pay3 x2) (v.readCov (buPieces x0 x5) (Rect.unit (s := S32x4096) k0_off2 ![32, 2048] k0_off2_inb).toLoadRect) (ix2 b j)
      = newIm x0 x1 x2 x3 x4 x5 b j := by
  unfold newIm
  rw [← bu_hi x0 x5 v b j]
  generalize v.readCov (buPieces x0 x5) (Rect.unit (s := S32x4096) k0_off2 ![32, 2048] k0_off2_inb).toLoadRect = B
  unfold k0_pay21 k0_pay18 k0_pay19 k0_pay2 k0_pay3
  pointwise

theorem rd (v : View sig .tc .vmem S32x2048 .f32) (P : Vec Ideal S32x2048 .f32) (o : ℕ) (inb) (ho : o + 512 ≤ 2048) (b : Fin 32) (k : Fin 512) :
    v.readCov [⟨Rect.unit (s := S32x2048) k0_off3 ![32, 2048] k0_off3_inb, P⟩] (Rect.unit (s := S32x2048) ![0, o] ![32, 512] inb).toLoadRect (ix2 b k)
      = P (ix2 b ⟨o + k.val, by omega⟩) := by
  rw [View.readCov_eq_canon', View.canon_unit_zero (by decide)]
  refine congrArg P (funext fun a => Fin.ext ?_)
  fin_cases a
  · show 0 + 1 * b.val = b.val
    omega
  · show o + 1 * k.val = o + k.val
    omega

section
variable (v1 v2 : View sig .tc .vmem S32x2048 .f32) (P Q : Vec Ideal S32x2048 .f32)

/-- The output of a state: a block of 512 states against the matrix of its chunk. -/
def yV (b : Fin 32) (j : Fin 512) : EReal :=
  ∑ k : Fin 512, P (ix2 b ⟨j.val / 128 * 512 + k.val, by omega⟩) * x6 (ix3 ⟨j.val / 128, by omega⟩ k ⟨j.val % 128, by omega⟩)
    - ∑ k : Fin 512, Q (ix2 b ⟨j.val / 128 * 512 + k.val, by omega⟩) * x7 (ix3 ⟨j.val / 128, by omega⟩ k ⟨j.val % 128, by omega⟩)

theorem ychunk (o : ℕ) (ho : o < 4) (b : Fin 32) (l : Fin 128) (y : S32x512.Idx) (h0 : (y 0).val = b.val) (h1 : (y 1).val = o * 128 + l.val) :
    (∑ k : Fin 512, P (ix2 b ⟨o * 512 + k.val, by omega⟩) * x6 (ix3 ⟨o, ho⟩ k l) - ∑ k : Fin 512, Q (ix2 b ⟨o * 512 + k.val, by omega⟩) * x7 (ix3 ⟨o, ho⟩ k l))
      = yV x6 x7 P Q (y 0) (y 1) := by
  unfold yV
  have hl := l.isLt
  refine congrArg₂ _ (Finset.sum_congr rfl fun k _ => ?_) (Finset.sum_congr rfl fun k _ => ?_)
  all_goals
    refine congrArg₂ _ (congrArg _ (congrArg₂ _ (Fin.ext h0.symm) (Fin.ext ?_))) (congrArg _ ?_)
    · dsimp only; omega
    · refine congrArg₂ (fun a d => ix3 a k d) (Fin.ext ?_) (Fin.ext ?_) <;> dsimp only <;> omega

theorem pay_y3 (b : Fin 32) (l : Fin 128) :
    k0_pay1 (v1.readCov [⟨Rect.unit (s := S32x2048) k0_off3 ![32, 2048] k0_off3_inb, P⟩] (Rect.unit (s := S32x2048) ![0, 1536] ![32, 512] inb_S32x2048_S32x512_0_1536).toLoadRect) (View.ld x6 (Rect.unit (s := S4x512x128) ![3, 0, 0] ![1, 512, 128] inb_S4x512x128_S1x512x128_3_0_0)) (v2.readCov [⟨Rect.unit (s := S32x2048) k0_off3 ![32, 2048] k0_off3_inb, Q⟩] (Rect.unit (s := S32x2048) ![0, 1536] ![32, 512] inb_S32x2048_S32x512_0_1536).toLoadRect) (View.ld x7 (Rect.unit (s := S4x512x128) ![3, 0, 0] ![1, 512, 128] inb_S4x512x128_S1x512x128_3_0_0)) (ix2 b l)
      = ∑ k : Fin 512, P (ix2 b ⟨3 * 512 + k.val, by omega⟩) * x6 (ix3 ⟨3, by decide⟩ k l) - ∑ k : Fin 512, Q (ix2 b ⟨3 * 512 + k.val, by omega⟩) * x7 (ix3 ⟨3, by decide⟩ k l) := by
  have hA := rd v1 P 1536 inb_S32x2048_S32x512_0_1536 (by decide) b
  have hB := rd v2 Q 1536 inb_S32x2048_S32x512_0_1536 (by decide) b
  generalize (v1.readCov [⟨Rect.unit (s := S32x2048) k0_off3 ![32, 2048] k0_off3_inb, P⟩] (Rect.unit (s := S32x2048) ![0, 1536] ![32, 512] inb_S32x2048_S32x512_0_1536).toLoadRect) = A at hA ⊢
  generalize (v2.readCov [⟨Rect.unit (s := S32x2048) k0_off3 ![32, 2048] k0_off3_inb, Q⟩] (Rect.unit (s := S32x2048) ![0, 1536] ![32, 512] inb_S32x2048_S32x512_0_1536).toLoadRect) = B at hB ⊢
  unfold k0_pay1
  pointwise
  refine congrArg₂ _ (Finset.sum_congr rfl fun k _ => ?_) (Finset.sum_congr rfl fun k _ => ?_)
  · refine congrArg₂ _ ((hA k).trans (congrArg P (congrArg _ (Fin.ext (by dsimp only; try omega))))) (congrArg _ (funext fun a => Fin.ext ?_))
    blk_simp
  · refine congrArg₂ _ ((hB k).trans (congrArg Q (congrArg _ (Fin.ext (by dsimp only; try omega))))) (congrArg _ (funext fun a => Fin.ext ?_))
    blk_simp

theorem pay_y2 (b : Fin 32) (l : Fin 128) :
    k0_pay31 (v1.readCov [⟨Rect.unit (s := S32x2048) k0_off3 ![32, 2048] k0_off3_inb, P⟩] (Rect.unit (s := S32x2048) ![0, 1024] ![32, 512] inb_S32x2048_S32x512_0_1024).toLoadRect) (View.ld x6 (Rect.unit (s := S4x512x128) ![2, 0, 0] ![1, 512, 128] inb_S4x512x128_S1x512x128_2_0_0)) (v2.readCov [⟨Rect.unit (s := S32x2048) k0_off3 ![32, 2048] k0_off3_inb, Q⟩] (Rect.unit (s := S32x2048) ![0, 1024] ![32, 512] inb_S32x2048_S32x512_0_1024).toLoadRect) (View.ld x7 (Rect.unit (s := S4x512x128) ![2, 0, 0] ![1, 512, 128] inb_S4x512x128_S1x512x128_2_0_0)) (ix2 b l)
      = ∑ k : Fin 512, P (ix2 b ⟨2 * 512 + k.val, by omega⟩) * x6 (ix3 ⟨2, by decide⟩ k l) - ∑ k : Fin 512, Q (ix2 b ⟨2 * 512 + k.val, by omega⟩) * x7 (ix3 ⟨2, by decide⟩ k l) := by
  have hA := rd v1 P 1024 inb_S32x2048_S32x512_0_1024 (by decide) b
  have hB := rd v2 Q 1024 inb_S32x2048_S32x512_0_1024 (by decide) b
  generalize (v1.readCov [⟨Rect.unit (s := S32x2048) k0_off3 ![32, 2048] k0_off3_inb, P⟩] (Rect.unit (s := S32x2048) ![0, 1024] ![32, 512] inb_S32x2048_S32x512_0_1024).toLoadRect) = A at hA ⊢
  generalize (v2.readCov [⟨Rect.unit (s := S32x2048) k0_off3 ![32, 2048] k0_off3_inb, Q⟩] (Rect.unit (s := S32x2048) ![0, 1024] ![32, 512] inb_S32x2048_S32x512_0_1024).toLoadRect) = B at hB ⊢
  unfold k0_pay31
  pointwise
  refine congrArg₂ _ (Finset.sum_congr rfl fun k _ => ?_) (Finset.sum_congr rfl fun k _ => ?_)
  · refine congrArg₂ _ ((hA k).trans (congrArg P (congrArg _ (Fin.ext (by dsimp only; try omega))))) (congrArg _ (funext fun a => Fin.ext ?_))
    blk_simp
  · refine congrArg₂ _ ((hB k).trans (congrArg Q (congrArg _ (Fin.ext (by dsimp only; try omega))))) (congrArg _ (funext fun a => Fin.ext ?_))
    blk_simp

theorem pay_y1 (b : Fin 32) (l : Fin 128) :
    k0_pay30 (v1.readCov [⟨Rect.unit (s := S32x2048) k0_off3 ![32, 2048] k0_off3_inb, P⟩] (Rect.unit (s := S32x2048) ![0, 512] ![32, 512] inb_S32x2048_S32x512_0_512).toLoadRect) (View.ld x6 (Rect.unit (s := S4x512x128) ![1, 0, 0] ![1, 512, 128] inb_S4x512x128_S1x512x128_1_0_0)) (v2.readCov [⟨Rect.unit (s := S32x2048) k0_off3 ![32, 2048] k0_off3_inb, Q⟩] (Rect.unit (s := S32x2048) ![0, 512] ![32, 512] inb_S32x2048_S32x512_0_512).toLoadRect) (View.ld x7 (Rect.unit (s := S4x512x128) ![1, 0, 0] ![1, 512, 128] inb_S4x512x128_S1x512x128_1_0_0)) (ix2 b l)
      = ∑ k : Fin 512, P (ix2 b ⟨1 * 512 + k.val, by omega⟩) * x6 (ix3 ⟨1, by decide⟩ k l) - ∑ k : Fin 512, Q (ix2 b ⟨1 * 512 + k.val, by omega⟩) * x7 (ix3 ⟨1, by decide⟩ k l) := by
  have hA := rd v1 P 512 inb_S32x2048_S32x512_0_512 (by decide) b
  have hB := rd v2 Q 512 inb_S32x2048_S32x512_0_512 (by decide) b
  generalize (v1.readCov [⟨Rect.unit (s := S32x2048) k0_off3 ![32, 2048] k0_off3_inb, P⟩] (Rect.unit (s := S32x2048) ![0, 512] ![32, 512] inb_S32x2048_S32x512_0_512).toLoadRect) = A at hA ⊢
  generalize (v2.readCov [⟨Rect.unit (s := S32x2048) k0_off3 ![32, 2048] k0_off3_inb, Q⟩] (Rect.unit (s := S32x2048) ![0, 512] ![32, 512] inb_S32x2048_S32x512_0_512).toLoadRect) = B at hB ⊢
  unfold k0_pay30
  pointwise
  refine congrArg₂ _ (Finset.sum_congr rfl fun k _ => ?_) (Finset.sum_congr rfl fun k _ => ?_)
  · refine congrArg₂ _ ((hA k).trans (congrArg P (congrArg _ (Fin.ext (by dsimp only; try omega))))) (congrArg _ (funext fun a => Fin.ext ?_))
    blk_simp
  · refine congrArg₂ _ ((hB k).trans (congrArg Q (congrArg _ (Fin.ext (by dsimp only; try omega))))) (congrArg _ (funext fun a => Fin.ext ?_))
    blk_simp

theorem pay_y0 (b : Fin 32) (l : Fin 128) :
    k0_pay29 (k0_pay26 (v1.readCov [⟨Rect.unit (s := S32x2048) k0_off3 ![32, 2048] k0_off3_inb, P⟩] (Rect.unit (s := S32x2048) ![0, 0] ![32, 512] inb_S32x2048_S32x512_0_0).toLoadRect) (View.ld x6 (Rect.unit (s := S4x512x128) ![0, 0, 0] ![1, 512, 128] inb_S4x512x128_S1x512x128_0_0_0))) (k0_pay27 (v2.readCov [⟨Rect.unit (s := S32x2048) k0_off3 ![32, 2048] k0_off3_inb, Q⟩] (Rect.unit (s := S32x2048) ![0, 0] ![32, 512] inb_S32x2048_S32x512_0_0).toLoadRect)) (k0_pay28 (View.ld x7 (Rect.unit (s := S4x512x128) ![0, 0, 0] ![1, 512, 128] inb_S4x512x128_S1x512x128_0_0_0))) (ix2 b l)
      = ∑ k : Fin 512, P (ix2 b ⟨0 * 512 + k.val, by omega⟩) * x6 (ix3 ⟨0, by decide⟩ k l) - ∑ k : Fin 512, Q (ix2 b ⟨0 * 512 + k.val, by omega⟩) * x7 (ix3 ⟨0, by decide⟩ k l) := by
  have hA := rd v1 P 0 inb_S32x2048_S32x512_0_0 (by decide) b
  have hB := rd v2 Q 0 inb_S32x2048_S32x512_0_0 (by decide) b
  generalize (v1.readCov [⟨Rect.unit (s := S32x2048) k0_off3 ![32, 2048] k0_off3_inb, P⟩] (Rect.unit (s := S32x2048) ![0, 0] ![32, 512] inb_S32x2048_S32x512_0_0).toLoadRect) = A at hA ⊢
  generalize (v2.readCov [⟨Rect.unit (s := S32x2048) k0_off3 ![32, 2048] k0_off3_inb, Q⟩] (Rect.unit (s := S32x2048) ![0, 0] ![32, 512] inb_S32x2048_S32x512_0_0).toLoadRect) = B at hB ⊢
  unfold k0_pay29 k0_pay26 k0_pay27 k0_pay28
  pointwise
  refine congrArg₂ _ (Finset.sum_congr rfl fun k _ => ?_) (Finset.sum_congr rfl fun k _ => ?_)
  · refine congrArg₂ _ ((hA k).trans (congrArg P (congrArg _ (Fin.ext (by dsimp only; try omega))))) (congrArg _ (funext fun a => Fin.ext ?_))
    blk_simp
  · refine congrArg₂ _ ((hB k).trans (congrArg Q (congrArg _ (Fin.ext (by dsimp only; try omega))))) (congrArg _ (funext fun a => Fin.ext ?_))
    blk_simp

theorem y_canon (y : S32x512.Idx) :
    View.canon (Val := Elt Ideal) (e := .f32) [⟨Rect.unit (s := S32x512) ![0, 384] ![32, 128] inb_S32x512_S32x128_0_384, k0_pay1 (v1.readCov [⟨Rect.unit (s := S32x2048) k0_off3 ![32, 2048] k0_off3_inb, P⟩] (Rect.unit (s := S32x2048) ![0, 1536] ![32, 512] inb_S32x2048_S32x512_0_1536).toLoadRect) (View.ld x6 (Rect.unit (s := S4x512x128) ![3, 0, 0] ![1, 512, 128] inb_S4x512x128_S1x512x128_3_0_0)) (v2.readCov [⟨Rect.unit (s := S32x2048) k0_off3 ![32, 2048] k0_off3_inb, Q⟩] (Rect.unit (s := S32x2048) ![0, 1536] ![32, 512] inb_S32x2048_S32x512_0_1536).toLoadRect) (View.ld x7 (Rect.unit (s := S4x512x128) ![3, 0, 0] ![1, 512, 128] inb_S4x512x128_S1x512x128_3_0_0))⟩,
      ⟨Rect.unit (s := S32x512) ![0, 256] ![32, 128] inb_S32x512_S32x128_0_256, k0_pay31 (v1.readCov [⟨Rect.unit (s := S32x2048) k0_off3 ![32, 2048] k0_off3_inb, P⟩] (Rect.unit (s := S32x2048) ![0, 1024] ![32, 512] inb_S32x2048_S32x512_0_1024).toLoadRect) (View.ld x6 (Rect.unit (s := S4x512x128) ![2, 0, 0] ![1, 512, 128] inb_S4x512x128_S1x512x128_2_0_0)) (v2.readCov [⟨Rect.unit (s := S32x2048) k0_off3 ![32, 2048] k0_off3_inb, Q⟩] (Rect.unit (s := S32x2048) ![0, 1024] ![32, 512] inb_S32x2048_S32x512_0_1024).toLoadRect) (View.ld x7 (Rect.unit (s := S4x512x128) ![2, 0, 0] ![1, 512, 128] inb_S4x512x128_S1x512x128_2_0_0))⟩,
      ⟨Rect.unit (s := S32x512) ![0, 128] ![32, 128] inb_S32x512_S32x128_0_128, k0_pay30 (v1.readCov [⟨Rect.unit (s := S32x2048) k0_off3 ![32, 2048] k0_off3_inb, P⟩] (Rect.unit (s := S32x2048) ![0, 512] ![32, 512] inb_S32x2048_S32x512_0_512).toLoadRect) (View.ld x6 (Rect.unit (s := S4x512x128) ![1, 0, 0] ![1, 512, 128] inb_S4x512x128_S1x512x128_1_0_0)) (v2.readCov [⟨Rect.unit (s := S32x2048) k0_off3 ![32, 2048] k0_off3_inb, Q⟩] (Rect.unit (s := S32x2048) ![0, 512] ![32, 512] inb_S32x2048_S32x512_0_512).toLoadRect) (View.ld x7 (Rect.unit (s := S4x512x128) ![1, 0, 0] ![1, 512, 128] inb_S4x512x128_S1x512x128_1_0_0))⟩,
      ⟨Rect.unit (s := S32x512) ![0, 0] ![32, 128] inb_S32x512_S32x128_0_0, k0_pay29 (k0_pay26 (v1.readCov [⟨Rect.unit (s := S32x2048) k0_off3 ![32, 2048] k0_off3_inb, P⟩] (Rect.unit (s := S32x2048) ![0, 0] ![32, 512] inb_S32x2048_S32x512_0_0).toLoadRect) (View.ld x6 (Rect.unit (s := S4x512x128) ![0, 0, 0] ![1, 512, 128] inb_S4x512x128_S1x512x128_0_0_0))) (k0_pay27 (v2.readCov [⟨Rect.unit (s := S32x2048) k0_off3 ![32, 2048] k0_off3_inb, Q⟩] (Rect.unit (s := S32x2048) ![0, 0] ![32, 512] inb_S32x2048_S32x512_0_0).toLoadRect)) (k0_pay28 (View.ld x7 (Rect.unit (s := S4x512x128) ![0, 0, 0] ![1, 512, 128] inb_S4x512x128_S1x512x128_0_0_0)))⟩] y
      = yV x6 x7 P Q (y 0) (y 1) := by
  canon_tiles x h
  · exact (congrArg _ (show x = ix2 (⟨(x 0).val, x0_lt⟩ : Fin 32) (⟨(x 1).val, x1_lt⟩ : Fin 128) by funext a; fin_cases a <;> rfl)).trans
      ((pay_y3 x6 x7 v1 v2 P Q ⟨(x 0).val, x0_lt⟩ ⟨(x 1).val, x1_lt⟩).trans (ychunk x6 x7 P Q 3 (by decide) _ _ y h0 (by dsimp only; omega)))
  · exact (congrArg _ (show x = ix2 (⟨(x 0).val, x0_lt⟩ : Fin 32) (⟨(x 1).val, x1_lt⟩ : Fin 128) by funext a; fin_cases a <;> rfl)).trans
      ((pay_y2 x6 x7 v1 v2 P Q ⟨(x 0).val, x0_lt⟩ ⟨(x 1).val, x1_lt⟩).trans (ychunk x6 x7 P Q 2 (by decide) _ _ y h0 (by dsimp only; omega)))
  · exact (congrArg _ (show x = ix2 (⟨(x 0).val, x0_lt⟩ : Fin 32) (⟨(x 1).val, x1_lt⟩ : Fin 128) by funext a; fin_cases a <;> rfl)).trans
      ((pay_y1 x6 x7 v1 v2 P Q ⟨(x 0).val, x0_lt⟩ ⟨(x 1).val, x1_lt⟩).trans (ychunk x6 x7 P Q 1 (by decide) _ _ y h0 (by dsimp only; omega)))
  · exact (congrArg _ (show x = ix2 (⟨(x 0).val, x0_lt⟩ : Fin 32) (⟨(x 1).val, x1_lt⟩ : Fin 128) by funext a; fin_cases a <;> rfl)).trans
      ((pay_y0 x6 x7 v1 v2 P Q ⟨(x 0).val, x0_lt⟩ ⟨(x 1).val, x1_lt⟩).trans (ychunk x6 x7 P Q 0 (by decide) _ _ y h0 (by dsimp only; omega)))

end

theorem pay_re' (v : View sig .tc .vmem S32x4096 .f32) (b : Fin 32) (j : Fin 2048) :
    k0_pay22 (k0_pay18 x3) (k0_pay19 x4) (k0_pay2 x1) (k0_pay3 x2) (v.readCov (buPieces x0 x5) (Rect.unit (s := S32x4096) k0_off1 ![32, 2048] k0_off1_inb).toLoadRect) (ix2 b j)
      = newRe x0 x1 x2 x3 x4 x5 b j := by
  rw [← pay_re x0 x1 x2 x3 x4 x5 v b j]
  unfold k0_pay22
  generalize k0_pay20 (k0_pay18 x3) (k0_pay19 x4) (k0_pay2 x1) (k0_pay3 x2) (v.readCov (buPieces x0 x5) (Rect.unit (s := S32x4096) k0_off1 ![32, 2048] k0_off1_inb).toLoadRect) = B
  pointwise

theorem pay_im' (v : View sig .tc .vmem S32x4096 .f32) (b : Fin 32) (j : Fin 2048) :
    k0_pay23 (k0_pay18 x3) (k0_pay19 x4) (k0_pay2 x1) (k0_pay3 x2) (v.readCov (buPieces x0 x5) (Rect.unit (s := S32x4096) k0_off2 ![32, 2048] k0_off2_inb).toLoadRect) (ix2 b j)
      = newIm x0 x1 x2 x3 x4 x5 b j := by
  rw [← pay_im x0 x1 x2 x3 x4 x5 v b j]
  unfold k0_pay23
  generalize k0_pay21 (k0_pay18 x3) (k0_pay19 x4) (k0_pay2 x1) (k0_pay3 x2) (v.readCov (buPieces x0 x5) (Rect.unit (s := S32x4096) k0_off2 ![32, 2048] k0_off2_inb).toLoadRect) = B
  pointwise

end

variable (m : (ℓ : Loc nD τ sig) → Buf (Elt Ideal) ℓ) (c : Dev nD)

theorem out_re (t : Fin cfg0.N) (b : Fin 32) (j : Fin 2048) :
    ((outsAt0 m c t).2.1 : Vec Ideal S32x2048 .f32) (ix2 b j)
      = newRe (iblk m c 0 t) (iblk m c 1 t) (iblk m c 2 t) (iblk m c 3 t) (iblk m c 4 t) (iblk m c 5 t) b j := by
  rw [outsAt0]
  frame_out
  exact pay_re ..

theorem out_im (t : Fin cfg0.N) (b : Fin 32) (j : Fin 2048) :
    ((outsAt0 m c t).2.2 : Vec Ideal S32x2048 .f32) (ix2 b j)
      = newIm (iblk m c 0 t) (iblk m c 1 t) (iblk m c 2 t) (iblk m c 3 t) (iblk m c 4 t) (iblk m c 5 t) b j := by
  rw [outsAt0]
  frame_out
  exact pay_im ..

/-- The output at a place, of the point's blocks. -/
def newY (x0 : Vec Ideal S32x512 .f32) (x1 x2 : Vec Ideal S32x2048 .f32) (x3 x4 : Vec Ideal S1x2048 .f32) (x5 : Vec Ideal S4x128x1024 .bf16)
    (x6 x7 : Vec Ideal S4x512x128 .bf16) (b : Fin 32) (j : Fin 512) : EReal :=
  yV x6 x7 (fun i => newRe x0 x1 x2 x3 x4 x5 (i 0) (i 1)) (fun i => newIm x0 x1 x2 x3 x4 x5 (i 0) (i 1)) b j

theorem yV_congr (x6 x7 : Vec Ideal S4x512x128 .bf16) (P Q P' Q' : Vec Ideal S32x2048 .f32) (hP : ∀ b j, P (ix2 b j) = P' (ix2 b j)) (hQ : ∀ b j, Q (ix2 b j) = Q' (ix2 b j))
    (b : Fin 32) (j : Fin 512) : yV x6 x7 P Q b j = yV x6 x7 P' Q' b j := by
  unfold yV
  simp only [hP, hQ]

theorem out_y (t : Fin cfg0.N) (b : Fin 32) (j : Fin 512) :
    ((outsAt0 m c t).1 : Vec Ideal S32x512 .f32) (ix2 b j)
      = newY (iblk m c 0 t) (iblk m c 1 t) (iblk m c 2 t) (iblk m c 3 t) (iblk m c 4 t) (iblk m c 5 t) (iblk m c 6 t) (iblk m c 7 t) b j := by
  rw [outsAt0]
  frame_out
  refine (y_canon (iblk m c 6 t) (iblk m c 7 t) _ _ _ _ (ix2 b j)).trans (yV_congr _ _ _ _ _ _ (fun b j => ?_) (fun b j => ?_) b j)
  · exact pay_re' ..
  · exact pay_im' ..

end Cert.Kernel5Ideal.Step
-- ==== Proof.StepHost.lean ====
module

public import proofs.«01_k».proof.Proof.Gen.Kernel5Ideal.Value
public import proofs.«01_k».proof.Proof.StepSpec
public import Idealize.ShloMosaic.Lib.Pipeline.ValueKit.Partial
public import Idealize.ShloMosaic.Lib.Pipeline.ValueKit.Geometry
public import Idealize.ShloMosaic.Lib.Pipeline.ValueKit.Point

@[expose] public section

/-!
# What the host hands the kernel step

The groups' matrices stand eight by eight on the diagonals of four large ones.
-/

set_option maxRecDepth 16384

noncomputable section

namespace Cert.Kernel5Ideal.Step

open Cert.Kernel5Ideal Cert.Kernel5Ideal.Gen Idealize.ShloMosaic Idealize.ShloMosaic.TcCoe Idealize.SL.Sem Cert.StepSpec

/-- The identity of eight groups. -/
def eye : FVec Ideal S8x8 .f32 :=
  uitofp .f32 (cmpi .eq (addi (iotaInDim S8x8 32 0) (broadcastInDim S8x8 ![] bcast_S_S8x8 (constantI S_ 32 0#32))) (iotaInDim S8x8 32 1))

theorem eye_apply (g h : Fin 8) : eye (ix2 g h) = if g = h then 1 else 0 := by
  unfold eye
  pointwise
  have e : IntOp.cmpi CmpIPredicate.eq (IntOp.addi (BitVec.ofNat 32 g.val) 0#32) (BitVec.ofNat 32 h.val) = if g = h then 1#1 else 0#1 := by
    revert g h
    decide
  rw [e]
  split
  · show ((BitVec.toNat 1#1 : ℝ) : EReal) = 1
    norm_num
  · show ((BitVec.toNat 0#1 : ℝ) : EReal) = 0
    norm_num

/-- Four matrices with eight groups' input matrices on the diagonal. -/
def blockIn (w : FVec Ideal S32x64x16 .f32) : FVec Ideal S4x128x512 .f32 :=
  shapeCast S4x128x512 (mulf
    (broadcastInDim S4x8x16x8x64 ![0, 1, 2, 3, 4] bcast_S4x8x16x1x64_S4x8x16x8x64_0_1_2_3_4
      (broadcastInDim S4x8x16x1x64 ![0, 1, 2, 4] bcast_S4x8x16x64_S4x8x16x1x64_0_1_2_4
        (transpose S4x8x16x64 [0, 1, 3, 2] (shapeCast S4x8x64x16 w shapeCasts_S32x64x16_S4x8x64x16) transposes_S4x8x64x16_S4x8x16x64_0_1_3_2)))
    (broadcastInDim S4x8x16x8x64 ![0, 1, 2, 3, 4] bcast_S1x8x1x8x1_S4x8x16x8x64_0_1_2_3_4
      (broadcastInDim S1x8x1x8x1 ![1, 2, 3, 4] bcast_S8x1x8x1_S1x8x1x8x1_1_2_3_4 (broadcastInDim S8x1x8x1 ![0, 2] bcast_S8x8_S8x1x8x1_0_2 eye))))
    shapeCasts_S4x8x16x8x64_S4x128x512

/-- Four matrices with eight groups' output matrices on the diagonal. -/
def blockOut (w : FVec Ideal S32x16x64 .f32) : FVec Ideal S4x512x128 .f32 :=
  shapeCast S4x512x128 (mulf
    (broadcastInDim S4x8x64x8x16 ![0, 1, 2, 3, 4] bcast_S4x8x64x1x16_S4x8x64x8x16_0_1_2_3_4
      (broadcastInDim S4x8x64x1x16 ![0, 1, 2, 4] bcast_S4x8x64x16_S4x8x64x1x16_0_1_2_4
        (transpose S4x8x64x16 [0, 1, 3, 2] (shapeCast S4x8x16x64 w shapeCasts_S32x16x64_S4x8x16x64) transposes_S4x8x16x64_S4x8x64x16_0_1_3_2)))
    (broadcastInDim S4x8x64x8x16 ![0, 1, 2, 3, 4] bcast_S1x8x1x8x1_S4x8x64x8x16_0_1_2_3_4
      (broadcastInDim S1x8x1x8x1 ![1, 2, 3, 4] bcast_S8x1x8x1_S1x8x1x8x1_1_2_3_4 (broadcastInDim S8x1x8x1 ![0, 2] bcast_S8x8_S8x1x8x1_0_2 eye))))
    shapeCasts_S4x8x64x8x16_S4x512x128

theorem blockIn_apply (w : FVec Ideal S32x64x16 .f32) (o : Fin 4) (k : Fin 128) (l : Fin 512) :
    blockIn w (ix3 o k l) = if k.val / 16 = l.val / 64 then w (ix3 ⟨o.val * 8 + k.val / 16, by omega⟩ ⟨l.val % 64, by omega⟩ ⟨k.val % 16, by omega⟩) else 0 := by
  have e : blockIn w (ix3 o k l) = w (ix3 ⟨o.val * 8 + k.val / 16, by omega⟩ ⟨l.val % 64, by omega⟩ ⟨k.val % 16, by omega⟩)
      * eye (ix2 ⟨k.val / 16, by omega⟩ ⟨l.val / 64, by omega⟩) := by
    unfold blockIn
    generalize eye = E
    pointwise
  rw [e, eye_apply]
  by_cases h : k.val / 16 = l.val / 64
  · rw [if_pos h, if_pos (Fin.ext h), mul_one]
  · rw [if_neg h, if_neg (fun e => h (congrArg Fin.val e)), mul_zero]

theorem blockOut_apply (w : FVec Ideal S32x16x64 .f32) (o : Fin 4) (k : Fin 512) (l : Fin 128) :
    blockOut w (ix3 o k l) = if k.val / 64 = l.val / 16 then w (ix3 ⟨o.val * 8 + k.val / 64, by omega⟩ ⟨l.val % 16, by omega⟩ ⟨k.val % 64, by omega⟩) else 0 := by
  have e : blockOut w (ix3 o k l) = w (ix3 ⟨o.val * 8 + k.val / 64, by omega⟩ ⟨l.val % 16, by omega⟩ ⟨k.val % 64, by omega⟩)
      * eye (ix2 ⟨k.val / 64, by omega⟩ ⟨l.val / 16, by omega⟩) := by
    unfold blockOut
    generalize eye = E
    pointwise
  rw [e, eye_apply]
  by_cases h : k.val / 64 = l.val / 16
  · rw [if_pos h, if_pos (Fin.ext h), mul_one]
  · rw [if_neg h, if_neg (fun e => h (congrArg Fin.val e)), mul_zero]

/-- The real and the imaginary input matrices side by side. -/
def blockIn2 (wr wi : FVec Ideal S32x64x16 .f32) : FVec Ideal S4x128x1024 .bf16 :=
  truncf .bf16 (concatenate S4x128x1024 2 [⟨S4x128x512, blockIn wr⟩, ⟨S4x128x512, blockIn wi⟩] concatenates_S4x128x512_S4x128x512_S4x128x1024_d2) bitsLt_bf16_f32

theorem blockIn2_lo (wr wi : FVec Ideal S32x64x16 .f32) (o : Fin 4) (k : Fin 128) (l : Fin 512) :
    blockIn2 wr wi (ix3 o k ⟨l.val, by omega⟩) = blockIn wr (ix3 o k l) := by
  unfold blockIn2
  generalize blockIn wr = A
  generalize blockIn wi = B
  pointwise

theorem blockIn2_hi (wr wi : FVec Ideal S32x64x16 .f32) (o : Fin 4) (k : Fin 128) (l : Fin 512) :
    blockIn2 wr wi (ix3 o k ⟨512 + l.val, by omega⟩) = blockIn wi (ix3 o k l) := by
  unfold blockIn2
  generalize blockIn wr = A
  generalize blockIn wi = B
  pointwise

variable (m : (ℓ : Loc nD τ sig) → Buf (Elt Ideal) ℓ) (c : Dev nD)

set_option maxHeartbeats 2000000 in
theorem host_ar : V m c main_v46 = shapeCast S1x2048 (m (c.tc.loc main_arg3)) shapeCasts_S32x64_S1x2048 := by
  unfold V
  after_results_simp <;> rfl

set_option maxHeartbeats 2000000 in
theorem host_ai : V m c main_v47 = shapeCast S1x2048 (m (c.tc.loc main_arg4)) shapeCasts_S32x64_S1x2048 := by
  unfold V
  after_results_simp <;> rfl

set_option maxHeartbeats 2000000 in
theorem host_cr : V m c main_v35 = truncf .bf16 (blockOut (m (c.tc.loc main_arg7))) bitsLt_bf16_f32 := by
  unfold V
  after_results_simp <;> rfl

set_option maxHeartbeats 2000000 in
theorem host_ci : V m c main_v45 = truncf .bf16 (blockOut (m (c.tc.loc main_arg8))) bitsLt_bf16_f32 := by
  unfold V
  after_results_simp <;> rfl

set_option maxHeartbeats 2000000 in
theorem host_b : V m c main_v25 = blockIn2 (m (c.tc.loc main_arg5)) (m (c.tc.loc main_arg6)) := by
  unfold V
  after_results_simp
  refine congrArg₂ (fun a b => truncf .bf16 (concatenate S4x128x1024 2 [⟨S4x128x512, a⟩, ⟨S4x128x512, b⟩] concatenates_S4x128x512_S4x128x512_S4x128x1024_d2) bitsLt_bf16_f32) ?_ ?_
  · after_results_simp <;> rfl
  · after_results_simp <;> rfl

theorem row_cast (a : FVec Ideal S32x64 .f32) (j : Fin 2048) :
    shapeCast S1x2048 a shapeCasts_S32x64_S1x2048 (ix2 0 j) = a (ix2 ⟨j.val / 64, by omega⟩ ⟨j.val % 64, by omega⟩) := by
  pointwise

theorem row_ar (j : Fin 2048) : (V m c main_v46 : Vec Ideal S1x2048 .f32) (ix2 0 j) = m (c.tc.loc main_arg3) (ix2 ⟨j.val / 64, by omega⟩ ⟨j.val % 64, by omega⟩) := by
  rw [host_ar]
  exact row_cast _ j

theorem row_ai (j : Fin 2048) : (V m c main_v47 : Vec Ideal S1x2048 .f32) (ix2 0 j) = m (c.tc.loc main_arg4) (ix2 ⟨j.val / 64, by omega⟩ ⟨j.val % 64, by omega⟩) := by
  rw [host_ai]
  exact row_cast _ j

end Cert.Kernel5Ideal.Step
-- ==== Proof.StepArr.lean ====
module

public import proofs.«01_k».proof.Proof.StepBlk
public import proofs.«01_k».proof.Proof.StepHost

@[expose] public section

/-!
# What the kernel step returns
-/

set_option maxRecDepth 16384

noncomputable section

namespace Cert.Kernel5Ideal.Step

open Cert.Kernel5Ideal Cert.Kernel5Ideal.Gen Idealize.ShloMosaic Idealize.ShloMosaic.TcCoe Idealize.SL.Sem Cert.StepSpec

theorem inp_of (u : Mat 32 512) (w : Cube 32 64 16) (o : Fin 4) (l : Fin 512) (b : Fin 32) :
    ∑ k : Fin 128, u (ix2 b ⟨o.val * 128 + k.val, by omega⟩) * blockIn w (ix3 o k l) = inp u w b ⟨o.val * 8 + l.val / 64, by omega⟩ ⟨l.val % 64, by omega⟩ := by
  unfold inp
  simp only [blockIn_apply]
  rw [sum_block (w := 16) _ (l.val / 64 * 16) (by omega) (fun k hk => by rw [if_neg (by omega), mul_zero])]
  refine Finset.sum_congr rfl fun k _ => ?_
  rw [if_pos (by dsimp only; omega), mul_comm]
  refine congrArg₂ _ (congrArg _ ?_) (congrArg _ (congrArg _ (Fin.ext (by dsimp only; omega))))
  refine congrArg₂ (fun a d => ix3 a ⟨l.val % 64, by omega⟩ d) (Fin.ext ?_) (Fin.ext ?_) <;> dsimp only <;> omega

theorem out_of (P : Mat 32 2048) (w : Cube 32 16 64) (o : Fin 4) (l : Fin 128) (b : Fin 32) :
    ∑ k : Fin 512, P (ix2 b ⟨o.val * 512 + k.val, by omega⟩) * blockOut w (ix3 o k l)
      = ∑ n : Fin 64, w (ix3 ⟨o.val * 8 + l.val / 16, by omega⟩ ⟨l.val % 16, by omega⟩ n) * P (ix2 b (at64 ⟨o.val * 8 + l.val / 16, by omega⟩ n)) := by
  simp only [blockOut_apply]
  rw [sum_block (w := 64) _ (l.val / 16 * 64) (by omega) (fun k hk => by rw [if_neg (by omega), mul_zero])]
  refine Finset.sum_congr rfl fun k _ => ?_
  rw [if_pos (by dsimp only; omega), mul_comm]
  refine congrArg₂ _ (congrArg _ ?_) (congrArg _ (congrArg _ (Fin.ext (by dsimp only; omega))))
  refine congrArg₂ (fun a d => ix3 a ⟨l.val % 16, by omega⟩ d) (Fin.ext ?_) (Fin.ext ?_) <;> dsimp only <;> omega

theorem buV_lo (u : Mat 32 512) (wr wi : Cube 32 64 16) (b : Fin 32) (g : Fin 32) (n : Fin 64) :
    buV u (blockIn2 wr wi) b ⟨g.val * 64 + n.val, by omega⟩ = inp u wr b g n := by
  have hg := g.isLt
  have hn := n.isLt
  refine Eq.trans ?_ ((inp_of u wr ⟨g.val / 8, by omega⟩ ⟨g.val % 8 * 64 + n.val, by omega⟩ b).trans (congrArg₂ _ (Fin.ext ?_) (Fin.ext ?_)))
  · unfold buV
    refine Finset.sum_congr rfl fun k _ => ?_
    rw [← blockIn2_lo wr wi]
    refine congrArg₂ _ (congrArg _ (congrArg _ (Fin.ext ?_))) (congrArg _ ?_)
    · dsimp only; omega
    · refine congrArg₂ (fun a d => ix3 a k d) (Fin.ext ?_) (Fin.ext ?_) <;> dsimp only <;> omega
  all_goals dsimp only; omega

theorem buV_hi (u : Mat 32 512) (wr wi : Cube 32 64 16) (b : Fin 32) (g : Fin 32) (n : Fin 64) :
    buV u (blockIn2 wr wi) b ⟨2048 + (g.val * 64 + n.val), by omega⟩ = inp u wi b g n := by
  have hg := g.isLt
  have hn := n.isLt
  refine Eq.trans ?_ ((inp_of u wi ⟨g.val / 8, by omega⟩ ⟨g.val % 8 * 64 + n.val, by omega⟩ b).trans (congrArg₂ _ (Fin.ext ?_) (Fin.ext ?_)))
  · unfold buV
    refine Finset.sum_congr rfl fun k _ => ?_
    rw [← blockIn2_hi wr wi]
    refine congrArg₂ _ (congrArg _ (congrArg _ (Fin.ext ?_))) (congrArg _ ?_)
    · dsimp only; omega
    · refine congrArg₂ (fun a d => ix3 a k d) (Fin.ext ?_) (Fin.ext ?_) <;> dsimp only <;> omega
  all_goals dsimp only; omega

variable (m : (ℓ : Loc nD τ sig) → Buf (Elt Ideal) ℓ) (c : Dev nD)

theorem index_0 : ∀ t : Fin cfg0.N, win0_0.index t = ![0, 0] := by decide +kernel
theorem index_1 : ∀ t : Fin cfg0.N, win0_1.index t = ![0, 0] := by decide +kernel
theorem index_2 : ∀ t : Fin cfg0.N, win0_2.index t = ![0, 0] := by decide +kernel
theorem index_3 : ∀ t : Fin cfg0.N, win0_3.index t = ![0, 0] := by decide +kernel
theorem index_4 : ∀ t : Fin cfg0.N, win0_4.index t = ![0, 0] := by decide +kernel
theorem index_5 : ∀ t : Fin cfg0.N, win0_5.index t = ![0, 0, 0] := by decide +kernel
theorem index_6 : ∀ t : Fin cfg0.N, win0_6.index t = ![0, 0, 0] := by decide +kernel
theorem index_7 : ∀ t : Fin cfg0.N, win0_7.index t = ![0, 0, 0] := by decide +kernel
theorem index_8 : ∀ t : Fin cfg0.N, win0_8.index t = ![0, 0] := by decide +kernel
theorem index_9 : ∀ t : Fin cfg0.N, win0_9.index t = ![0, 0] := by decide +kernel
theorem index_10 : ∀ t : Fin cfg0.N, win0_10.index t = ![0, 0] := by decide +kernel

theorem blk_0 (t : Fin cfg0.N) (A : Vec Ideal S32x512 .f32) : ((cfg0.win 0).blk t).view.read (Elt Ideal) A = A := by
  blk_ext! [index_0 t]

theorem blk_1 (t : Fin cfg0.N) (A : Vec Ideal S32x2048 .f32) : ((cfg0.win 1).blk t).view.read (Elt Ideal) A = A := by
  blk_ext! [index_1 t]

theorem blk_2 (t : Fin cfg0.N) (A : Vec Ideal S32x2048 .f32) : ((cfg0.win 2).blk t).view.read (Elt Ideal) A = A := by
  blk_ext! [index_2 t]

theorem blk_3 (t : Fin cfg0.N) (A : Vec Ideal S1x2048 .f32) : ((cfg0.win 3).blk t).view.read (Elt Ideal) A = A := by
  blk_ext! [index_3 t]

theorem blk_4 (t : Fin cfg0.N) (A : Vec Ideal S1x2048 .f32) : ((cfg0.win 4).blk t).view.read (Elt Ideal) A = A := by
  blk_ext! [index_4 t]

theorem blk_5 (t : Fin cfg0.N) (A : Vec Ideal S4x128x1024 .bf16) : ((cfg0.win 5).blk t).view.read (Elt Ideal) A = A := by
  blk_ext! [index_5 t]

theorem blk_6 (t : Fin cfg0.N) (A : Vec Ideal S4x512x128 .bf16) : ((cfg0.win 6).blk t).view.read (Elt Ideal) A = A := by
  blk_ext! [index_6 t]

theorem blk_7 (t : Fin cfg0.N) (A : Vec Ideal S4x512x128 .bf16) : ((cfg0.win 7).blk t).view.read (Elt Ideal) A = A := by
  blk_ext! [index_7 t]

set_option maxHeartbeats 1000000 in
theorem host_0 : V m c main_arg0 = m (c.tc.loc main_arg0) := by
  unfold V
  after_results_simp <;> rfl

theorem read_0 (t : Fin cfg0.N) : (iblk m c 0 t : Vec Ideal S32x512 .f32) = m (c.tc.loc main_arg0) :=
  (blk_0 t (V m c main_arg0)).trans (host_0 m c)

set_option maxHeartbeats 1000000 in
theorem host_1 : V m c main_arg1 = m (c.tc.loc main_arg1) := by
  unfold V
  after_results_simp <;> rfl

theorem read_1 (t : Fin cfg0.N) : (iblk m c 1 t : Vec Ideal S32x2048 .f32) = m (c.tc.loc main_arg1) :=
  (blk_1 t (V m c main_arg1)).trans (host_1 m c)

set_option maxHeartbeats 1000000 in
theorem host_2 : V m c main_arg2 = m (c.tc.loc main_arg2) := by
  unfold V
  after_results_simp <;> rfl

theorem read_2 (t : Fin cfg0.N) : (iblk m c 2 t : Vec Ideal S32x2048 .f32) = m (c.tc.loc main_arg2) :=
  (blk_2 t (V m c main_arg2)).trans (host_2 m c)

theorem read_3 (t : Fin cfg0.N) : (iblk m c 3 t : Vec Ideal S1x2048 .f32) = V m c main_v46 :=
  blk_3 t (V m c main_v46)

theorem read_4 (t : Fin cfg0.N) : (iblk m c 4 t : Vec Ideal S1x2048 .f32) = V m c main_v47 :=
  blk_4 t (V m c main_v47)

theorem read_5 (t : Fin cfg0.N) : (iblk m c 5 t : Vec Ideal S4x128x1024 .bf16) = blockIn2 (m (c.tc.loc main_arg5)) (m (c.tc.loc main_arg6)) :=
  (blk_5 t (V m c main_v25)).trans (host_b m c)

theorem read_6 (t : Fin cfg0.N) : (iblk m c 6 t : Vec Ideal S4x512x128 .bf16) = blockOut (m (c.tc.loc main_arg7)) :=
  (blk_6 t (V m c main_v35)).trans (host_cr m c)

theorem read_7 (t : Fin cfg0.N) : (iblk m c 7 t : Vec Ideal S4x512x128 .bf16) = blockOut (m (c.tc.loc main_arg8)) :=
  (blk_7 t (V m c main_v45)).trans (host_ci m c)

/-- The real part of the next state, of the kernel's arguments. -/
def stateRe : Fin 32 → Fin 32 → Fin 64 → EReal :=
  stRe (m (c.tc.loc main_arg0)) (m (c.tc.loc main_arg1)) (m (c.tc.loc main_arg2)) (m (c.tc.loc main_arg3)) (m (c.tc.loc main_arg4)) (m (c.tc.loc main_arg5))

/-- The imaginary part of the next state, of the kernel's arguments. -/
def stateIm : Fin 32 → Fin 32 → Fin 64 → EReal :=
  stIm (m (c.tc.loc main_arg0)) (m (c.tc.loc main_arg1)) (m (c.tc.loc main_arg2)) (m (c.tc.loc main_arg3)) (m (c.tc.loc main_arg4)) (m (c.tc.loc main_arg6))

theorem split64 (g : Fin 32) (n : Fin 64) : (⟨(at64 g n).val / 64, by omega⟩ : Fin 32) = g ∧ (⟨(at64 g n).val % 64, by omega⟩ : Fin 64) = n :=
  ⟨Fin.ext (by dsimp only; omega), Fin.ext (by dsimp only; omega)⟩

theorem point_re (t : Fin cfg0.N) (b : Fin 32) (g : Fin 32) (n : Fin 64) :
    newRe (iblk m c 0 t) (iblk m c 1 t) (iblk m c 2 t) (iblk m c 3 t) (iblk m c 4 t) (iblk m c 5 t) b (at64 g n) = stateRe m c b g n := by
  unfold newRe stateRe stRe
  rw [read_0, read_1, read_2, read_3, read_4, read_5, row_ar, row_ai, (split64 g n).1, (split64 g n).2]
  exact congrArg _ (buV_lo _ _ _ b g n)

theorem point_im (t : Fin cfg0.N) (b : Fin 32) (g : Fin 32) (n : Fin 64) :
    newIm (iblk m c 0 t) (iblk m c 1 t) (iblk m c 2 t) (iblk m c 3 t) (iblk m c 4 t) (iblk m c 5 t) b (at64 g n) = stateIm m c b g n := by
  unfold newIm stateIm stIm
  rw [read_0, read_1, read_2, read_3, read_4, read_5, row_ar, row_ai, (split64 g n).1, (split64 g n).2]
  exact congrArg _ (buV_hi _ _ _ b g n)

/-- The first result. -/
def wholeY : Mat 32 512 := fun i =>
  have h : (i 1).val < 512 := (i 1).isLt
  outY (stateRe m c (i 0) ⟨(i 1).val / 16, by omega⟩) (stateIm m c (i 0) ⟨(i 1).val / 16, by omega⟩) (m (c.tc.loc main_arg7)) (m (c.tc.loc main_arg8))
    ⟨(i 1).val / 16, by omega⟩ ⟨(i 1).val % 16, by omega⟩

/-- The second result. -/
def wholeRe : Mat 32 2048 := fun i =>
  have h : (i 1).val < 2048 := (i 1).isLt
  stateRe m c (i 0) ⟨(i 1).val / 64, by omega⟩ ⟨(i 1).val % 64, by omega⟩

/-- The third result. -/
def wholeIm : Mat 32 2048 := fun i =>
  have h : (i 1).val < 2048 := (i 1).isLt
  stateIm m c (i 0) ⟨(i 1).val / 64, by omega⟩ ⟨(i 1).val % 64, by omega⟩

theorem join64 (j : Fin 2048) : j = at64 ⟨j.val / 64, by omega⟩ ⟨j.val % 64, by omega⟩ := Fin.ext (by dsimp only; omega)

theorem y_of (P Q : Mat 32 2048) (cr ci : Cube 32 16 64) (R I : Fin 32 → Fin 64 → EReal) (b : Fin 32) (j : Fin 512)
    (hP : ∀ g n, P (ix2 b (at64 g n)) = R g n) (hQ : ∀ g n, Q (ix2 b (at64 g n)) = I g n) :
    yV (blockOut cr) (blockOut ci) P Q b j
      = outY (R ⟨j.val / 16, by omega⟩) (I ⟨j.val / 16, by omega⟩) cr ci ⟨j.val / 16, by omega⟩ ⟨j.val % 16, by omega⟩ := by
  have hj := j.isLt
  have eg : (⟨j.val / 128 * 8 + j.val % 128 / 16, by omega⟩ : Fin 32) = ⟨j.val / 16, by omega⟩ := Fin.ext (by dsimp only; omega)
  have ek : (⟨j.val % 128 % 16, by omega⟩ : Fin 16) = ⟨j.val % 16, by omega⟩ := Fin.ext (by dsimp only; omega)
  unfold yV outY
  refine congrArg₂ _ ((out_of P cr ⟨j.val / 128, by omega⟩ ⟨j.val % 128, by omega⟩ b).trans ?_)
    ((out_of Q ci ⟨j.val / 128, by omega⟩ ⟨j.val % 128, by omega⟩ b).trans ?_)
  · dsimp only
    rw [eg, ek]
    exact Finset.sum_congr rfl fun n _ => congrArg _ (hP _ n)
  · dsimp only
    rw [eg, ek]
    exact Finset.sum_congr rfl fun n _ => congrArg _ (hQ _ n)

theorem newY_eq (x0 : Vec Ideal S32x512 .f32) (x1 x2 : Vec Ideal S32x2048 .f32) (x3 x4 : Vec Ideal S1x2048 .f32) (x5 : Vec Ideal S4x128x1024 .bf16)
    (x6 x7 : Vec Ideal S4x512x128 .bf16) (cr ci : Cube 32 16 64) (R I : Fin 32 → Fin 64 → EReal) (b : Fin 32) (j : Fin 512) (h6 : x6 = blockOut cr) (h7 : x7 = blockOut ci)
    (hP : ∀ g n, newRe x0 x1 x2 x3 x4 x5 b (at64 g n) = R g n) (hQ : ∀ g n, newIm x0 x1 x2 x3 x4 x5 b (at64 g n) = I g n) :
    newY x0 x1 x2 x3 x4 x5 x6 x7 b j
      = outY (R ⟨j.val / 16, by omega⟩) (I ⟨j.val / 16, by omega⟩) cr ci ⟨j.val / 16, by omega⟩ ⟨j.val % 16, by omega⟩ := by
  subst h6 h7
  exact y_of _ _ cr ci R I b j hP hQ

theorem point_y (t : Fin cfg0.N) (b : Fin 32) (j : Fin 512) :
    newY (iblk m c 0 t) (iblk m c 1 t) (iblk m c 2 t) (iblk m c 3 t) (iblk m c 4 t) (iblk m c 5 t) (iblk m c 6 t) (iblk m c 7 t) b j = wholeY m c (ix2 b j) :=
  newY_eq _ _ _ _ _ _ _ _ _ _ (stateRe m c b) (stateIm m c b) b j (read_6 m c t) (read_7 m c t) (point_re m c t b) (point_im m c t b)

theorem point_re' (t : Fin cfg0.N) (b : Fin 32) (j : Fin 2048) :
    newRe (iblk m c 0 t) (iblk m c 1 t) (iblk m c 2 t) (iblk m c 3 t) (iblk m c 4 t) (iblk m c 5 t) b j = wholeRe m c (ix2 b j) :=
  (congrArg _ (join64 j)).trans (point_re m c t b _ _)

theorem point_im' (t : Fin cfg0.N) (b : Fin 32) (j : Fin 2048) :
    newIm (iblk m c 0 t) (iblk m c 1 t) (iblk m c 2 t) (iblk m c 3 t) (iblk m c 4 t) (iblk m c 5 t) b j = wholeIm m c (ix2 b j) :=
  (congrArg _ (join64 j)).trans (point_im m c t b _ _)

theorem arr_y : (dats m 0 c).arrAt 8 cfg0.N = wholeY m c := by
  refine (dats m 0 c).arrAt_eq_of_covers 8 _ (by decide +kernel) fun t hf y => ?_
  blk_simp
  rw [after0_8]
  have hy0 : (y 0).val < 32 := (y 0).isLt
  have hy1 : (y 1).val < 512 := (y 1).isLt
  have e0 : (((win0_8.blk t).view.emb y) 0).val = (y 0).val := by blk_simp [index_8 t]
  have e1 : (((win0_8.blk t).view.emb y) 1).val = (y 1).val := by blk_simp [index_8 t]
  have hy : y = ix2 (⟨(y 0).val, hy0⟩ : Fin 32) (⟨(y 1).val, hy1⟩ : Fin 512) := by funext a; fin_cases a <;> rfl
  have he : (win0_8.blk t).view.emb y = ix2 (⟨(y 0).val, hy0⟩ : Fin 32) (⟨(y 1).val, hy1⟩ : Fin 512) := by
    funext a; fin_cases a
    · exact Fin.ext e0
    · exact Fin.ext e1
  exact (congrArg _ hy).trans ((out_y m c t _ _).trans ((point_y m c t _ _).trans (congrArg _ he.symm)))

theorem arr_re : (dats m 0 c).arrAt 9 cfg0.N = wholeRe m c := by
  refine (dats m 0 c).arrAt_eq_of_covers 9 _ (by decide +kernel) fun t hf y => ?_
  blk_simp
  rw [after0_9]
  have hy0 : (y 0).val < 32 := (y 0).isLt
  have hy1 : (y 1).val < 2048 := (y 1).isLt
  have e0 : (((win0_9.blk t).view.emb y) 0).val = (y 0).val := by blk_simp [index_9 t]
  have e1 : (((win0_9.blk t).view.emb y) 1).val = (y 1).val := by blk_simp [index_9 t]
  have hy : y = ix2 (⟨(y 0).val, hy0⟩ : Fin 32) (⟨(y 1).val, hy1⟩ : Fin 2048) := by funext a; fin_cases a <;> rfl
  have he : (win0_9.blk t).view.emb y = ix2 (⟨(y 0).val, hy0⟩ : Fin 32) (⟨(y 1).val, hy1⟩ : Fin 2048) := by
    funext a; fin_cases a
    · exact Fin.ext e0
    · exact Fin.ext e1
  exact (congrArg _ hy).trans ((out_re m c t _ _).trans ((point_re' m c t _ _).trans (congrArg _ he.symm)))

theorem arr_im : (dats m 0 c).arrAt 10 cfg0.N = wholeIm m c := by
  refine (dats m 0 c).arrAt_eq_of_covers 10 _ (by decide +kernel) fun t hf y => ?_
  blk_simp
  rw [after0_10]
  have hy0 : (y 0).val < 32 := (y 0).isLt
  have hy1 : (y 1).val < 2048 := (y 1).isLt
  have e0 : (((win0_10.blk t).view.emb y) 0).val = (y 0).val := by blk_simp [index_10 t]
  have e1 : (((win0_10.blk t).view.emb y) 1).val = (y 1).val := by blk_simp [index_10 t]
  have hy : y = ix2 (⟨(y 0).val, hy0⟩ : Fin 32) (⟨(y 1).val, hy1⟩ : Fin 2048) := by funext a; fin_cases a <;> rfl
  have he : (win0_10.blk t).view.emb y = ix2 (⟨(y 0).val, hy0⟩ : Fin 32) (⟨(y 1).val, hy1⟩ : Fin 2048) := by
    funext a; fin_cases a
    · exact Fin.ext e0
    · exact Fin.ext e1
  exact (congrArg _ hy).trans ((out_im m c t _ _).trans ((point_im' m c t _ _).trans (congrArg _ he.symm)))

end Cert.Kernel5Ideal.Step
-- ==== Proof.StepRef.lean ====
module

public import proofs.«01_k».proof.Proof.Gen.Reference5Ideal.Run
public import proofs.«01_k».proof.Proof.StepSpec
public import Idealize.ShloMosaic.Lib.Pipeline.ValueKit.Point

@[expose] public section

/-!
# What the reference step computes
-/

set_option maxRecDepth 16384

noncomputable section

namespace Cert.Reference5Ideal.Step

open Cert.Reference5Ideal Cert.Reference5Ideal.Gen Idealize.ShloMosaic Idealize.ShloMosaic.TcCoe Idealize.SL.Sem Cert.StepSpec

section
variable (a0 : FVec Ideal S32x512 .f32) (a1 a2 : FVec Ideal S32x2048 .f32) (a3 a4 : FVec Ideal S32x64 .f32) (a5 a6 : FVec Ideal S32x64x16 .f32)
  (a7 a8 : FVec Ideal S32x16x64 .f32)

/-- The reference's real part of the next state. -/
def xr : FVec Ideal S32x32x64 .f32 :=
  addf (subf (mulf (broadcastInDim S32x32x64 ![0, 1, 2] bcast_S1x32x64_S32x32x64_0_1_2 (broadcastInDim S1x32x64 ![1, 2] bcast_S32x64_S1x32x64_1_2 a3)) (shapeCast _ a1 shapeCasts_S32x2048_S32x32x64)) (mulf (broadcastInDim S32x32x64 ![0, 1, 2] bcast_S1x32x64_S32x32x64_0_1_2 (broadcastInDim S1x32x64 ![1, 2] bcast_S32x64_S1x32x64_1_2 a4)) (shapeCast _ a2 shapeCasts_S32x2048_S32x32x64))) (transpose S32x32x64 [2, 0, 1] (Host.dotGeneral dot_S32x64x16_S32x32x16_S32x64x32_2_2_1_0_0_1 none a5 (shapeCast _ a0 shapeCasts_S32x512_S32x32x16)) transposes_S32x64x32_S32x32x64_2_0_1)

/-- The reference's imaginary part of the next state. -/
def xi : FVec Ideal S32x32x64 .f32 :=
  addf (addf (mulf (broadcastInDim S32x32x64 ![0, 1, 2] bcast_S1x32x64_S32x32x64_0_1_2 (broadcastInDim S1x32x64 ![1, 2] bcast_S32x64_S1x32x64_1_2 a3)) (shapeCast _ a2 shapeCasts_S32x2048_S32x32x64)) (mulf (broadcastInDim S32x32x64 ![0, 1, 2] bcast_S1x32x64_S32x32x64_0_1_2 (broadcastInDim S1x32x64 ![1, 2] bcast_S32x64_S1x32x64_1_2 a4)) (shapeCast _ a1 shapeCasts_S32x2048_S32x32x64))) (transpose S32x32x64 [2, 0, 1] (Host.dotGeneral dot_S32x64x16_S32x32x16_S32x64x32_2_2_1_0_0_1 none a6 (shapeCast _ a0 shapeCasts_S32x512_S32x32x16)) transposes_S32x64x32_S32x32x64_2_0_1)

/-- The reference's output. -/
def y : FVec Ideal S32x32x16 .f32 :=
  subf (transpose S32x32x16 [2, 0, 1] (Host.dotGeneral dot_S32x16x64_S32x32x64_S32x16x32_2_2_1_0_0_1 none a7 (xr a0 a1 a2 a3 a4 a5)) transposes_S32x16x32_S32x32x16_2_0_1) (transpose S32x32x16 [2, 0, 1] (Host.dotGeneral dot_S32x16x64_S32x32x64_S32x16x32_2_2_1_0_0_1 none a8 (xi a0 a1 a2 a3 a4 a6)) transposes_S32x16x32_S32x32x16_2_0_1)

theorem xr_apply (b g : Fin 32) (n : Fin 64) : xr a0 a1 a2 a3 a4 a5 (ix3 b g n) = stRe a0 a1 a2 a3 a4 a5 b g n := by
  unfold xr stRe inp
  pointwise

theorem xi_apply (b g : Fin 32) (n : Fin 64) : xi a0 a1 a2 a3 a4 a6 (ix3 b g n) = stIm a0 a1 a2 a3 a4 a6 b g n := by
  unfold xi stIm inp
  pointwise

theorem y_apply (b g : Fin 32) (k : Fin 16) :
    y a0 a1 a2 a3 a4 a5 a6 a7 a8 (ix3 b g k) = outY (stRe a0 a1 a2 a3 a4 a5 b g) (stIm a0 a1 a2 a3 a4 a6 b g) a7 a8 g k := by
  unfold y outY
  pointwise
  simp only [xr_apply, xi_apply]

theorem xr_flat (b : Fin 32) (j : Fin 2048) :
    shapeCast S32x2048 (xr a0 a1 a2 a3 a4 a5) shapeCasts_S32x32x64_S32x2048 (ix2 b j)
      = stRe a0 a1 a2 a3 a4 a5 b ⟨j.val / 64, by omega⟩ ⟨j.val % 64, by omega⟩ := by
  rw [← xr_apply]
  pointwise

theorem xi_flat (b : Fin 32) (j : Fin 2048) :
    shapeCast S32x2048 (xi a0 a1 a2 a3 a4 a6) shapeCasts_S32x32x64_S32x2048 (ix2 b j)
      = stIm a0 a1 a2 a3 a4 a6 b ⟨j.val / 64, by omega⟩ ⟨j.val % 64, by omega⟩ := by
  rw [← xi_apply]
  pointwise

theorem y_flat (b : Fin 32) (j : Fin 512) :
    shapeCast S32x512 (y a0 a1 a2 a3 a4 a5 a6 a7 a8) shapeCasts_S32x32x16_S32x512 (ix2 b j)
      = outY (stRe a0 a1 a2 a3 a4 a5 b ⟨j.val / 16, by omega⟩) (stIm a0 a1 a2 a3 a4 a6 b ⟨j.val / 16, by omega⟩) a7 a8 ⟨j.val / 16, by omega⟩ ⟨j.val % 16, by omega⟩ := by
  rw [← y_apply]
  pointwise

end

end Cert.Reference5Ideal.Step
-- ==== Proof.StepClaim.lean ====
module

public import proofs.«01_k».proof.Defs
public import proofs.«01_k».proof.Proof.Gen.Kernel5.Frame
public import proofs.«01_k».proof.Proof.StepArr
public import proofs.«01_k».proof.Proof.StepRef
public import Idealize.ShloMosaic.Lib.Quiescent

@[expose] public section

/-!
# The step's claims
-/

noncomputable section

namespace Cert.Proof.Step

open Idealize.ShloMosaic Idealize.ShloMosaic.TcCoe Idealize.SL.Sem

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

theorem preserves : Cert.preserves_Kernel5_Kernel5Ideal := trivial

theorem algebraic : Cert.algebraic_Kernel5Ideal_Reference5Ideal := by
  intro m ρ m' ρ' _ hagree
  refine ⟨fun c => Cert.Kernel5Ideal.Step.wholeY m c, fun c => Cert.Kernel5Ideal.Step.wholeRe m c,
    fun c => Cert.Kernel5Ideal.Step.wholeIm m c, ?_, ?_⟩
  · exact (θ_run Cert.Kernel5Ideal.defs _ _).mono
      (fun r h c => ⟨(h c).1.trans (Cert.Kernel5Ideal.Step.arr_y m c), (h c).2.1.trans (Cert.Kernel5Ideal.Step.arr_re m c),
        (h c).2.2.1.trans (Cert.Kernel5Ideal.Step.arr_im m c), (h c).2.2.2⟩)
      (Cert.Kernel5Ideal.Value.run_blocks (F := Ideal) m ρ)
  · refine (θ_run Cert.Reference5Ideal.defs _ _).mono
      (fun r h c => ⟨(h c).1.trans ?_, (h c).2.1.trans ?_, (h c).2.2.1.trans ?_, (h c).2.2.2⟩)
      (Cert.Reference5Ideal.Value.run (F := Ideal) m' ρ')
    · obtain ⟨e0, e1, e2, e3, e4, e5, e6, e7, e8⟩ := hagree c
      rw [e0, e1, e2, e3, e4, e5, e6, e7, e8]
      funext i
      refine (congrArg _ (show i = ix2 (i 0) (i 1) by funext a; fin_cases a <;> rfl)).trans
        ((Cert.Reference5Ideal.Step.y_flat _ _ _ _ _ _ _ _ _ (i 0) (i 1)).trans ?_)
      rfl
    · obtain ⟨e0, e1, e2, e3, e4, e5, e6, e7, e8⟩ := hagree c
      rw [e0, e1, e2, e3, e4, e5]
      funext i
      refine (congrArg _ (show i = ix2 (i 0) (i 1) by funext a; fin_cases a <;> rfl)).trans
        ((Cert.Reference5Ideal.Step.xr_flat _ _ _ _ _ _ (i 0) (i 1)).trans ?_)
      rfl
    · obtain ⟨e0, e1, e2, e3, e4, e5, e6, e7, e8⟩ := hagree c
      rw [e0, e1, e2, e3, e4, e6]
      funext i
      refine (congrArg _ (show i = ix2 (i 0) (i 1) by funext a; fin_cases a <;> rfl)).trans
        ((Cert.Reference5Ideal.Step.xi_flat _ _ _ _ _ _ (i 0) (i 1)).trans ?_)
      rfl

end Cert.Proof.Step
-- ==== Proof.ProjFrame.lean ====
module

public import proofs.«01_k».proof.Proof.Gen.Kernel2Ideal.Frame
public import proofs.«01_k».proof.Proof.Gen.Kernel2Ideal.Skeleton
public import proofs.«01_k».proof.Proof.Held
public import Idealize.ShloMosaic.Lib.Claim

@[expose] public section

/-!
# The projection's call runs

Every point stores its block of the seven results that have one for it; the first point stores the sample's three results as
well, which stay in their buffers until the last point writes them back.
-/

set_option maxRecDepth 16384

noncomputable section

namespace Cert.Kernel2Ideal.Proj

open Cert.Kernel2Ideal Cert.Kernel2Ideal.Gen Idealize.ShloMosaic Idealize.ShloMosaic.TcCoe Idealize.ShloMosaic.Tactic
open Idealize.SL Idealize.SL.RA Idealize.SL.BI Idealize.SL.ProofMode Idealize.SL.Sem
open scoped Idealize.SL.BI
open Idealize.SL.BI.BIBase Idealize.SL.BI.Laws
open Idealize.ShloMosaic.Pipeline (Dat BodyObligation)

variable {F : FTy → Type} [FloatOps F]

local notation "𝕄" => MT nD τ sig Unit (Elt F) ℕ (UR sig nD τ) ℕ

/-- All of a block of tokens. -/
abbrev rectX : Rect S512x1024 := Rect.unit (s := S512x1024) ![0, 0] S512x1024.size inb_S512x1024_S512x1024_0_0
/-- All of the norm's gains. -/
abbrev rectG : Rect S1x1024 := Rect.unit (s := S1x1024) ![0, 0] S1x1024.size inb_S1x1024_S1x1024_0_0
/-- All of the attention's weights. -/
abbrev rectW : Rect S1024x1536 := Rect.unit (s := S1024x1536) ![0, 0] S1024x1536.size inb_S1024x1536_S1024x1536_0_0
/-- All of the scan's weights. -/
abbrev rectU : Rect S1024x512 := Rect.unit (s := S1024x512) ![0, 0] S1024x512.size inb_S1024x512_S1024x512_0_0
/-- All of the forget gate's weights. -/
abbrev rectF : Rect S1024x128 := Rect.unit (s := S1024x128) ![0, 0] S1024x128.size inb_S1024x128_S1024x128_0_0
/-- All of the forget gate's biases. -/
abbrev rectB : Rect S1x8 := Rect.unit (s := S1x8) ![0, 0] S1x8.size inb_S1x8_S1x8_0_0
/-- All of a block of results. -/
abbrev rectO : Rect S512x512 := Rect.unit (s := S512x512) ![0, 0] S512x512.size inb_S512x512_S512x512_0_0
/-- All of a block of forget gates. -/
abbrev rectL : Rect S512x8 := Rect.unit (s := S512x8) ![0, 0] S512x8.size inb_S512x8_S512x8_0_0

/-- The queries of a point. -/
def outQ (i : grid0.Coords) (x0 x1 : Vec F S512x1024 .f32) (x2 : Vec F S1x1024 .f32) (x3 : Vec F S1024x1536 .bf16) : Vec F S512x512 .bf16 :=
  View.canon [⟨rectO, k0_pay6 i (View.ld x1 rectX) (View.ld x0 rectX) (View.ld x2 rectG) (View.ld x3 rectW)⟩]

/-- The keys of a point, as the attention reads them. -/
def outK (i : grid0.Coords) (x0 x1 : Vec F S512x1024 .f32) (x2 : Vec F S1x1024 .f32) (x3 : Vec F S1024x1536 .bf16) : Vec F S512x512 .bf16 :=
  View.canon [⟨rectO, k0_pay7 i (View.ld x1 rectX) (View.ld x0 rectX) (View.ld x2 rectG) (View.ld x3 rectW)⟩]

/-- The values of a point, as the attention reads them. -/
def outV (i : grid0.Coords) (x0 x1 : Vec F S512x1024 .f32) (x2 : Vec F S1x1024 .f32) (x3 : Vec F S1024x1536 .bf16) : Vec F S512x512 .bf16 :=
  View.canon [⟨rectO, k0_pay8 i (View.ld x1 rectX) (View.ld x0 rectX) (View.ld x2 rectG) (View.ld x3 rectW)⟩]

/-- The scan's inputs of a point. -/
def outU (i : grid0.Coords) (x0 x1 : Vec F S512x1024 .f32) (x2 : Vec F S1x1024 .f32) (x4 : Vec F S1024x512 .bf16) : Vec F S512x512 .f32 :=
  View.canon [⟨rectO, k0_pay9 i (View.ld x1 rectX) (View.ld x0 rectX) (View.ld x2 rectG) (View.ld x4 rectU)⟩]

/-- The keys of a point. -/
def cacheK (i : grid0.Coords) (x0 x1 : Vec F S512x1024 .f32) (x2 : Vec F S1x1024 .f32) (x3 : Vec F S1024x1536 .bf16) : Vec F S512x512 .f32 :=
  View.canon [⟨rectO, k0_pay4 i (View.ld x1 rectX) (View.ld x0 rectX) (View.ld x2 rectG) (View.ld x3 rectW)⟩]

/-- The values of a point. -/
def cacheV (i : grid0.Coords) (x0 x1 : Vec F S512x1024 .f32) (x2 : Vec F S1x1024 .f32) (x3 : Vec F S1024x1536 .bf16) : Vec F S512x512 .f32 :=
  View.canon [⟨rectO, k0_pay5 i (View.ld x1 rectX) (View.ld x0 rectX) (View.ld x2 rectG) (View.ld x3 rectW)⟩]

/-- The forget gates of a point. -/
def cacheF (i : grid0.Coords) (x0 x1 : Vec F S512x1024 .f32) (x2 : Vec F S1x1024 .f32) (x5 : Vec F S1024x128 .bf16) (x6 : Vec F S1x8 .f32) : Vec F S512x8 .f32 :=
  View.canon [⟨rectL, k0_pay1 (k0_pay2 i (View.ld x1 rectX) (View.ld x0 rectX) (View.ld x2 rectG)) (View.ld x5 rectF) (View.ld x6 rectB)⟩]

theorem coverB (p : Vec F S512x512 .bf16) (y : S512x512.Idx) : ∃ pc ∈ ([⟨rectO, p⟩] : List (View.Piece (Elt F) S512x512 .bf16)), y ∈ pc.1.set :=
  View.cover_of_tiled [⟨rectO, p⟩] S512x512.size (by rfl) y

theorem coverO (p : Vec F S512x512 .f32) (y : S512x512.Idx) : ∃ pc ∈ ([⟨rectO, p⟩] : List (View.Piece (Elt F) S512x512 .f32)), y ∈ pc.1.set :=
  View.cover_of_tiled [⟨rectO, p⟩] S512x512.size (by rfl) y

theorem coverL (p : Vec F S512x8 .f32) (y : S512x8.Idx) : ∃ pc ∈ ([⟨rectL, p⟩] : List (View.Piece (Elt F) S512x8 .f32)), y ∈ pc.1.set :=
  View.cover_of_tiled [⟨rectL, p⟩] S512x8.size (by rfl) y

set_option maxHeartbeats 2000000 in
/-- The body reads its seven inputs, stores its results, and stores the sample's where the condition holds. -/
theorem sound_kernel (c : Dev nD) (E : Set ℕ) (i : grid0.Coords)
    (a1 : Memref sig .tc .vmem S512x1024 .f32) (h1 : a1.IsWhole) (a2 : Memref sig .tc .vmem S512x1024 .f32) (h2 : a2.IsWhole) (a3 : Memref sig .tc .vmem S1x1024 .f32) (h3 : a3.IsWhole)
    (a4 : Memref sig .tc .vmem S1024x1536 .bf16) (h4 : a4.IsWhole) (a5 : Memref sig .tc .vmem S1024x512 .bf16) (h5 : a5.IsWhole) (a6 : Memref sig .tc .vmem S1024x128 .bf16) (h6 : a6.IsWhole)
    (a7 : Memref sig .tc .vmem S1x8 .f32) (h7 : a7.IsWhole) (a8 : Memref sig .tc .vmem S512x512 .bf16) (h8 : a8.IsWhole) (a9 : Memref sig .tc .vmem S512x512 .bf16) (h9 : a9.IsWhole)
    (a10 : Memref sig .tc .vmem S512x512 .bf16) (h10 : a10.IsWhole) (a11 : Memref sig .tc .vmem S512x512 .f32) (h11 : a11.IsWhole) (a12 : Memref sig .tc .vmem S512x512 .f32) (h12 : a12.IsWhole)
    (a13 : Memref sig .tc .vmem S512x512 .f32) (h13 : a13.IsWhole) (a14 : Memref sig .tc .vmem S512x8 .f32) (h14 : a14.IsWhole) (a15 : Memref sig .tc .vmem S512x512 .f32) (h15 : a15.IsWhole)
    (a16 : Memref sig .tc .vmem S512x512 .f32) (h16 : a16.IsWhole) (a17 : Memref sig .tc .vmem S512x8 .f32) (h17 : a17.IsWhole)
    (x0 x1 : Vec F S512x1024 .f32) (x2 : Vec F S1x1024 .f32) (x3 : Vec F S1024x1536 .bf16) (x4 : Vec F S1024x512 .bf16) (x5 : Vec F S1024x128 .bf16)
    (x6 : Vec F S1x8 .f32) (d14 d15 : Vec F S512x512 .f32) (d16 : Vec F S512x8 .f32)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ (∃ d, owns (c : Thread nD τ) a8 fullShare d) ∗ (∃ d, owns (c : Thread nD τ) a9 fullShare d)
        ∗ (∃ d, owns (c : Thread nD τ) a10 fullShare d) ∗ (∃ d, owns (c : Thread nD τ) a11 fullShare d) ∗ (∃ d, owns (c : Thread nD τ) a12 fullShare d)
        ∗ (∃ d, owns (c : Thread nD τ) a13 fullShare d) ∗ (∃ d, owns (c : Thread nD τ) a14 fullShare d) ∗ owns (c : Thread nD τ) a15 fullShare d14
        ∗ owns (c : Thread nD τ) a16 fullShare d15 ∗ owns (c : Thread nD τ) a17 fullShare d16
        ∗ (iprop(owns (c : Thread nD τ) a1 fullShare x0 ∗ owns (c : Thread nD τ) a2 fullShare x1 ∗ owns (c : Thread nD τ) a3 fullShare x2
          ∗ owns (c : Thread nD τ) a4 fullShare x3 ∗ owns (c : Thread nD τ) a5 fullShare x4 ∗ owns (c : Thread nD τ) a6 fullShare x5
          ∗ owns (c : Thread nD τ) a7 fullShare x6 ∗ owns (c : Thread nD τ) a8 fullShare (outQ i x0 x1 x2 x3) ∗ owns (c : Thread nD τ) a9 fullShare (outK i x0 x1 x2 x3)
          ∗ owns (c : Thread nD τ) a10 fullShare (outV i x0 x1 x2 x3) ∗ owns (c : Thread nD τ) a11 fullShare (outU i x0 x1 x2 x4) ∗ owns (c : Thread nD τ) a12 fullShare (cacheK i x0 x1 x2 x3)
          ∗ owns (c : Thread nD τ) a13 fullShare (cacheV i x0 x1 x2 x3) ∗ owns (c : Thread nD τ) a14 fullShare (cacheF i x0 x1 x2 x5 x6) ∗ owns (c : Thread nD τ) a15 fullShare (if k0_cond1 i = 1#1 then cacheK i x0 x1 x2 x3 else d14)
          ∗ owns (c : Thread nD τ) a16 fullShare (if k0_cond1 i = 1#1 then cacheV i x0 x1 x2 x3 else d15) ∗ owns (c : Thread nD τ) a17 fullShare (if k0_cond1 i = 1#1 then cacheF i x0 x1 x2 x5 x6 else d16)) -∗ K ⟨⟩))
      ⊢ wp frame (wpE (defs₀ (F := F)) Variants.none c none) E (cc0_proj i a1 h1 a2 h2 a3 h3 a4 h4 a5 h5 a6 h6 a7 h7 a8 h8 a9 h9 a10 h10 a11 h11 a12 h12 a13 h13 a14 h14 a15 h15 a16 h16 a17 h17) K := by
  simp only [cc0_proj_eq_skeleton]; unfold cc0_proj_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%e7, %f7, -, H7⟩, ⟨%e8, %f8, -, H8⟩, ⟨%e9, %f9, -, H9⟩, ⟨%e10, %f10, -, H10⟩, ⟨%e11, %f11, -, H11⟩, ⟨%e12, %f12, -, H12⟩, ⟨%e13, %f13, -, H13⟩, ⟨%f14, %hf14, H14⟩, ⟨%f15, %hf15, H15⟩, ⟨%f16, %hf16, H16⟩, Hk⟩
  subst hf0 hf1 hf2 hf3 hf4 hf5 hf6 hf14 hf15 hf16
  by_cases hc : k0_cond1 i = 1#1
  · rw [if_pos hc, if_pos hc, if_pos hc]
    sl_exec (disch := sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists _; isplitr
      swap; · iexact H7
      ipureintro
      exact View.read_writes_eq_canon _ _ _ (coverB _)
    isplitl [H8]
    · iexists _; isplitr
      swap; · iexact H8
      ipureintro
      exact View.read_writes_eq_canon _ _ _ (coverB _)
    isplitl [H9]
    · iexists _; isplitr
      swap; · iexact H9
      ipureintro
      exact View.read_writes_eq_canon _ _ _ (coverB _)
    isplitl [H10]
    · iexists _; isplitr
      swap; · iexact H10
      ipureintro
      exact View.read_writes_eq_canon _ _ _ (coverO _)
    isplitl [H11]
    · iexists _; isplitr
      swap; · iexact H11
      ipureintro
      exact View.read_writes_eq_canon _ _ _ (coverO _)
    isplitl [H12]
    · iexists _; isplitr
      swap; · iexact H12
      ipureintro
      exact View.read_writes_eq_canon _ _ _ (coverO _)
    isplitl [H13]
    · iexists _; isplitr
      swap; · iexact H13
      ipureintro
      exact View.read_writes_eq_canon _ _ _ (coverL _)
    isplitl [H14]
    · iexists _; isplitr
      swap; · iexact H14
      ipureintro
      exact View.read_writes_eq_canon _ _ _ (coverO _)
    isplitl [H15]
    · iexists _; isplitr
      swap; · iexact H15
      ipureintro
      exact View.read_writes_eq_canon _ _ _ (coverO _)
    iexists _; isplitr
    swap; · iexact H16
    ipureintro
    exact View.read_writes_eq_canon _ _ _ (coverL _)
  · rw [if_neg hc, if_neg hc, if_neg hc]
    sl_exec (disch := sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists _; isplitr
      swap; · iexact H7
      ipureintro
      exact View.read_writes_eq_canon _ _ _ (coverB _)
    isplitl [H8]
    · iexists _; isplitr
      swap; · iexact H8
      ipureintro
      exact View.read_writes_eq_canon _ _ _ (coverB _)
    isplitl [H9]
    · iexists _; isplitr
      swap; · iexact H9
      ipureintro
      exact View.read_writes_eq_canon _ _ _ (coverB _)
    isplitl [H10]
    · iexists _; isplitr
      swap; · iexact H10
      ipureintro
      exact View.read_writes_eq_canon _ _ _ (coverO _)
    isplitl [H11]
    · iexists _; isplitr
      swap; · iexact H11
      ipureintro
      exact View.read_writes_eq_canon _ _ _ (coverO _)
    isplitl [H12]
    · iexists _; isplitr
      swap; · iexact H12
      ipureintro
      exact View.read_writes_eq_canon _ _ _ (coverO _)
    isplitl [H13]
    · iexists _; isplitr
      swap; · iexact H13
      ipureintro
      exact View.read_writes_eq_canon _ _ _ (coverL _)
    isplitl [H14]
    · iexists f14; isplitr; · ipureintro; rfl
      iexact H14
    isplitl [H15]
    · iexists f15; isplitr; · ipureintro; rfl
      iexact H15
    iexists f16; isplitr; · ipureintro; rfl
    iexact H16

variable (m : (ℓ : Loc nD τ sig) → Buf (Elt F) ℓ) (ρ : Dev nD → PrngReg)

/-- The queries of a point `t`. -/
def outQAt (c : Dev nD) (t : Fin cfg0.N) : Vec F S512x512 .bf16 :=
  outQ (grid0.coords t) (iblk m c 0 t) (iblk m c 1 t) (iblk m c 2 t) (iblk m c 3 t)

/-- The keys of a point, as the attention reads them `t`. -/
def outKAt (c : Dev nD) (t : Fin cfg0.N) : Vec F S512x512 .bf16 :=
  outK (grid0.coords t) (iblk m c 0 t) (iblk m c 1 t) (iblk m c 2 t) (iblk m c 3 t)

/-- The values of a point, as the attention reads them `t`. -/
def outVAt (c : Dev nD) (t : Fin cfg0.N) : Vec F S512x512 .bf16 :=
  outV (grid0.coords t) (iblk m c 0 t) (iblk m c 1 t) (iblk m c 2 t) (iblk m c 3 t)

/-- The scan's inputs of a point `t`. -/
def outUAt (c : Dev nD) (t : Fin cfg0.N) : Vec F S512x512 .f32 :=
  outU (grid0.coords t) (iblk m c 0 t) (iblk m c 1 t) (iblk m c 2 t) (iblk m c 4 t)

/-- The keys of a point `t`. -/
def cacheKAt (c : Dev nD) (t : Fin cfg0.N) : Vec F S512x512 .f32 :=
  cacheK (grid0.coords t) (iblk m c 0 t) (iblk m c 1 t) (iblk m c 2 t) (iblk m c 3 t)

/-- The values of a point `t`. -/
def cacheVAt (c : Dev nD) (t : Fin cfg0.N) : Vec F S512x512 .f32 :=
  cacheV (grid0.coords t) (iblk m c 0 t) (iblk m c 1 t) (iblk m c 2 t) (iblk m c 3 t)

/-- The forget gates of a point `t`. -/
def cacheFAt (c : Dev nD) (t : Fin cfg0.N) : Vec F S512x8 .f32 :=
  cacheF (grid0.coords t) (iblk m c 0 t) (iblk m c 1 t) (iblk m c 2 t) (iblk m c 5 t) (iblk m c 6 t)

/-- The first point. -/
def first : Fin cfg0.N := ⟨0, by decide⟩

/-- The inputs stay as they are, the windows hold the point's results, the sample's those of the first point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outQAt m c t
    | ⟨8, _⟩ => outKAt m c t
    | ⟨9, _⟩ => outVAt m c t
    | ⟨10, _⟩ => outUAt m c t
    | ⟨11, _⟩ => cacheKAt m c t
    | ⟨12, _⟩ => cacheVAt m c t
    | ⟨13, _⟩ => cacheFAt m c t
    | ⟨14, _⟩ => cacheKAt m c first
    | ⟨15, _⟩ => cacheVAt m c first
    | ⟨16, _⟩ => cacheFAt m c first
    | ⟨_ + 17, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem cond_iff : ∀ t : Fin cfg0.N, k0_cond1 (grid0.coords t) = 1#1 ↔ t.val = 0 := by decide +kernel

theorem after_7 (c : Dev nD) (t : Fin cfg0.N) : (dats m 0 c).after 7 t = outQAt m c t := by dsimp only [dats]
theorem after_8 (c : Dev nD) (t : Fin cfg0.N) : (dats m 0 c).after 8 t = outKAt m c t := by dsimp only [dats]
theorem after_9 (c : Dev nD) (t : Fin cfg0.N) : (dats m 0 c).after 9 t = outVAt m c t := by dsimp only [dats]
theorem after_10 (c : Dev nD) (t : Fin cfg0.N) : (dats m 0 c).after 10 t = outUAt m c t := by dsimp only [dats]
theorem after_11 (c : Dev nD) (t : Fin cfg0.N) : (dats m 0 c).after 11 t = cacheKAt m c t := by dsimp only [dats]
theorem after_12 (c : Dev nD) (t : Fin cfg0.N) : (dats m 0 c).after 12 t = cacheVAt m c t := by dsimp only [dats]
theorem after_13 (c : Dev nD) (t : Fin cfg0.N) : (dats m 0 c).after 13 t = cacheFAt m c t := by dsimp only [dats]
theorem after_14 (c : Dev nD) (t : Fin cfg0.N) : (dats m 0 c).after 14 t = cacheKAt m c first := by dsimp only [dats]
theorem after_15 (c : Dev nD) (t : Fin cfg0.N) : (dats m 0 c).after 15 t = cacheVAt m c first := by dsimp only [dats]
theorem after_16 (c : Dev nD) (t : Fin cfg0.N) : (dats m 0 c).after 16 t = cacheFAt m c first := by dsimp only [dats]

theorem idle_14 : ∀ t : Fin cfg0.N, cfg0.idle 14 (cfg0.grid.coords t) = true → t.val ≠ 0 := by decide +kernel
theorem flush_14 : ∀ t : Fin cfg0.N, t.val + 1 < cfg0.N → (cfg0.win 14).flush t = false := by decide +kernel
theorem clip_14 : ∀ i a, (cfg0.win 14).clip i a = none := fun _ _ => rfl
theorem out_14 : (cfg0.win 14).isOut = true := rfl
theorem before_14 (c : Dev nD) (t : Fin cfg0.N) (ht : t.val ≠ 0) (d) : (dats m 0 c).before 14 t d = cacheKAt m c first :=
  Cert.Held.before_eq (dats m 0 c) 14 out_14 clip_14 idle_14 flush_14 (after_14 m c) t ht d
theorem leaves_14 (c : Dev nD) (t : Fin cfg0.N) : owns (c : Thread nD τ) (st0_14 t) fullShare (cacheKAt m c first) ⊢ ((dats m 0 c).leavesExact 14 t : sProp 𝕄) :=
  Cert.Held.leaves (dats m 0 c) 14 t (after_14 m c t) fun hi d => before_14 m c t (idle_14 t hi) d

theorem idle_15 : ∀ t : Fin cfg0.N, cfg0.idle 15 (cfg0.grid.coords t) = true → t.val ≠ 0 := by decide +kernel
theorem flush_15 : ∀ t : Fin cfg0.N, t.val + 1 < cfg0.N → (cfg0.win 15).flush t = false := by decide +kernel
theorem clip_15 : ∀ i a, (cfg0.win 15).clip i a = none := fun _ _ => rfl
theorem out_15 : (cfg0.win 15).isOut = true := rfl
theorem before_15 (c : Dev nD) (t : Fin cfg0.N) (ht : t.val ≠ 0) (d) : (dats m 0 c).before 15 t d = cacheVAt m c first :=
  Cert.Held.before_eq (dats m 0 c) 15 out_15 clip_15 idle_15 flush_15 (after_15 m c) t ht d
theorem leaves_15 (c : Dev nD) (t : Fin cfg0.N) : owns (c : Thread nD τ) (st0_15 t) fullShare (cacheVAt m c first) ⊢ ((dats m 0 c).leavesExact 15 t : sProp 𝕄) :=
  Cert.Held.leaves (dats m 0 c) 15 t (after_15 m c t) fun hi d => before_15 m c t (idle_15 t hi) d

theorem idle_16 : ∀ t : Fin cfg0.N, cfg0.idle 16 (cfg0.grid.coords t) = true → t.val ≠ 0 := by decide +kernel
theorem flush_16 : ∀ t : Fin cfg0.N, t.val + 1 < cfg0.N → (cfg0.win 16).flush t = false := by decide +kernel
theorem clip_16 : ∀ i a, (cfg0.win 16).clip i a = none := fun _ _ => rfl
theorem out_16 : (cfg0.win 16).isOut = true := rfl
theorem before_16 (c : Dev nD) (t : Fin cfg0.N) (ht : t.val ≠ 0) (d) : (dats m 0 c).before 16 t d = cacheFAt m c first :=
  Cert.Held.before_eq (dats m 0 c) 16 out_16 clip_16 idle_16 flush_16 (after_16 m c) t ht d
theorem leaves_16 (c : Dev nD) (t : Fin cfg0.N) : owns (c : Thread nD τ) (st0_16 t) fullShare (cacheFAt m c first) ⊢ ((dats m 0 c).leavesExact 16 t : sProp 𝕄) :=
  Cert.Held.leaves (dats m 0 c) 16 t (after_16 m c t) fun hi d => before_16 m c t (idle_16 t hi) d

/-- What a buffer the first point alone stores into holds after the body. -/
theorem held {α : Type} (t : Fin cfg0.N) {a b d : α} (h0 : t.val = 0 → a = b) (h1 : t.val ≠ 0 → d = b) :
    (if k0_cond1 (grid0.coords t) = 1#1 then a else d) = b := by
  by_cases h : t.val = 0
  · rw [if_pos ((cond_iff t).2 h), h0 h]
  · rw [if_neg (fun e => h ((cond_iff t).1 e)), h1 h]

set_option maxHeartbeats 2000000 in
/-- The body at any point. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d))
      ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d))
      ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d))
      ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d))
      ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d))
      ∗ (∃ d, owns (c : Thread nD τ) (st0_15 t) fullShare ((dats m 0 c).before 15 t d)) ∗ (∃ d, owns (c : Thread nD τ) (st0_16 t) fullShare ((dats m 0 c).before 16 t d)))
    ⊢ wp frame (wpE (defs₀ (F := F)) Variants.none c none) Set.univ (bodyAt0 t) (fun _ =>
      iprop((dats m 0 c).Φ t.castSucc ∗ (dats m 0 c).owesAt () t.castSucc
        ∗ owns (c : Thread nD τ) (st0_0 t) fullShare (iblk m c 0 t) ∗ owns (c : Thread nD τ) (st0_1 t) fullShare (iblk m c 1 t) ∗ owns (c : Thread nD τ) (st0_2 t) fullShare (iblk m c 2 t)
        ∗ owns (c : Thread nD τ) (st0_3 t) fullShare (iblk m c 3 t) ∗ owns (c : Thread nD τ) (st0_4 t) fullShare (iblk m c 4 t) ∗ owns (c : Thread nD τ) (st0_5 t) fullShare (iblk m c 5 t)
        ∗ owns (c : Thread nD τ) (st0_6 t) fullShare (iblk m c 6 t) ∗ owns (c : Thread nD τ) (st0_7 t) fullShare (outQAt m c t) ∗ owns (c : Thread nD τ) (st0_8 t) fullShare (outKAt m c t)
        ∗ owns (c : Thread nD τ) (st0_9 t) fullShare (outVAt m c t) ∗ owns (c : Thread nD τ) (st0_10 t) fullShare (outUAt m c t) ∗ owns (c : Thread nD τ) (st0_11 t) fullShare (cacheKAt m c t)
        ∗ owns (c : Thread nD τ) (st0_12 t) fullShare (cacheVAt m c t) ∗ owns (c : Thread nD τ) (st0_13 t) fullShare (cacheFAt m c t) ∗ owns (c : Thread nD τ) (st0_14 t) fullShare (cacheKAt m c first)
        ∗ owns (c : Thread nD τ) (st0_15 t) fullShare (cacheVAt m c first) ∗ owns (c : Thread nD τ) (st0_16 t) fullShare (cacheFAt m c first))) := by
  unfold bodyAt0
  simp only [before0_0_of m (dats m 0 c) (A_eq m c 0) (fun _ => rfl) t,
    before0_1_of m (dats m 0 c) (A_eq m c 1) (fun _ => rfl) t,
    before0_2_of m (dats m 0 c) (A_eq m c 2) (fun _ => rfl) t,
    before0_3_of m (dats m 0 c) (A_eq m c 3) (fun _ => rfl) t,
    before0_4_of m (dats m 0 c) (A_eq m c 4) (fun _ => rfl) t,
    before0_5_of m (dats m 0 c) (A_eq m c 5) (fun _ => rfl) t,
    before0_6_of m (dats m 0 c) (A_eq m c 6) (fun _ => rfl) t]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)
    ((dats m 0 c).before 14 t d14) ((dats m 0 c).before 15 t d15) ((dats m 0 c).before 16 t d16) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexact H14
  isplitl [H15]; · iexact H15
  isplitl [H16]; · iexact H16
  have he14 : (if k0_cond1 (grid0.coords t) = 1#1 then cacheKAt m c t else (dats m 0 c).before 14 t d14) = cacheKAt m c first :=
    held t (fun h => by rw [show t = first from Fin.ext h]) fun h => before_14 m c t h d14
  have he15 : (if k0_cond1 (grid0.coords t) = 1#1 then cacheVAt m c t else (dats m 0 c).before 15 t d15) = cacheVAt m c first :=
    held t (fun h => by rw [show t = first from Fin.ext h]) fun h => before_15 m c t h d15
  have he16 : (if k0_cond1 (grid0.coords t) = 1#1 then cacheFAt m c t else (dats m 0 c).before 16 t d16) = cacheFAt m c first :=
    held t (fun h => by rw [show t = first from Fin.ext h]) fun h => before_16 m c t h d16
  unfold cacheKAt at he14
  unfold cacheVAt at he15
  unfold cacheFAt at he16
  unfold outQAt outKAt outVAt outUAt cacheKAt cacheVAt cacheFAt
  rw [he14, he15, he16]
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem defs₀_row (t : Fin cfg0.N) : defs₀ (F := F) .tc cfg0.body (cfg0.bodyArgs t (cfg0.slots t)) = bodyAt0 t := by
  unfold defs₀; rw [Defs.onTc_tc]

attribute [local irreducible] outQAt outKAt outVAt outUAt cacheKAt cacheVAt cacheFAt in
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  iterate 16 refine sep_mono .rfl ?_
  refine Idealize.SL.BI.sep_mono (leaves_14 m c t) ?_
  refine Idealize.SL.BI.sep_mono (leaves_15 m c t) ?_
  exact leaves_16 m c t

set_option backward.isDefEq.respectTransparency.types false in
set_option maxHeartbeats 800000 in
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The call ends with its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- And with its results at what the points write back. -/
theorem run : θ_run defs (onTc (τ := τ) (main (F := F))) ⟨m, fun _ => 0, ρ⟩ (fun r =>
      (∀ c : Dev nD, r.2.mem ((c.tc : Thread nD τ).loc main_v0_0) = (dats m 0 c).arrAt 7 cfg0.N
        ∧ r.2.mem ((c.tc : Thread nD τ).loc main_v0_1) = (dats m 0 c).arrAt 8 cfg0.N
        ∧ r.2.mem ((c.tc : Thread nD τ).loc main_v0_2) = (dats m 0 c).arrAt 9 cfg0.N
        ∧ r.2.mem ((c.tc : Thread nD τ).loc main_v0_3) = (dats m 0 c).arrAt 10 cfg0.N
        ∧ r.2.mem ((c.tc : Thread nD τ).loc main_v0_4) = (dats m 0 c).arrAt 11 cfg0.N
        ∧ r.2.mem ((c.tc : Thread nD τ).loc main_v0_5) = (dats m 0 c).arrAt 12 cfg0.N
        ∧ r.2.mem ((c.tc : Thread nD τ).loc main_v0_6) = (dats m 0 c).arrAt 13 cfg0.N
        ∧ r.2.mem ((c.tc : Thread nD τ).loc main_v0_7) = (dats m 0 c).arrAt 14 cfg0.N
        ∧ r.2.mem ((c.tc : Thread nD τ).loc main_v0_8) = (dats m 0 c).arrAt 15 cfg0.N
        ∧ r.2.mem ((c.tc : Thread nD τ).loc main_v0_9) = (dats m 0 c).arrAt 16 cfg0.N)) :=
  (θ_run defs _ _).mono (fun _ h c => ⟨(h.1 c).1 7, (h.1 c).1 8, (h.1 c).1 9, (h.1 c).1 10, (h.1 c).1 11, (h.1 c).1 12, (h.1 c).1 13, (h.1 c).1 14, (h.1 c).1 15, (h.1 c).1 16⟩) (run_main m ρ)

end Cert.Kernel2Ideal.Proj
-- ==== Proof.ProjSpec.lean ====
module

public import proofs.«01_k».proof.Proof.MixSpec

@[expose] public section

/-!
# One token's projections

The functions of the tokens' normalised rows that both programs compute: the queries, keys and values, the scan's inputs and
the logarithm of the forget gate.
-/

noncomputable section

namespace Cert.ProjSpec

open Idealize.ShloMosaic Cert.MixSpec

/-- Column `j` of a row times a matrix. -/
def lin {n : ℕ} (h : Fin 1024 → EReal) (w : Mat 1024 n) (j : Fin n) : EReal := ∑ l, h l * w (ix2 l j)

/-- The logarithm of the logistic function. -/
def logSig (x : EReal) : EReal := min x 0 - Ideal.log1p (Ideal.exp (-max x (-x)))

/-- The logarithm of one more than a positive real number. -/
theorem log1p_ne_bot (r : ℝ) (h : 0 ≤ r) : Ideal.log1p (r : EReal) ≠ ⊥ := by
  have e : Ideal.log1p (r : EReal) = if 1 + r ≤ 0 then ⊥ else ((Real.log (1 + r) : ℝ) : EReal) := rfl
  rw [e, if_neg (by linarith)]
  exact EReal.coe_ne_bot _

theorem log1p_exp_neg_ne_bot (y : EReal) (hy : 0 ≤ y) : Ideal.log1p (Ideal.exp (-y)) ≠ ⊥ := by
  induction y with
  | bot => simp at hy
  | top => exact log1p_ne_bot 0 le_rfl
  | coe r => exact log1p_ne_bot (Real.exp (-r)) (Real.exp_pos _).le

/-- The soft maximum of a number and zero, negated, is the logarithm of the logistic function at the number's negation. -/
theorem neg_soft (x : EReal) : -(max (-x) 0 + Ideal.log1p (Ideal.exp (-max (-x) (-(-x))))) = logSig x := by
  have hy : (0 : EReal) ≤ max x (-x) := by
    rcases le_total 0 x with h | h
    · exact le_max_of_le_left h
    · exact le_max_of_le_right (by simpa using EReal.neg_le_neg_iff.2 h)
  have hb := log1p_exp_neg_ne_bot _ hy
  rw [neg_neg, max_comm (-x) x, EReal.neg_add (Or.inl (ne_of_gt (lt_of_lt_of_le EReal.bot_lt_zero (le_max_right _ _)))) (Or.inr hb)]
  unfold logSig
  congr 1
  rcases le_total 0 x with h | h
  · rw [min_eq_right h, max_eq_right (by simpa using EReal.neg_le_neg_iff.2 h), neg_zero]
  · rw [min_eq_left h, max_eq_left (by simpa using EReal.neg_le_neg_iff.2 h), neg_neg]

/-- The normalised row of token `T`: a token of the prompt, or one of the sample after them. -/
def rowN (xp : Mat 16384 1024) (xs : Mat 512 1024) (g : Mat 1 1024) (T : Fin 16896) : Fin 1024 → EReal :=
  rms (fun l => if h : T.val < 16384 then xp (ix2 ⟨T.val, h⟩ l) else xs (ix2 ⟨T.val - 16384, by omega⟩ l)) (fun l => g (ix2 0 l))

section
variable (N : Fin 16896 → Fin 1024 → EReal)

/-- A token's query, key and value, each 512 wide, side by side in the product. -/
def query (w : Mat 1024 1536) (T : Fin 16896) (j : Fin 512) : EReal := lin (N T) w ⟨j.val, by omega⟩ * Ideal.ofBits .f32 0x3E000000#32
def key (w : Mat 1024 1536) (T : Fin 16896) (j : Fin 512) : EReal := lin (N T) w ⟨512 + j.val, by omega⟩
def val (w : Mat 1024 1536) (T : Fin 16896) (j : Fin 512) : EReal := lin (N T) w ⟨1024 + j.val, by omega⟩

/-- A token's forget gate. -/
def gate (w : Mat 1024 128) (b : Mat 1 8) (T : Fin 16896) (j : Fin 8) : EReal := logSig (lin (N T) w ⟨j.val, by omega⟩ + b (ix2 0 j))

/-- The scan's inputs: eight sequences side by side, then the sample, and nothing beside it. -/
def scanIn (w : Mat 1024 512) (r : Fin 2560) (j : Fin 4096) : EReal :=
  if h : r.val < 2048 then lin (N ⟨j.val / 512 * 2048 + r.val, by omega⟩) w ⟨j.val % 512, by omega⟩
  else if h' : j.val < 512 then lin (N ⟨16384 + (r.val - 2048), by omega⟩) w ⟨j.val, h'⟩ else 0

end

/-- All rows, the prompt's rows, the sample's rows of a function of token and column. -/
def allRows {n : ℕ} (f : Fin 16896 → Fin n → EReal) : Mat 16896 n := fun i => f (i 0) (i 1)
def promptRows {n : ℕ} (f : Fin 16896 → Fin n → EReal) : Mat 16384 n := fun i => f ⟨(i 0).val, lt_trans (i 0).isLt (show 16384 < 16896 by decide)⟩ (i 1)
def sampleRows {n : ℕ} (f : Fin 16896 → Fin n → EReal) : Mat 512 n := fun i => f ⟨16384 + (i 0).val, Nat.add_lt_add_left (i 0).isLt 16384⟩ (i 1)

/-- Two arrays with the same entries are the same. -/
theorem mat_ext {a b : ℕ} {f g : Mat a b} (h : ∀ r j, f (ix2 r j) = g (ix2 r j)) : f = g := by
  funext i
  have e : i = ix2 (i 0) (i 1) := by funext x; fin_cases x <;> rfl
  rw [e]
  exact h (i 0) (i 1)

end Cert.ProjSpec
-- ==== Proof.ProjBlk.lean ====
module

public import proofs.«01_k».proof.Proof.ProjFrame
public import proofs.«01_k».proof.Proof.ProjSpec
public import Idealize.ShloMosaic.Lib.Pipeline.ValueKit.Partial
public import Idealize.ShloMosaic.Lib.Pipeline.ValueKit.Geometry
public import Idealize.ShloMosaic.Lib.Pipeline.ValueKit.Point

@[expose] public section

/-!
# What a point of the projections' call writes

Point `0` of the grid takes the sample's block, point `t + 1` block `t` of the prompt.
-/

set_option maxRecDepth 16384

noncomputable section

namespace Cert.Kernel2Ideal.Proj

open Cert.Kernel2Ideal Cert.Kernel2Ideal.Gen Idealize.ShloMosaic Idealize.ShloMosaic.TcCoe Idealize.SL.Sem Cert.MixSpec Cert.ProjSpec

theorem pick_eq (t : Fin cfg0.N) {α : Type} (a b : α) :
    Scalar.select (Scalar.cmpi CmpIPredicate.eq (BitVec.ofNat 32 ((grid0.coords t) 0).val) 0#32) a b = if t.val = 0 then a else b := by
  have h : ∀ t : Fin cfg0.N, Scalar.cmpi CmpIPredicate.eq (BitVec.ofNat 32 ((grid0.coords t) 0).val) 0#32 = if t.val = 0 then 1#1 else 0#1 := by decide +kernel
  rw [h t]
  by_cases h0 : t.val = 0
  · simp [Scalar.select, h0]
  · simp [Scalar.select, h0]

theorem ldX (x : Vec Ideal S512x1024 .f32) : View.ld x rectX = x := View.ld_unit_zero (by decide) _ x
theorem ldG (x : Vec Ideal S1x1024 .f32) : View.ld x rectG = x := View.ld_unit_zero (by decide) _ x
theorem ldW (x : Vec Ideal S1024x1536 .bf16) : View.ld x rectW = x := View.ld_unit_zero (by decide) _ x
theorem ldU (x : Vec Ideal S1024x512 .bf16) : View.ld x rectU = x := View.ld_unit_zero (by decide) _ x
theorem ldF (x : Vec Ideal S1024x128 .bf16) : View.ld x rectF = x := View.ld_unit_zero (by decide) _ x
theorem ldB (x : Vec Ideal S1x8 .f32) : View.ld x rectB = x := View.ld_unit_zero (by decide) _ x

section
variable (i : grid0.Coords) (x0 x1 : Vec Ideal S512x1024 .f32) (x2 : Vec Ideal S1x1024 .f32) (x3 : Vec Ideal S1024x1536 .bf16)
  (x4 : Vec Ideal S1024x512 .bf16) (x5 : Vec Ideal S1024x128 .bf16) (x6 : Vec Ideal S1x8 .f32)

/-- Row `r` of what a point normalises. -/
def pointN (r : Fin 512) : Fin 1024 → EReal :=
  rms (fun l => Scalar.select (Scalar.cmpi CmpIPredicate.eq (BitVec.ofNat 32 (i 0).val) 0#32) (x1 (ix2 r l)) (x0 (ix2 r l))) (fun l => x2 (ix2 0 l))

theorem pay2_apply (r : Fin 512) (j : Fin 1024) : k0_pay2 i x1 x0 x2 (ix2 r j) = pointN i x0 x1 x2 r j := by
  unfold k0_pay2 pointN rms
  pointwise

theorem pay3_apply (r : Fin 512) (j : Fin 1536) : k0_pay3 i x1 x0 x2 x3 (ix2 r j) = lin (pointN i x0 x1 x2 r) x3 j := by
  unfold k0_pay3 lin
  simp only [← pay2_apply]
  pointwise

theorem pay9_apply (r : Fin 512) (j : Fin 512) : k0_pay9 i x1 x0 x2 x4 (ix2 r j) = lin (pointN i x0 x1 x2 r) x4 j := by
  unfold k0_pay9 lin
  simp only [← pay2_apply]
  pointwise

theorem pay1_apply (h : FVec Ideal S512x1024 .bf16) (r : Fin 512) (j : Fin 8) :
    k0_pay1 h x5 x6 (ix2 r j) = logSig (lin (fun l => h (ix2 r l)) x5 ⟨j.val, by omega⟩ + x6 (ix2 0 j)) := by
  unfold k0_pay1 lin logSig
  pointwise
  rw [zero_sub]
  rfl

theorem outQ_apply (r j : Fin 512) :
    outQ i x0 x1 x2 x3 (ix2 r j) = lin (pointN i x0 x1 x2 r) x3 ⟨j.val, by omega⟩ * Ideal.ofBits .f32 0x3E000000#32 := by
  unfold outQ k0_pay6
  rw [View.canon_unit_zero (by decide), ldX, ldX, ldG, ldW, ← pay3_apply]
  pointwise

theorem outK_apply (r j : Fin 512) : outK i x0 x1 x2 x3 (ix2 r j) = lin (pointN i x0 x1 x2 r) x3 ⟨512 + j.val, by omega⟩ := by
  unfold outK k0_pay7 k0_pay4
  rw [View.canon_unit_zero (by decide), ldX, ldX, ldG, ldW, ← pay3_apply]
  pointwise

theorem outV_apply (r j : Fin 512) : outV i x0 x1 x2 x3 (ix2 r j) = lin (pointN i x0 x1 x2 r) x3 ⟨1024 + j.val, by omega⟩ := by
  unfold outV k0_pay8 k0_pay5
  rw [View.canon_unit_zero (by decide), ldX, ldX, ldG, ldW, ← pay3_apply]
  pointwise

theorem cacheK_apply (r j : Fin 512) : cacheK i x0 x1 x2 x3 (ix2 r j) = lin (pointN i x0 x1 x2 r) x3 ⟨512 + j.val, by omega⟩ := by
  unfold cacheK k0_pay4
  rw [View.canon_unit_zero (by decide), ldX, ldX, ldG, ldW, ← pay3_apply]
  pointwise

theorem cacheV_apply (r j : Fin 512) : cacheV i x0 x1 x2 x3 (ix2 r j) = lin (pointN i x0 x1 x2 r) x3 ⟨1024 + j.val, by omega⟩ := by
  unfold cacheV k0_pay5
  rw [View.canon_unit_zero (by decide), ldX, ldX, ldG, ldW, ← pay3_apply]
  pointwise

theorem outU_apply (r j : Fin 512) : outU i x0 x1 x2 x4 (ix2 r j) = lin (pointN i x0 x1 x2 r) x4 j := by
  unfold outU
  rw [View.canon_unit_zero (by decide), ldX, ldX, ldG, ldU, ← pay9_apply]

theorem cacheF_apply (r : Fin 512) (j : Fin 8) :
    cacheF i x0 x1 x2 x5 x6 (ix2 r j) = logSig (lin (pointN i x0 x1 x2 r) x5 ⟨j.val, by omega⟩ + x6 (ix2 0 j)) := by
  unfold cacheF
  rw [View.canon_unit_zero (by decide), ldX, ldX, ldG, ldF, ldB, ← funext (pay2_apply i x0 x1 x2 r), ← pay1_apply]

end

variable (m : (ℓ : Loc nD τ sig) → Buf (Elt Ideal) ℓ) (c : Dev nD)

theorem index_0 : ∀ t : Fin cfg0.N, win0_0.index t = ![t.val - 1, 0] := by decide +kernel

theorem index_1 : ∀ t : Fin cfg0.N, win0_1.index t = ![0, 0] := by decide +kernel
theorem index_2 : ∀ t : Fin cfg0.N, win0_2.index t = ![0, 0] := by decide +kernel
theorem index_3 : ∀ t : Fin cfg0.N, win0_3.index t = ![0, 0] := by decide +kernel
theorem index_4 : ∀ t : Fin cfg0.N, win0_4.index t = ![0, 0] := by decide +kernel
theorem index_5 : ∀ t : Fin cfg0.N, win0_5.index t = ![0, 0] := by decide +kernel
theorem index_6 : ∀ t : Fin cfg0.N, win0_6.index t = ![0, 0] := by decide +kernel
theorem index_7 : ∀ t : Fin cfg0.N, win0_7.index t = ![(t.val + 32) % 33, 0] := by decide +kernel
theorem index_8 : ∀ t : Fin cfg0.N, win0_8.index t = ![(t.val + 32) % 33, 0] := by decide +kernel
theorem index_9 : ∀ t : Fin cfg0.N, win0_9.index t = ![(t.val + 32) % 33, 0] := by decide +kernel
theorem index_10 : ∀ t : Fin cfg0.N, win0_10.index t = ![if t.val = 0 then 4 else (t.val - 1) % 4, (t.val - 1) / 4] := by decide +kernel
theorem index_11 : ∀ t : Fin cfg0.N, win0_11.index t = ![t.val - 1, 0] := by decide +kernel
theorem index_12 : ∀ t : Fin cfg0.N, win0_12.index t = ![t.val - 1, 0] := by decide +kernel
theorem index_13 : ∀ t : Fin cfg0.N, win0_13.index t = ![t.val - 1, 0] := by decide +kernel
theorem index_14 : ∀ t : Fin cfg0.N, win0_14.index t = ![0, 0] := by decide +kernel
theorem index_15 : ∀ t : Fin cfg0.N, win0_15.index t = ![0, 0] := by decide +kernel
theorem index_16 : ∀ t : Fin cfg0.N, win0_16.index t = ![0, 0] := by decide +kernel

theorem lt_N (t : Fin cfg0.N) : t.val < 33 := lt_of_lt_of_eq t.isLt N_0

theorem read_0 (t : Fin cfg0.N) (r : Fin 512) (l : Fin 1024) :
    (iblk m c 0 t : Vec Ideal S512x1024 .f32) (ix2 r l) = m (c.tc.loc main_arg0) (ix2 ⟨(t.val - 1) * 512 + r.val, by have := lt_N t; omega⟩ l) := by
  have h := lt_N t
  blk_ext! [iblk, V, index_0 t]

theorem read_1 (t : Fin cfg0.N) : (iblk m c 1 t : Vec Ideal S512x1024 .f32) = m (c.tc.loc main_arg1) := by
  blk_ext! [iblk, V, index_1 t]
theorem read_2 (t : Fin cfg0.N) : (iblk m c 2 t : Vec Ideal S1x1024 .f32) = m (c.tc.loc main_arg2) := by
  blk_ext! [iblk, V, index_2 t]
theorem read_3 (t : Fin cfg0.N) : (iblk m c 3 t : Vec Ideal S1024x1536 .bf16) = m (c.tc.loc main_arg3) := by
  blk_ext! [iblk, V, index_3 t]
theorem read_4 (t : Fin cfg0.N) : (iblk m c 4 t : Vec Ideal S1024x512 .bf16) = m (c.tc.loc main_arg4) := by
  blk_ext! [iblk, V, index_4 t]
theorem read_5 (t : Fin cfg0.N) : (iblk m c 5 t : Vec Ideal S1024x128 .bf16) = m (c.tc.loc main_arg5) := by
  blk_ext! [iblk, V, index_5 t]
theorem read_6 (t : Fin cfg0.N) : (iblk m c 6 t : Vec Ideal S1x8 .f32) = m (c.tc.loc main_arg6) := by
  blk_ext! [iblk, V, index_6 t]

/-- The normalised rows of the kernel's arguments. -/
def rows : Fin 16896 → Fin 1024 → EReal := rowN (m (c.tc.loc main_arg0)) (m (c.tc.loc main_arg1)) (m (c.tc.loc main_arg2))

theorem point_eq (t : Fin cfg0.N) (r : Fin 512) (T : Fin 16896) (hT : T.val = (t.val + 32) % 33 * 512 + r.val) :
    pointN (grid0.coords t) (iblk m c 0 t) (iblk m c 1 t) (iblk m c 2 t) r = rows m c T := by
  have h := lt_N t
  have hr := r.isLt
  obtain ⟨T, hT'⟩ := T
  obtain rfl : T = (t.val + 32) % 33 * 512 + r.val := hT
  unfold pointN rows rowN
  simp only [pick_eq, read_0, read_1, read_2]
  refine congrArg (fun p => rms p _) (funext fun l => ?_)
  by_cases h0 : t.val = 0
  · rw [dif_neg (by omega), if_pos h0]
    exact congrArg _ (congrArg₂ _ (Fin.ext (by dsimp only; omega)) rfl)
  · rw [dif_pos (by omega), if_neg h0]
    exact congrArg _ (congrArg₂ _ (Fin.ext (by dsimp only; omega)) rfl)

section
variable (t : Fin cfg0.N) (r : Fin 512) (T : Fin 16896) (hT : T.val = (t.val + 32) % 33 * 512 + r.val)
include hT

theorem outQAt_apply (j : Fin 512) : outQAt m c t (ix2 r j) = query (rows m c) (m (c.tc.loc main_arg3)) T j := by
  unfold outQAt
  rw [outQ_apply, point_eq m c t r T hT, read_3]
  rfl

theorem outKAt_apply (j : Fin 512) : outKAt m c t (ix2 r j) = key (rows m c) (m (c.tc.loc main_arg3)) T j := by
  unfold outKAt
  rw [outK_apply, point_eq m c t r T hT, read_3]
  rfl

theorem outVAt_apply (j : Fin 512) : outVAt m c t (ix2 r j) = val (rows m c) (m (c.tc.loc main_arg3)) T j := by
  unfold outVAt
  rw [outV_apply, point_eq m c t r T hT, read_3]
  rfl

theorem cacheKAt_apply (j : Fin 512) : cacheKAt m c t (ix2 r j) = key (rows m c) (m (c.tc.loc main_arg3)) T j := by
  unfold cacheKAt
  rw [cacheK_apply, point_eq m c t r T hT, read_3]
  rfl

theorem cacheVAt_apply (j : Fin 512) : cacheVAt m c t (ix2 r j) = val (rows m c) (m (c.tc.loc main_arg3)) T j := by
  unfold cacheVAt
  rw [cacheV_apply, point_eq m c t r T hT, read_3]
  rfl

theorem outUAt_apply (j : Fin 512) : outUAt m c t (ix2 r j) = lin (rows m c T) (m (c.tc.loc main_arg4)) j := by
  unfold outUAt
  rw [outU_apply, point_eq m c t r T hT, read_4]

theorem cacheFAt_apply (j : Fin 8) : cacheFAt m c t (ix2 r j) = gate (rows m c) (m (c.tc.loc main_arg5)) (m (c.tc.loc main_arg6)) T j := by
  unfold cacheFAt
  rw [cacheF_apply, point_eq m c t r T hT, read_5, read_6]
  rfl

end

theorem flush_p11 : ∀ t : Fin cfg0.N, (cfg0.win 11).flush t = true → t.val ≠ 0 := by decide +kernel
theorem flush_p12 : ∀ t : Fin cfg0.N, (cfg0.win 12).flush t = true → t.val ≠ 0 := by decide +kernel
theorem flush_p13 : ∀ t : Fin cfg0.N, (cfg0.win 13).flush t = true → t.val ≠ 0 := by decide +kernel

theorem arr_7 : (dats m 0 c).arrAt 7 cfg0.N = allRows (query (rows m c) (m (c.tc.loc main_arg3))) := by
  refine (dats m 0 c).arrAt_eq_of_covers 7 _ (by decide +kernel) fun t hf y => ?_
  blk_simp
  rw [after_7]
  have htN := lt_N t
  have hy0 : (y 0).val < 512 := (y 0).isLt
  have hy1 : (y 1).val < 512 := (y 1).isLt
  have e0 : (((win0_7.blk t).view.emb y) 0).val = (t.val + 32) % 33 * 512 + (y 0).val := by blk_simp [index_7 t]
  have e1 : (((win0_7.blk t).view.emb y) 1).val = (y 1).val := by blk_simp [index_7 t]
  have hy : y = ix2 (⟨(y 0).val, hy0⟩ : Fin 512) (⟨(y 1).val, hy1⟩ : Fin 512) := by funext a; fin_cases a <;> rfl
  unfold allRows
  rw [show ((win0_7.blk t).view.emb y) 1 = (⟨(y 1).val, hy1⟩ : Fin 512) from Fin.ext e1,
    ← outQAt_apply m c t ⟨(y 0).val, hy0⟩ _ (e0) ⟨(y 1).val, hy1⟩]
  exact congrArg _ hy

theorem arr_8 : (dats m 0 c).arrAt 8 cfg0.N = allRows (key (rows m c) (m (c.tc.loc main_arg3))) := by
  refine (dats m 0 c).arrAt_eq_of_covers 8 _ (by decide +kernel) fun t hf y => ?_
  blk_simp
  rw [after_8]
  have htN := lt_N t
  have hy0 : (y 0).val < 512 := (y 0).isLt
  have hy1 : (y 1).val < 512 := (y 1).isLt
  have e0 : (((win0_8.blk t).view.emb y) 0).val = (t.val + 32) % 33 * 512 + (y 0).val := by blk_simp [index_8 t]
  have e1 : (((win0_8.blk t).view.emb y) 1).val = (y 1).val := by blk_simp [index_8 t]
  have hy : y = ix2 (⟨(y 0).val, hy0⟩ : Fin 512) (⟨(y 1).val, hy1⟩ : Fin 512) := by funext a; fin_cases a <;> rfl
  unfold allRows
  rw [show ((win0_8.blk t).view.emb y) 1 = (⟨(y 1).val, hy1⟩ : Fin 512) from Fin.ext e1,
    ← outKAt_apply m c t ⟨(y 0).val, hy0⟩ _ (e0) ⟨(y 1).val, hy1⟩]
  exact congrArg _ hy

theorem arr_9 : (dats m 0 c).arrAt 9 cfg0.N = allRows (val (rows m c) (m (c.tc.loc main_arg3))) := by
  refine (dats m 0 c).arrAt_eq_of_covers 9 _ (by decide +kernel) fun t hf y => ?_
  blk_simp
  rw [after_9]
  have htN := lt_N t
  have hy0 : (y 0).val < 512 := (y 0).isLt
  have hy1 : (y 1).val < 512 := (y 1).isLt
  have e0 : (((win0_9.blk t).view.emb y) 0).val = (t.val + 32) % 33 * 512 + (y 0).val := by blk_simp [index_9 t]
  have e1 : (((win0_9.blk t).view.emb y) 1).val = (y 1).val := by blk_simp [index_9 t]
  have hy : y = ix2 (⟨(y 0).val, hy0⟩ : Fin 512) (⟨(y 1).val, hy1⟩ : Fin 512) := by funext a; fin_cases a <;> rfl
  unfold allRows
  rw [show ((win0_9.blk t).view.emb y) 1 = (⟨(y 1).val, hy1⟩ : Fin 512) from Fin.ext e1,
    ← outVAt_apply m c t ⟨(y 0).val, hy0⟩ _ (e0) ⟨(y 1).val, hy1⟩]
  exact congrArg _ hy

theorem arr_11 : (dats m 0 c).arrAt 11 cfg0.N = promptRows (key (rows m c) (m (c.tc.loc main_arg3))) := by
  refine (dats m 0 c).arrAt_eq_of_covers 11 _ (by decide +kernel) fun t hf y => ?_
  blk_simp
  rw [after_11]
  have htN := lt_N t
  have ht := flush_p11 t hf
  have hy0 : (y 0).val < 512 := (y 0).isLt
  have hy1 : (y 1).val < 512 := (y 1).isLt
  have e0 : (((win0_11.blk t).view.emb y) 0).val = (t.val - 1) * 512 + (y 0).val := by blk_simp [index_11 t]
  have e1 : (((win0_11.blk t).view.emb y) 1).val = (y 1).val := by blk_simp [index_11 t]
  have hy : y = ix2 (⟨(y 0).val, hy0⟩ : Fin 512) (⟨(y 1).val, hy1⟩ : Fin 512) := by funext a; fin_cases a <;> rfl
  unfold promptRows
  rw [show ((win0_11.blk t).view.emb y) 1 = (⟨(y 1).val, hy1⟩ : Fin 512) from Fin.ext e1,
    ← cacheKAt_apply m c t ⟨(y 0).val, hy0⟩ _ (by dsimp only; rw [e0]; omega) ⟨(y 1).val, hy1⟩]
  exact congrArg _ hy

theorem arr_12 : (dats m 0 c).arrAt 12 cfg0.N = promptRows (val (rows m c) (m (c.tc.loc main_arg3))) := by
  refine (dats m 0 c).arrAt_eq_of_covers 12 _ (by decide +kernel) fun t hf y => ?_
  blk_simp
  rw [after_12]
  have htN := lt_N t
  have ht := flush_p12 t hf
  have hy0 : (y 0).val < 512 := (y 0).isLt
  have hy1 : (y 1).val < 512 := (y 1).isLt
  have e0 : (((win0_12.blk t).view.emb y) 0).val = (t.val - 1) * 512 + (y 0).val := by blk_simp [index_12 t]
  have e1 : (((win0_12.blk t).view.emb y) 1).val = (y 1).val := by blk_simp [index_12 t]
  have hy : y = ix2 (⟨(y 0).val, hy0⟩ : Fin 512) (⟨(y 1).val, hy1⟩ : Fin 512) := by funext a; fin_cases a <;> rfl
  unfold promptRows
  rw [show ((win0_12.blk t).view.emb y) 1 = (⟨(y 1).val, hy1⟩ : Fin 512) from Fin.ext e1,
    ← cacheVAt_apply m c t ⟨(y 0).val, hy0⟩ _ (by dsimp only; rw [e0]; omega) ⟨(y 1).val, hy1⟩]
  exact congrArg _ hy

theorem arr_13 : (dats m 0 c).arrAt 13 cfg0.N = promptRows (gate (rows m c) (m (c.tc.loc main_arg5)) (m (c.tc.loc main_arg6))) := by
  refine (dats m 0 c).arrAt_eq_of_covers 13 _ (by decide +kernel) fun t hf y => ?_
  blk_simp
  rw [after_13]
  have htN := lt_N t
  have ht := flush_p13 t hf
  have hy0 : (y 0).val < 512 := (y 0).isLt
  have hy1 : (y 1).val < 8 := (y 1).isLt
  have e0 : (((win0_13.blk t).view.emb y) 0).val = (t.val - 1) * 512 + (y 0).val := by blk_simp [index_13 t]
  have e1 : (((win0_13.blk t).view.emb y) 1).val = (y 1).val := by blk_simp [index_13 t]
  have hy : y = ix2 (⟨(y 0).val, hy0⟩ : Fin 512) (⟨(y 1).val, hy1⟩ : Fin 8) := by funext a; fin_cases a <;> rfl
  unfold promptRows
  rw [show ((win0_13.blk t).view.emb y) 1 = (⟨(y 1).val, hy1⟩ : Fin 8) from Fin.ext e1,
    ← cacheFAt_apply m c t ⟨(y 0).val, hy0⟩ _ (by dsimp only; rw [e0]; omega) ⟨(y 1).val, hy1⟩]
  exact congrArg _ hy

theorem arr_14 : (dats m 0 c).arrAt 14 cfg0.N = sampleRows (key (rows m c) (m (c.tc.loc main_arg3))) := by
  refine (dats m 0 c).arrAt_eq_of_covers 14 _ (by decide +kernel) fun t hf y => ?_
  blk_simp
  rw [after_14]
  have htN := lt_N t
  have hy0 : (y 0).val < 512 := (y 0).isLt
  have hy1 : (y 1).val < 512 := (y 1).isLt
  have e0 : (((win0_14.blk t).view.emb y) 0).val = (y 0).val := by blk_simp [index_14 t]
  have e1 : (((win0_14.blk t).view.emb y) 1).val = (y 1).val := by blk_simp [index_14 t]
  have hy : y = ix2 (⟨(y 0).val, hy0⟩ : Fin 512) (⟨(y 1).val, hy1⟩ : Fin 512) := by funext a; fin_cases a <;> rfl
  unfold sampleRows
  rw [show ((win0_14.blk t).view.emb y) 1 = (⟨(y 1).val, hy1⟩ : Fin 512) from Fin.ext e1,
    ← cacheKAt_apply m c first ⟨(y 0).val, hy0⟩ _ (by dsimp only [first]; rw [e0]) ⟨(y 1).val, hy1⟩]
  exact congrArg _ hy

theorem arr_15 : (dats m 0 c).arrAt 15 cfg0.N = sampleRows (val (rows m c) (m (c.tc.loc main_arg3))) := by
  refine (dats m 0 c).arrAt_eq_of_covers 15 _ (by decide +kernel) fun t hf y => ?_
  blk_simp
  rw [after_15]
  have htN := lt_N t
  have hy0 : (y 0).val < 512 := (y 0).isLt
  have hy1 : (y 1).val < 512 := (y 1).isLt
  have e0 : (((win0_15.blk t).view.emb y) 0).val = (y 0).val := by blk_simp [index_15 t]
  have e1 : (((win0_15.blk t).view.emb y) 1).val = (y 1).val := by blk_simp [index_15 t]
  have hy : y = ix2 (⟨(y 0).val, hy0⟩ : Fin 512) (⟨(y 1).val, hy1⟩ : Fin 512) := by funext a; fin_cases a <;> rfl
  unfold sampleRows
  rw [show ((win0_15.blk t).view.emb y) 1 = (⟨(y 1).val, hy1⟩ : Fin 512) from Fin.ext e1,
    ← cacheVAt_apply m c first ⟨(y 0).val, hy0⟩ _ (by dsimp only [first]; rw [e0]) ⟨(y 1).val, hy1⟩]
  exact congrArg _ hy

theorem arr_16 : (dats m 0 c).arrAt 16 cfg0.N = sampleRows (gate (rows m c) (m (c.tc.loc main_arg5)) (m (c.tc.loc main_arg6))) := by
  refine (dats m 0 c).arrAt_eq_of_covers 16 _ (by decide +kernel) fun t hf y => ?_
  blk_simp
  rw [after_16]
  have htN := lt_N t
  have hy0 : (y 0).val < 512 := (y 0).isLt
  have hy1 : (y 1).val < 8 := (y 1).isLt
  have e0 : (((win0_16.blk t).view.emb y) 0).val = (y 0).val := by blk_simp [index_16 t]
  have e1 : (((win0_16.blk t).view.emb y) 1).val = (y 1).val := by blk_simp [index_16 t]
  have hy : y = ix2 (⟨(y 0).val, hy0⟩ : Fin 512) (⟨(y 1).val, hy1⟩ : Fin 8) := by funext a; fin_cases a <;> rfl
  unfold sampleRows
  rw [show ((win0_16.blk t).view.emb y) 1 = (⟨(y 1).val, hy1⟩ : Fin 8) from Fin.ext e1,
    ← cacheFAt_apply m c first ⟨(y 0).val, hy0⟩ _ (by dsimp only [first]; rw [e0]) ⟨(y 1).val, hy1⟩]
  exact congrArg _ hy

/-- The scan's inputs, as an array. -/
def wholeU : Mat 2560 4096 := fun i => scanIn (rows m c) (m (c.tc.loc main_arg4)) (i 0) (i 1)

theorem arr_10 (r : Fin 2560) (j : Fin 4096) (hrj : r.val < 2048 ∨ j.val < 512) :
    (dats m 0 c).arrAt 10 cfg0.N (ix2 r j) = scanIn (rows m c) (m (c.tc.loc main_arg4)) r j := by
  have h := (dats m 0 c).arrAt_apply_of_coversWhere 10 (wholeU m c) (P := fun i => (i 0).val < 2048 ∨ (i 1).val < 512) (fun β => β (0 : Fin 2) < 4 ∨ β (1 : Fin 2) < 1) (by decide +kernel)
    (fun t hf y => ?_) (fun j => by blk_simp [Pipeline.Window.cell_apply]; omega) (ix2 r j)
  · rw [h, if_pos (show ((ix2 r j) 0).val < 2048 ∨ ((ix2 r j) 1).val < 512 from hrj)]
    rfl
  · blk_simp
    rw [after_10]
    have htN := lt_N t
    have hy0 : (y 0).val < 512 := (y 0).isLt
    have hy1 : (y 1).val < 512 := (y 1).isLt
    have e0 : (((win0_10.blk t).view.emb y) 0).val = (if t.val = 0 then 4 else (t.val - 1) % 4) * 512 + (y 0).val := by
      blk_simp [index_10 t]
    have e1 : (((win0_10.blk t).view.emb y) 1).val = (t.val - 1) / 4 * 512 + (y 1).val := by
      blk_simp [index_10 t]
    have hy : y = ix2 (⟨(y 0).val, hy0⟩ : Fin 512) (⟨(y 1).val, hy1⟩ : Fin 512) := by funext a; fin_cases a <;> rfl
    have f0 : (((View.whole main_v0_3).slice (win0_10.rect t)).emb y 0).val = (if t.val = 0 then 4 else (t.val - 1) % 4) * 512 + (y 0).val := e0
    have f1 : (((View.whole main_v0_3).slice (win0_10.rect t)).emb y 1).val = (t.val - 1) / 4 * 512 + (y 1).val := e1
    unfold wholeU scanIn
    by_cases h0 : t.val = 0
    · rw [if_pos h0] at e0 f0
      rw [dif_neg (by omega), dif_pos (by omega)]
      refine (congrArg _ hy).trans ((outUAt_apply m c t ⟨(y 0).val, hy0⟩ _ ?_ ⟨(y 1).val, hy1⟩).trans (congrArg _ (Fin.ext ?_)))
      · dsimp only
        omega
      · dsimp only
        omega
    · rw [if_neg h0] at e0 f0
      rw [dif_pos (by omega)]
      refine (congrArg _ hy).trans ((outUAt_apply m c t ⟨(y 0).val, hy0⟩ _ ?_ ⟨(y 1).val, hy1⟩).trans (congrArg _ (Fin.ext ?_)))
      · dsimp only
        omega
      · dsimp only
        omega

end Cert.Kernel2Ideal.Proj
-- ==== Proof.ProjRef.lean ====
module

public import proofs.«01_k».proof.Proof.Gen.Reference2Ideal.Run
public import proofs.«01_k».proof.Proof.ProjSpec
public import Idealize.ShloMosaic.Lib.Pipeline.ValueKit.Point

@[expose] public section

/-!
# What the reference's projections compute
-/

set_option maxRecDepth 16384

noncomputable section

namespace Cert.Reference2Ideal.Proj

open Cert.Reference2Ideal Cert.Reference2Ideal.Gen Idealize.ShloMosaic Idealize.ShloMosaic.TcCoe Idealize.SL.Sem Cert.MixSpec Cert.ProjSpec

variable (m : (ℓ : Loc nD τ sig) → Buf (Elt Ideal) ℓ) (c : Dev nD)

/-- The normalised rows of the reference's arguments. -/
def rows : Fin 16896 → Fin 1024 → EReal := rowN (m (c.tc.loc main_arg0)) (m (c.tc.loc main_arg1)) (m (c.tc.loc main_arg2))

/-- The prompt's tokens and the sample's after them. -/
def tokens : FVec Ideal S16896x1024 .f32 :=
  concatenate (α := Ideal FTy.f32) S16896x1024 0 [⟨S16384x1024, (m (c.tc.loc main_arg0) : FVec Ideal S16384x1024 .f32)⟩,
    ⟨S512x1024, (m (c.tc.loc main_arg1) : FVec Ideal S512x1024 .f32)⟩] concatenates_S16384x1024_S512x1024_S16896x1024_d0

/-- The reference's normalised tokens. -/
def normed : FVec Ideal S16896x1024 .f32 :=
  mulf (mulf (tokens m c) (broadcastInDim S16896x1024 ![0, 1] bcast_S16896x1_S16896x1024_0_1 (Host.rsqrt (addf
    (Host.divf (broadcastInDim S16896x1 ![0] bcast_S16896_S16896x1_0 (Host.reduceAdd (mulf (tokens m c) (tokens m c)) (constant S_ .f32 0x00000000#32) reducesTo_S16896x1024_S16896_d1 h_S_))
      (broadcastInDim S16896x1 ![] bcast_S_S16896x1 (constant S_ .f32 0x44800000#32)))
    (broadcastInDim S16896x1 ![] bcast_S_S16896x1 (constant S_ .f32 0x358637BD#32))))))
    (broadcastInDim S16896x1024 ![0, 1] bcast_S1x1024_S16896x1024_0_1 (m (c.tc.loc main_arg2)))

theorem normed_apply (T : Fin 16896) (j : Fin 1024) : normed m c (ix2 T j) = rows m c T j := by
  unfold normed tokens rows rowN rms
  pointwise

/-- The reference's queries, keys and values side by side. -/
def attnIn : FVec Ideal S16896x1536 .f32 :=
  Host.dotGeneral dot_S16896x1024_S1024x1536_S16896x1536_1_0_0_1_n_n none (normed m c) (extf .f32 (m (c.tc.loc main_arg3) : FVec Ideal S1024x1536 .bf16) bitsLt_bf16_f32)

theorem attnIn_apply (T : Fin 16896) (j : Fin 1536) : attnIn m c (ix2 T j) = lin (rows m c T) (m (c.tc.loc main_arg3)) j := by
  unfold attnIn lin
  simp only [← normed_apply]
  pointwise

/-- The reference's inputs of the scan, token by token. -/
def scanned : FVec Ideal S16896x512 .f32 :=
  Host.dotGeneral dot_S16896x1024_S1024x512_S16896x512_1_0_0_1_n_n none (normed m c) (extf .f32 (m (c.tc.loc main_arg4) : FVec Ideal S1024x512 .bf16) bitsLt_bf16_f32)

theorem scanned_apply (T : Fin 16896) (j : Fin 512) : scanned m c (ix2 T j) = lin (rows m c T) (m (c.tc.loc main_arg4)) j := by
  unfold scanned lin
  simp only [← normed_apply]
  pointwise

/-- What the reference's forget gates are taken of. -/
def forget : FVec Ideal S16896x8 .f32 :=
  addf (extractStridedSlice S16896x8 ![0, 0] (Host.dotGeneral dot_S16896x1024_S1024x128_S16896x128_1_0_0_1_n_n none (normed m c)
    (extf .f32 (m (c.tc.loc main_arg5) : FVec Ideal S1024x128 .bf16) bitsLt_bf16_f32)) slices_S16896x128_S16896x8_0_0)
    (broadcastInDim S16896x8 ![0, 1] bcast_S1x8_S16896x8_0_1 (m (c.tc.loc main_arg6)))

theorem forget_apply (T : Fin 16896) (j : Fin 8) :
    forget m c (ix2 T j) = lin (rows m c T) (m (c.tc.loc main_arg5)) ⟨j.val, by omega⟩ + (m (c.tc.loc main_arg6) : Mat 1 8) (ix2 0 j) := by
  unfold forget lin
  simp only [← normed_apply]
  pointwise

/-- The reference's logarithm of the logistic function, over an array. -/
def soft (x : FVec Ideal S16896x8 .f32) : FVec Ideal S16896x8 .f32 :=
  let z : FVec Ideal S16896x8 .f32 := broadcastInDim S16896x8 ![] bcast_S_S16896x8 (constant S_ .f32 0x00000000#32)
  let d := subf (Host.negf x) z
  Host.negf (select (cmpf .une d d) (addf (Host.negf x) z) (addf (maximumf (Host.negf x) z) (Host.log1p (Host.exp (Host.negf (Host.absf d))))))

theorem soft_apply (x : FVec Ideal S16896x8 .f32) (T : Fin 16896) (j : Fin 8) : soft x (ix2 T j) = logSig (x (ix2 T j)) := by
  rw [← neg_soft]
  unfold soft
  pointwise
  rw [if_neg (fun h => h rfl)]
  rfl

theorem gates_apply (T : Fin 16896) (j : Fin 8) :
    soft (forget m c) (ix2 T j) = gate (rows m c) (m (c.tc.loc main_arg5)) (m (c.tc.loc main_arg6)) T j :=
  (soft_apply _ T j).trans (congrArg logSig (forget_apply m c T j))

/-- The scan's inputs as the reference lays them out. -/
def laid : FVec Ideal S2560x4096 .f32 :=
  concatenate (α := Ideal FTy.f32) S2560x4096 0 [⟨S2048x4096, (shapeCast S2048x4096 (transpose S2048x8x512 [1, 0, 2] (shapeCast S8x2048x512 (extractStridedSlice S16384x512 ![0, 0] (scanned m c) slices_S16896x512_S16384x512_0_0) shapeCasts_S16384x512_S8x2048x512) transposes_S8x2048x512_S2048x8x512_1_0_2) shapeCasts_S2048x8x512_S2048x4096)⟩, ⟨S512x4096, (pad S512x4096 ![0, 0] ![0, 3584] ![0, 0] (extractStridedSlice S512x512 ![16384, 0] (scanned m c) slices_S16896x512_S512x512_16384_0) (sitofp .f32 (constantI S_ 32 0#32) : FVec Ideal S_ .f32) pads_S512x512_S512x4096_000_035840 h_S_)⟩] concatenates_S2048x4096_S512x4096_S2560x4096_d0

theorem laid_apply (r : Fin 2560) (j : Fin 4096) (hrj : r.val < 2048 ∨ j.val < 512) : laid m c (ix2 r j) = scanIn (rows m c) (m (c.tc.loc main_arg4)) r j := by
  unfold laid scanIn
  simp only [← scanned_apply]
  pointwise
  by_cases h : r.val < 2048
  · rw [dif_pos h, dif_pos h]
  · have hj : j.val < 512 := hrj.resolve_left h
    rw [dif_neg h, dif_neg h, dif_pos ⟨by omega, hj⟩, dif_pos hj]

theorem query_all : truncf .bf16 (mulf (extractStridedSlice S16896x512 ![0, 0] (attnIn m c) slices_S16896x1536_S16896x512_0_0)
    (broadcastInDim S16896x512 ![] bcast_S_S16896x512 (constant S_ .f32 0x3E000000#32))) bitsLt_bf16_f32 = allRows (query (rows m c) (m (c.tc.loc main_arg3))) := by
  refine mat_ext fun T j => ?_
  show _ = query (rows m c) (m (c.tc.loc main_arg3)) T j
  unfold query
  rw [← attnIn_apply]
  pointwise

theorem key_all : truncf .bf16 (extractStridedSlice S16896x512 ![0, 512] (attnIn m c) slices_S16896x1536_S16896x512_0_512) bitsLt_bf16_f32 = allRows (key (rows m c) (m (c.tc.loc main_arg3))) := by
  refine mat_ext fun T j => ?_
  show _ = key (rows m c) (m (c.tc.loc main_arg3)) T j
  unfold key
  rw [← attnIn_apply]
  pointwise

theorem key_prompt : extractStridedSlice S16384x512 ![0, 0] (extractStridedSlice S16896x512 ![0, 512] (attnIn m c) slices_S16896x1536_S16896x512_0_512) slices_S16896x512_S16384x512_0_0 = promptRows (key (rows m c) (m (c.tc.loc main_arg3))) := by
  refine mat_ext fun T j => ?_
  show _ = key (rows m c) (m (c.tc.loc main_arg3)) ⟨T.val, by omega⟩ j
  unfold key
  rw [← attnIn_apply]
  pointwise

theorem key_sample : extractStridedSlice S512x512 ![16384, 0] (extractStridedSlice S16896x512 ![0, 512] (attnIn m c) slices_S16896x1536_S16896x512_0_512) slices_S16896x512_S512x512_16384_0 = sampleRows (key (rows m c) (m (c.tc.loc main_arg3))) := by
  refine mat_ext fun T j => ?_
  show _ = key (rows m c) (m (c.tc.loc main_arg3)) ⟨16384 + T.val, by omega⟩ j
  unfold key
  rw [← attnIn_apply]
  pointwise

theorem val_all : truncf .bf16 (extractStridedSlice S16896x512 ![0, 1024] (attnIn m c) slices_S16896x1536_S16896x512_0_1024) bitsLt_bf16_f32 = allRows (val (rows m c) (m (c.tc.loc main_arg3))) := by
  refine mat_ext fun T j => ?_
  show _ = val (rows m c) (m (c.tc.loc main_arg3)) T j
  unfold val
  rw [← attnIn_apply]
  pointwise

theorem val_prompt : extractStridedSlice S16384x512 ![0, 0] (extractStridedSlice S16896x512 ![0, 1024] (attnIn m c) slices_S16896x1536_S16896x512_0_1024) slices_S16896x512_S16384x512_0_0 = promptRows (val (rows m c) (m (c.tc.loc main_arg3))) := by
  refine mat_ext fun T j => ?_
  show _ = val (rows m c) (m (c.tc.loc main_arg3)) ⟨T.val, by omega⟩ j
  unfold val
  rw [← attnIn_apply]
  pointwise

theorem val_sample : extractStridedSlice S512x512 ![16384, 0] (extractStridedSlice S16896x512 ![0, 1024] (attnIn m c) slices_S16896x1536_S16896x512_0_1024) slices_S16896x512_S512x512_16384_0 = sampleRows (val (rows m c) (m (c.tc.loc main_arg3))) := by
  refine mat_ext fun T j => ?_
  show _ = val (rows m c) (m (c.tc.loc main_arg3)) ⟨16384 + T.val, by omega⟩ j
  unfold val
  rw [← attnIn_apply]
  pointwise

theorem gate_prompt : extractStridedSlice S16384x8 ![0, 0] (soft (forget m c)) slices_S16896x8_S16384x8_0_0 = promptRows (gate (rows m c) (m (c.tc.loc main_arg5)) (m (c.tc.loc main_arg6))) := by
  refine mat_ext fun T j => ?_
  show _ = gate (rows m c) (m (c.tc.loc main_arg5)) (m (c.tc.loc main_arg6)) ⟨T.val, by omega⟩ j
  rw [← gates_apply]
  pointwise

theorem gate_sample : extractStridedSlice S512x8 ![16384, 0] (soft (forget m c)) slices_S16896x8_S512x8_16384_0 = sampleRows (gate (rows m c) (m (c.tc.loc main_arg5)) (m (c.tc.loc main_arg6))) := by
  refine mat_ext fun T j => ?_
  show _ = gate (rows m c) (m (c.tc.loc main_arg5)) (m (c.tc.loc main_arg6)) ⟨16384 + T.val, by omega⟩ j
  rw [← gates_apply]
  pointwise

variable (ρ : Dev nD → PrngReg)

theorem run : θ_run defs (onTc (τ := τ) (main (F := Ideal))) ⟨m, fun _ => 0, ρ⟩ (fun r => ∀ c : Dev nD,
      r.2.mem ((c.tc : Thread nD τ).loc main_v35) = allRows (query (rows m c) (m (c.tc.loc main_arg3)))
      ∧ r.2.mem ((c.tc : Thread nD τ).loc main_v36) = allRows (key (rows m c) (m (c.tc.loc main_arg3)))
      ∧ r.2.mem ((c.tc : Thread nD τ).loc main_v37) = allRows (val (rows m c) (m (c.tc.loc main_arg3)))
      ∧ r.2.mem ((c.tc : Thread nD τ).loc main_v32) = laid m c
      ∧ r.2.mem ((c.tc : Thread nD τ).loc main_v38) = promptRows (key (rows m c) (m (c.tc.loc main_arg3)))
      ∧ r.2.mem ((c.tc : Thread nD τ).loc main_v39) = promptRows (val (rows m c) (m (c.tc.loc main_arg3)))
      ∧ r.2.mem ((c.tc : Thread nD τ).loc main_v40) = promptRows (gate (rows m c) (m (c.tc.loc main_arg5)) (m (c.tc.loc main_arg6)))
      ∧ r.2.mem ((c.tc : Thread nD τ).loc main_v41) = sampleRows (key (rows m c) (m (c.tc.loc main_arg3)))
      ∧ r.2.mem ((c.tc : Thread nD τ).loc main_v42) = sampleRows (val (rows m c) (m (c.tc.loc main_arg3)))
      ∧ r.2.mem ((c.tc : Thread nD τ).loc main_v43) = sampleRows (gate (rows m c) (m (c.tc.loc main_arg5)) (m (c.tc.loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (Value.run (F := Ideal) m ρ)
  obtain ⟨h35, h36, h37, h32, h38, h39, h40, h41, h42, h43, hargs⟩ := h c
  exact ⟨h35.trans (query_all m c), h36.trans (key_all m c), h37.trans (val_all m c), h32.trans rfl, h38.trans (key_prompt m c), h39.trans (val_prompt m c),
    h40.trans (gate_prompt m c), h41.trans (key_sample m c), h42.trans (val_sample m c), h43.trans (gate_sample m c), hargs⟩

end Cert.Reference2Ideal.Proj
-- ==== Proof.ProjClaim.lean ====
module

public import proofs.«01_k».proof.Defs
public import proofs.«01_k».proof.Proof.Gen.Kernel2.Frame
public import proofs.«01_k».proof.Proof.Gen.On_written2
public import proofs.«01_k».proof.Proof.ProjBlk
public import proofs.«01_k».proof.Proof.ProjRef
public import Idealize.ShloMosaic.Lib.Quiescent

@[expose] public section

/-!
# The projections' claims
-/

noncomputable section

open Idealize.ShloMosaic Idealize.ShloMosaic.TcCoe Idealize.SL.Sem Cert.MixSpec Cert.ProjSpec

namespace Cert.On_written2

/-- The mask of the scan's inputs holds where the kernel writes: the prompt's rows, and the sample's first columns. -/
theorem written_of_fn {F : FTy → Type} [FloatOps F] (xp : FVec F S16384x1024 .f32) (xs : FVec F S512x1024 .f32) (g : FVec F S1x1024 .f32)
    (w : FVec F S1024x1536 .bf16) (wu : FVec F S1024x512 .bf16) (wf : FVec F S1024x128 .bf16) (b : FVec F S1x8 .f32) (i : S2560x4096.Idx)
    (h : (fn xp xs g w wu wf b).2.2.2.1 i = 1#1) : (i 0).val < 2048 ∨ (i 1).val < 512 := by
  have k0 : ∀ r : Fin 2560, IntOp.cmpi .slt (BitVec.ofNat 32 r.val) 2048#32 = 1#1 → r.val < 2048 := by decide +kernel
  have k1 : ∀ j : Fin 4096, IntOp.cmpi .slt (BitVec.ofNat 32 j.val) 512#32 = 1#1 → j.val < 512 := by decide +kernel
  have h' : IntOp.ori (IntOp.cmpi .slt (BitVec.ofNat 32 (i 0).val) 2048#32) (IntOp.cmpi .slt (BitVec.ofNat 32 (i 1).val) 512#32) = 1#1 := h
  exact (IntOp.ori_eq_one.1 h').imp (k0 (i 0)) (k1 (i 1))

end Cert.On_written2

namespace Cert.Proof.Proj

set_option maxHeartbeats 4000000 in
/-- The two programs' tables of bodies are the same, at the bits. -/
theorem bodies_eq : Cert.Kernel2.defs₀ (F := Bits) = Cert.Kernel2Ideal.defs₀ (F := Bits) := by
  unfold Cert.Kernel2.defs₀ Cert.Kernel2Ideal.defs₀
  refine congrArg _ ?_
  funext l
  match l with
  | ⟨0, _⟩ => funext a; rfl

theorem defs_eq : Cert.Kernel2.defs (F := Bits) = Cert.Kernel2Ideal.defs (F := Bits) := congrArg _ bodies_eq

theorem frame_kernel : Cert.quiescent_Kernel2 := fun m ρ _ => by
  rw [defs_eq]
  exact Cert.Kernel2Ideal.Proj.frame (F := Bits) m ρ

theorem frame_ideal : Cert.quiescent_Kernel2Ideal := fun m ρ _ => Cert.Kernel2Ideal.Proj.frame m ρ

theorem frame_reference : Cert.quiescent_Reference2Ideal := fun m ρ _ =>
  (θ_run Cert.Reference2Ideal.defs _ _).mono (fun r h => ⟨fun c => (h c).2.2.2.2.2.2.2.2.2.2, sem_eq_zero_of_no_sems (by decide) r.2⟩)
    (Cert.Reference2Ideal.Value.run (F := Ideal) m ρ)

theorem preserves : Cert.preserves_Kernel2_Kernel2Ideal := trivial

section
open Cert.Kernel2Ideal.Proj

theorem algebraic : Cert.algebraic_Kernel2Ideal_Reference2Ideal_on_written2 := by
  intro m ρ m' ρ' _ hagree
  have hrows : ∀ c, Cert.Reference2Ideal.Proj.rows m' c = rows m c := by
    intro c
    obtain ⟨e0, e1, e2, _⟩ := hagree c
    unfold Cert.Reference2Ideal.Proj.rows rows
    rw [e0, e1, e2]
  refine ⟨fun c => allRows (query (rows m c) (m (c.tc.loc Cert.Kernel2Ideal.main_arg3))),
    fun c => allRows (key (rows m c) (m (c.tc.loc Cert.Kernel2Ideal.main_arg3))),
    fun c => allRows (val (rows m c) (m (c.tc.loc Cert.Kernel2Ideal.main_arg3))),
    fun c => wholeU m c,
    fun c => promptRows (key (rows m c) (m (c.tc.loc Cert.Kernel2Ideal.main_arg3))),
    fun c => promptRows (val (rows m c) (m (c.tc.loc Cert.Kernel2Ideal.main_arg3))),
    fun c => promptRows (gate (rows m c) (m (c.tc.loc Cert.Kernel2Ideal.main_arg5)) (m (c.tc.loc Cert.Kernel2Ideal.main_arg6))),
    fun c => sampleRows (key (rows m c) (m (c.tc.loc Cert.Kernel2Ideal.main_arg3))),
    fun c => sampleRows (val (rows m c) (m (c.tc.loc Cert.Kernel2Ideal.main_arg3))),
    fun c => sampleRows (gate (rows m c) (m (c.tc.loc Cert.Kernel2Ideal.main_arg5)) (m (c.tc.loc Cert.Kernel2Ideal.main_arg6))), ?_, ?_⟩
  · refine (θ_run Cert.Kernel2Ideal.defs _ _).mono (fun r h c => ?_) (θ_run_and (run (F := Ideal) m ρ) (frame (F := Ideal) m ρ))
    obtain ⟨h0, h1, h2, h3, h4, h5, h6, h7, h8, h9⟩ := h.1 c
    refine ⟨fun i _ => congrFun (h0.trans (arr_7 m c)) i, fun i _ => congrFun (h1.trans (arr_8 m c)) i, fun i _ => congrFun (h2.trans (arr_9 m c)) i,
      fun i hi => ?_, fun i _ => congrFun (h4.trans (arr_11 m c)) i, fun i _ => congrFun (h5.trans (arr_12 m c)) i,
      fun i _ => congrFun (h6.trans (arr_13 m c)) i, fun i _ => congrFun (h7.trans (arr_14 m c)) i, fun i _ => congrFun (h8.trans (arr_15 m c)) i,
      fun i _ => congrFun (h9.trans (arr_16 m c)) i, h.2.1 c⟩
    have hrj := Cert.On_written2.written_of_fn _ _ _ _ _ _ _ i hi
    refine (congrFun h3 i).trans ((congrArg _ (show i = ix2 (i 0) (i 1) by funext a; fin_cases a <;> rfl)).trans (arr_10 m c (i 0) (i 1) hrj))
  · refine (θ_run Cert.Reference2Ideal.defs _ _).mono (fun r h c => ?_) (Cert.Reference2Ideal.Proj.run m' ρ')
    obtain ⟨h0, h1, h2, h3, h4, h5, h6, h7, h8, h9, hargs⟩ := h c
    obtain ⟨_, _, _, e3, e4, e5, e6⟩ := hagree c
    rw [hrows c, e3] at h0 h1 h2 h4 h5 h7 h8
    rw [hrows c, e5, e6] at h6 h9
    refine ⟨fun i _ => congrFun h0 i, fun i _ => congrFun h1 i, fun i _ => congrFun h2 i,
      fun i hi => ?_, fun i _ => congrFun h4 i, fun i _ => congrFun h5 i, fun i _ => congrFun h6 i, fun i _ => congrFun h7 i, fun i _ => congrFun h8 i,
      fun i _ => congrFun h9 i, hargs⟩
    have hrj := Cert.On_written2.written_of_fn _ _ _ _ _ _ _ i hi
    refine (congrFun h3 i).trans ((congrArg _ (show i = ix2 (i 0) (i 1) by funext a; fin_cases a <;> rfl)).trans
      ((Cert.Reference2Ideal.Proj.laid_apply m' c (i 0) (i 1) hrj).trans ?_))
    rw [hrows c, e4]
    rfl

end

end Cert.Proof.Proj
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_finite
public import proofs.«01_k».proof.Proof.Gen.On_prompt_rows
public import proofs.«01_k».proof.Proof.Gen.On_written2
public import proofs.«01_k».proof.Proof.AttnClaim
public import proofs.«01_k».proof.Proof.MixClaim
public import proofs.«01_k».proof.Proof.PleClaim
public import proofs.«01_k».proof.Proof.StepClaim
public import proofs.«01_k».proof.Proof.ProjClaim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite.Gen.facts, Cert.On_prompt_rows.Gen.facts, Cert.On_written2.Gen.facts,
    Attn.frame_kernel, Attn.frame_ideal, Attn.frame_ideal_pre, Attn.frame_reference, Attn.frame_reference_pre,
    Proj.frame_kernel, Proj.frame_ideal, Proj.frame_reference,
    Mix.frame_kernel, Mix.frame_ideal, Mix.frame_reference,
    Ple.frame_kernel, Ple.frame_ideal, Ple.frame_reference,
    Step.frame_kernel, Step.frame_ideal, Step.frame_reference,
    Attn.preserves, Attn.algebraic, Proj.preserves, Proj.algebraic, Mix.preserves, Mix.algebraic, Ple.preserves, Ple.algebraic,
    Step.preserves, Step.algebraic⟩

end Cert.Proof

end
